-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_0) = v0 c
          ∧ r.2.mem ((c.tc : Thread Cert.ReferenceIdeal.nD Cert.ReferenceIdeal.τ).loc Cert.ReferenceIdeal.main_v23_1) = v1 c
          ∧ r.2.mem ((c.tc : Thread Cert.ReferenceIdeal.nD Cert.ReferenceIdeal.τ).loc Cert.ReferenceIdeal.main_v23_2) = v2 c
          ∧ r.2.mem ((c.tc : Thread Cert.ReferenceIdeal.nD Cert.ReferenceIdeal.τ).loc Cert.ReferenceIdeal.main_v23_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S11264x2048 : Shape := ⟨2, ![11264, 2048]⟩
abbrev S11264x16 : Shape := ⟨2, ![11264, 16]⟩
abbrev S2048x90112 : Shape := ⟨2, ![2048, 90112]⟩
abbrev S16x704 : Shape := ⟨2, ![16, 704]⟩
abbrev S90112x2048 : Shape := ⟨2, ![90112, 2048]⟩
abbrev S704x16 : Shape := ⟨2, ![704, 16]⟩
abbrev S88x11 : Shape := ⟨2, ![88, 11]⟩
abbrev S11264 : Shape := ⟨1, ![11264]⟩
abbrev S88x1 : Shape := ⟨2, ![88, 1]⟩
abbrev S_ : Shape := ⟨0, ![]⟩

class Facts : Prop where
  slices_S88x11_S88x1_0_0 : S88x11.Slices ![0, 0] S88x1
  bcast_S_S88x1 : S_.BroadcastsInDim S88x1 (![] : Fin 0 → Fin S88x1.rank)
  reducesTo_S88x1_S_d0_1 : S88x1.ReducesTo [0, 1] S_
  h_S_ : 0 < S_.numel
  bcast_S88x1_S88x11_0_1 : S88x1.BroadcastsInDim S88x11 (![0, 1] : Fin 2 → Fin S88x11.rank)
  reducesTo_S88x11_S_d0_1 : S88x11.ReducesTo [0, 1] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S88x1 32) (arg1 : IVec S_ 32) : IVec S88x1 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S88x1 32 := broadcastInDim S88x1 ![] bcast_S_S88x1 v2
  let v4 : IVec S88x1 32 := Host.remsi arg0 v3
  let c_1 : IVec S_ 32 := constantI S_ 32 0#32
  let v5 : IVec S88x1 32 := broadcastInDim S88x1 ![] bcast_S_S88x1 c_1
  let v6 : IVec S88x1 1 := cmpi .ne v4 v5
  let c_2 : IVec S_ 32 := constantI S_ 32 0#32
  let v7 : IVec S88x1 32 := broadcastInDim S88x1 ![] bcast_S_S88x1 c_2
  let v8 : IVec S88x1 1 := cmpi .slt v4 v7
  let c_3 : IVec S_ 32 := constantI S_ 32 0#32
  let v9 : IVec S_ 1 := cmpi .slt v2 c_3
  let v10 : IVec S88x1 1 := broadcastInDim S88x1 ![] bcast_S_S88x1 v9
  let v11 : IVec S88x1 1 := cmpi .ne v8 v10
  let v12 : IVec S88x1 1 := andi v11 v6
  let v13 : IVec S88x1 32 := broadcastInDim S88x1 ![] bcast_S_S88x1 v2
  let v14 : IVec S88x1 32 := addi v4 v13
  let v15 : IVec S88x1 32 := select v12 v14 v4
  v15

def fn_part1 {F : FTy → Type} [FloatOps F] (main_v12 : IVec S_ 1) (main_v16 : IVec S88x11 1) : IVec S_ 1 :=
  let main_c_6 : IVec S_ 1 := constantI S_ 1 1#1
  let main_v17 : IVec S_ 1 := (fun x v => Host.reduce IntOp.andi x v reducesTo_S88x11_S_d0_1 h_S_) main_v16 main_c_6
  let main_v18 : IVec S_ 1 := andi main_v12 main_v17
  main_v18

def fn {F : FTy → Type} [FloatOps F] (main_arg0 : FVec F S11264x2048 .fp8e4m3) (main_arg1 : FVec F S11264x16 .f32) (main_arg2 : FVec F S2048x90112 .fp8e4m3) (main_arg3 : FVec F S16x704 .f32) (main_arg4 : FVec F S90112x2048 .fp8e4m3) (main_arg5 : FVec F S704x16 .f32) (main_arg6 : IVec S88x11 32) (main_arg7 : FVec F S11264 .f32) : IVec S_ 1 :=
  let main_v0 : IVec S88x1 32 := (extractStridedSlice S88x1 ![0, 0] · slices_S88x11_S88x1_0_0) main_arg6
  let main_c : IVec S_ 32 := constantI S_ 32 0#32
  let main_v1 : IVec S88x1 32 := broadcastInDim S88x1 ![] bcast_S_S88x1 main_c
  let main_v2 : IVec S88x1 1 := cmpi .sge main_v0 main_v1
  let main_c_0 : IVec S_ 1 := constantI S_ 1 1#1
  let main_v3 : IVec S_ 1 := (fun x v => Host.reduce IntOp.andi x v reducesTo_S88x1_S_d0_1 h_S_) main_v2 main_c_0
  let main_c_1 : IVec S_ 32 := constantI S_ 32 704#32
  let main_v4 : IVec S88x1 32 := broadcastInDim S88x1 ![] bcast_S_S88x1 main_c_1
  let main_v5 : IVec S88x1 1 := cmpi .slt main_v0 main_v4
  let main_c_2 : IVec S_ 1 := constantI S_ 1 1#1
  let main_v6 : IVec S_ 1 := (fun x v => Host.reduce IntOp.andi x v reducesTo_S88x1_S_d0_1 h_S_) main_v5 main_c_2
  let main_v7 : IVec S_ 1 := andi main_v3 main_v6
  let main_c_3 : IVec S_ 32 := constantI S_ 32 11#32
  let main_v8 : IVec S88x1 32 := fn_remainder (F := F) main_v0 main_c_3
  let main_c_4 : IVec S_ 32 := constantI S_ 32 0#32
  let main_v9 : IVec S88x1 32 := broadcastInDim S88x1 ![] bcast_S_S88x1 main_c_4
  let main_v10 : IVec S88x1 1 := cmpi .eq main_v8 main_v9
  let main_c_5 : IVec S_ 1 := constantI S_ 1 1#1
  let main_v11 : IVec S_ 1 := (fun x v => Host.reduce IntOp.andi x v reducesTo_S88x1_S_d0_1 h_S_) main_v10 main_c_5
  let main_v12 : IVec S_ 1 := andi main_v7 main_v11
  let main_v13 : IVec S88x11 32 := iotaInDim S88x11 32 1
  let main_v14 : IVec S88x11 32 := broadcastInDim S88x11 ![0, 1] bcast_S88x1_S88x11_0_1 main_v0
  let main_v15 : IVec S88x11 32 := addi main_v14 main_v13
  let main_v16 : IVec S88x11 1 := cmpi .eq main_arg6 main_v15
  fn_part1 (F := F) main_v12 main_v16
-- ==== Kernel.lean ====
abbrev S11264x2048 : Shape := ⟨2, ![11264, 2048]⟩
abbrev S11264x16 : Shape := ⟨2, ![11264, 16]⟩
abbrev S2048x90112 : Shape := ⟨2, ![2048, 90112]⟩
abbrev S16x704 : Shape := ⟨2, ![16, 704]⟩
abbrev S90112x2048 : Shape := ⟨2, ![90112, 2048]⟩
abbrev S704x16 : Shape := ⟨2, ![704, 16]⟩
abbrev S88x11 : Shape := ⟨2, ![88, 11]⟩
abbrev S11264 : Shape := ⟨1, ![11264]⟩
abbrev S16x64x11 : Shape := ⟨3, ![16, 64, 11]⟩
abbrev S64x16x11 : Shape := ⟨3, ![64, 16, 11]⟩
abbrev S64x1x176 : Shape := ⟨3, ![64, 1, 176]⟩
abbrev S11264x1 : Shape := ⟨2, ![11264, 1]⟩
abbrev S11264x1408 : Shape := ⟨2, ![11264, 1408]⟩
abbrev S11264x11 : Shape := ⟨2, ![11264, 11]⟩
abbrev S128x2048 : Shape := ⟨2, ![128, 2048]⟩
abbrev S128x16 : Shape := ⟨2, ![128, 16]⟩
abbrev S2048x1408 : Shape := ⟨2, ![2048, 1408]⟩
abbrev S1x1 : Shape := ⟨2, ![1, 1]⟩
abbrev S1x1x176 : Shape := ⟨3, ![1, 1, 176]⟩
abbrev S1408x2048 : Shape := ⟨2, ![1408, 2048]⟩
abbrev S128x1 : Shape := ⟨2, ![128, 1]⟩
abbrev S128x1408 : Shape := ⟨2, ![128, 1408]⟩
abbrev S128x11 : Shape := ⟨2, ![128, 11]⟩
abbrev S1x1x1 : Shape := ⟨3, ![1, 1, 1]⟩
abbrev S128x128 : Shape := ⟨2, ![128, 128]⟩
abbrev S128 : Shape := ⟨1, ![128]⟩

abbrev nBuf : Space → Nat
  | .hbm => 16
  | .vmem => 22
  | .smem => 5
  | _ => 0

abbrev bufTy : (tb : Table) → Fin (tcTables nBuf tb) → BufTy
  | .hbm, ⟨0, _⟩ => ⟨S11264x2048, .fp8e4m3⟩
  | .hbm, ⟨1, _⟩ => ⟨S11264x16, .f32⟩
  | .hbm, ⟨2, _⟩ => ⟨S2048x90112, .fp8e4m3⟩
  | .hbm, ⟨3, _⟩ => ⟨S16x704, .f32⟩
  | .hbm, ⟨4, _⟩ => ⟨S90112x2048, .fp8e4m3⟩
  | .hbm, ⟨5, _⟩ => ⟨S704x16, .f32⟩
  | .hbm, ⟨6, _⟩ => ⟨S11264, .f32⟩
  | .hbm, ⟨7, _⟩ => ⟨S16x64x11, .f32⟩
  | .hbm, ⟨8, _⟩ => ⟨S64x16x11, .f32⟩
  | .hbm, ⟨9, _⟩ => ⟨S64x1x176, .f32⟩
  | .hbm, ⟨10, _⟩ => ⟨S64x1x176, .f32⟩
  | .hbm, ⟨11, _⟩ => ⟨S11264x1, .f32⟩
  | .hbm, ⟨12, _⟩ => ⟨S11264x2048, .fp8e4m3⟩
  | .hbm, ⟨13, _⟩ => ⟨S11264x16, .f32⟩
  | .hbm, ⟨14, _⟩ => ⟨S11264x1408, .fp8e4m3⟩
  | .hbm, ⟨15, _⟩ => ⟨S11264x11, .f32⟩
  | .local _ .vmem, ⟨0, _⟩ => ⟨S128x2048, .fp8e4m3⟩
  | .local _ .vmem, ⟨1, _⟩ => ⟨S128x2048, .fp8e4m3⟩
  | .local _ .vmem, ⟨2, _⟩ => ⟨S128x16, .f32⟩
  | .local _ .vmem, ⟨3, _⟩ => ⟨S128x16, .f32⟩
  | .local _ .vmem, ⟨4, _⟩ => ⟨S2048x1408, .fp8e4m3⟩
  | .local _ .vmem, ⟨5, _⟩ => ⟨S2048x1408, .fp8e4m3⟩
  | .local _ .vmem, ⟨6, _⟩ => ⟨S1408x2048, .fp8e4m3⟩
  | .local _ .vmem, ⟨7, _⟩ => ⟨S1408x2048, .fp8e4m3⟩
  | .local _ .vmem, ⟨8, _⟩ => ⟨S128x1, .f32⟩
  | .local _ .vmem, ⟨9, _⟩ => ⟨S128x1, .f32⟩
  | .local _ .vmem, ⟨10, _⟩ => ⟨S128x2048, .fp8e4m3⟩
  | .local _ .vmem, ⟨11, _⟩ => ⟨S128x2048, .fp8e4m3⟩
  | .local _ .vmem, ⟨12, _⟩ => ⟨S128x16, .f32⟩
  | .local _ .vmem, ⟨13, _⟩ => ⟨S128x16, .f32⟩
  | .local _ .vmem, ⟨14, _⟩ => ⟨S128x1408, .fp8e4m3⟩
  | .local _ .vmem, ⟨15, _⟩ => ⟨S128x1408, .fp8e4m3⟩
  | .local _ .vmem, ⟨16, _⟩ => ⟨S128x11, .f32⟩
  | .local _ .vmem, ⟨17, _⟩ => ⟨S128x11, .f32⟩
  | .local _ .vmem, ⟨18, _⟩ => ⟨S128x2048, .bf16⟩
  | .local _ .vmem, ⟨19, _⟩ => ⟨S2048x1408, .bf16⟩
  | .local _ .vmem, ⟨20, _⟩ => ⟨S1408x2048, .bf16⟩
  | .local _ .vmem, ⟨21, _⟩ => ⟨S128x1408, .bf16⟩
  | .local _ .smem, ⟨0, _⟩ => ⟨S88x11, .i32⟩
  | .local _ .smem, ⟨1, _⟩ => ⟨S1x1x176, .f32⟩
  | .local _ .smem, ⟨2, _⟩ => ⟨S1x1x176, .f32⟩
  | .local _ .smem, ⟨3, _⟩ => ⟨S1x1x176, .f32⟩
  | .local _ .smem, ⟨4, _⟩ => ⟨S1x1x176, .f32⟩
  | _, _ => ⟨S11264x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg3_0 : Ref sig .tc := ⟨.smem, 1, rfl⟩
abbrev cc0_stg3_1 : Ref sig .tc := ⟨.smem, 2, rfl⟩
abbrev cc0_stg5_0 : Ref sig .tc := ⟨.smem, 3, rfl⟩
abbrev cc0_stg5_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![88], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let c0 : Index := 0#32
  ![v2.toNat, 0]
@[reducible] def k0_t1_loop : Scf.Loop 32 :=
  let c0_i32_457 : BitVec 32 := 0#32
  let c16_i32 : BitVec 32 := 16#32
  let v1095 : BitVec 32 := Scalar.addi c0_i32_457 c16_i32
  let c1_i32_458 : BitVec 32 := 1#32
  ⟨c0_i32_457, v1095, c1_i32_458⟩
def k0_off3 (k0_t1 : Fin k0_t1_loop.trips) (c0_i32_464 : BitVec 32) : Fin 3 → Nat :=
  let c0_465 : Index := 0#32
  let c0_466 : Index := 0#32
  let c0_i32_457 : BitVec 32 := 0#32
  let c1_i32_458 : BitVec 32 := 1#32
  let arg17 : BitVec 32 := Scf.iv c0_i32_457 c1_i32_458 k0_t1
  let c11_i32_463 : BitVec 32 := 11#32
  let v1097 : BitVec 32 := Scalar.muli arg17 c11_i32_463
  let v1098 : BitVec 32 := Scalar.addi v1097 c0_i32_464
  let v1099 : Index := Scalar.indexCast v1098
  ![0, 0, v1099.toNat]
def k0_mult1 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32 : BitVec 32 := 128#32
  let v1102 : BitVec 32 := Scalar.muli arg17 c128_i32
  v1102
def k0_off4 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32 : BitVec 32 := 128#32
  let v1102 : BitVec 32 := Scalar.muli arg17 c128_i32
  let v1103 : BitVec 32 := v1102
  let v1104 : Index := Scalar.indexCast v1103
  let c0_467 : Index := 0#32
  ![v1104.toNat, 0]
def k0_mult2 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_473 : BitVec 32 := 128#32
  let v1118 : BitVec 32 := Scalar.muli arg17 c128_i32_473
  v1118
def k0_off5 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_473 : BitVec 32 := 128#32
  let v1118 : BitVec 32 := Scalar.muli arg17 c128_i32_473
  let v1119 : BitVec 32 := v1118
  let v1120 : Index := Scalar.indexCast v1119
  let c128_474 : Index := 128#32
  ![v1120.toNat, 128]
def k0_mult3 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_479 : BitVec 32 := 128#32
  let v1134 : BitVec 32 := Scalar.muli arg17 c128_i32_479
  v1134
def k0_off6 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_479 : BitVec 32 := 128#32
  let v1134 : BitVec 32 := Scalar.muli arg17 c128_i32_479
  let v1135 : BitVec 32 := v1134
  let v1136 : Index := Scalar.indexCast v1135
  let c256_480 : Index := 256#32
  ![v1136.toNat, 256]
def k0_mult4 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_485 : BitVec 32 := 128#32
  let v1150 : BitVec 32 := Scalar.muli arg17 c128_i32_485
  v1150
def k0_off7 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_485 : BitVec 32 := 128#32
  let v1150 : BitVec 32 := Scalar.muli arg17 c128_i32_485
  let v1151 : BitVec 32 := v1150
  let v1152 : Index := Scalar.indexCast v1151
  let c384_486 : Index := 384#32
  ![v1152.toNat, 384]
def k0_mult5 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_491 : BitVec 32 := 128#32
  let v1166 : BitVec 32 := Scalar.muli arg17 c128_i32_491
  v1166
def k0_off8 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_491 : BitVec 32 := 128#32
  let v1166 : BitVec 32 := Scalar.muli arg17 c128_i32_491
  let v1167 : BitVec 32 := v1166
  let v1168 : Index := Scalar.indexCast v1167
  let c512_492 : Index := 512#32
  ![v1168.toNat, 512]
def k0_mult6 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_497 : BitVec 32 := 128#32
  let v1182 : BitVec 32 := Scalar.muli arg17 c128_i32_497
  v1182
def k0_off9 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_497 : BitVec 32 := 128#32
  let v1182 : BitVec 32 := Scalar.muli arg17 c128_i32_497
  let v1183 : BitVec 32 := v1182
  let v1184 : Index := Scalar.indexCast v1183
  let c640_498 : Index := 640#32
  ![v1184.toNat, 640]
def k0_mult7 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_503 : BitVec 32 := 128#32
  let v1198 : BitVec 32 := Scalar.muli arg17 c128_i32_503
  v1198
def k0_off10 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_503 : BitVec 32 := 128#32
  let v1198 : BitVec 32 := Scalar.muli arg17 c128_i32_503
  let v1199 : BitVec 32 := v1198
  let v1200 : Index := Scalar.indexCast v1199
  let c768_504 : Index := 768#32
  ![v1200.toNat, 768]
def k0_mult8 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_509 : BitVec 32 := 128#32
  let v1214 : BitVec 32 := Scalar.muli arg17 c128_i32_509
  v1214
def k0_off11 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_509 : BitVec 32 := 128#32
  let v1214 : BitVec 32 := Scalar.muli arg17 c128_i32_509
  let v1215 : BitVec 32 := v1214
  let v1216 : Index := Scalar.indexCast v1215
  let c896_510 : Index := 896#32
  ![v1216.toNat, 896]
def k0_mult9 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_515 : BitVec 32 := 128#32
  let v1230 : BitVec 32 := Scalar.muli arg17 c128_i32_515
  v1230
def k0_off12 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_515 : BitVec 32 := 128#32
  let v1230 : BitVec 32 := Scalar.muli arg17 c128_i32_515
  let v1231 : BitVec 32 := v1230
  let v1232 : Index := Scalar.indexCast v1231
  let c1024_516 : Index := 1024#32
  ![v1232.toNat, 1024]
def k0_mult10 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_521 : BitVec 32 := 128#32
  let v1246 : BitVec 32 := Scalar.muli arg17 c128_i32_521
  v1246
def k0_off13 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_521 : BitVec 32 := 128#32
  let v1246 : BitVec 32 := Scalar.muli arg17 c128_i32_521
  let v1247 : BitVec 32 := v1246
  let v1248 : Index := Scalar.indexCast v1247
  let c1152_522 : Index := 1152#32
  ![v1248.toNat, 1152]
def k0_mult11 (k0_t1 : Fin k0_t1_loop.trips) : BitVec 32 :=
  let c0_i32_457 : BitVec 32 := 0#32
  let c1_i32_458 : BitVec 32 := 1#32
  let arg17 : BitVec 32 := Scf.iv c0_i32_457 c1_i32_458 k0_t1
  let c128_i32_527 : BitVec 32 := 128#32
  let v1262 : BitVec 32 := Scalar.muli arg17 c128_i32_527
  v1262
def k0_off14 (k0_t1 : Fin k0_t1_loop.trips) : Fin 2 → Nat :=
  let c0_i32_457 : BitVec 32 := 0#32
  let c1_i32_458 : BitVec 32 := 1#32
  let arg17 : BitVec 32 := Scf.iv c0_i32_457 c1_i32_458 k0_t1
  let c128_i32_527 : BitVec 32 := 128#32
  let v1262 : BitVec 32 := Scalar.muli arg17 c128_i32_527
  let v1263 : BitVec 32 := v1262
  let v1264 : Index := Scalar.indexCast v1263
  let c1280_528 : Index := 1280#32
  ![v1264.toNat, 1280]
@[reducible] def k0_t2_loop : Scf.Loop 32 :=
  let c0_i32_460 : BitVec 32 := 0#32
  let c11_i32 : BitVec 32 := 11#32
  let v1096 : BitVec 32 := Scalar.addi c0_i32_460 c11_i32
  let c1_i32_461 : BitVec 32 := 1#32
  ⟨c0_i32_460, v1096, c1_i32_461⟩
def k0_off15 (k0_t2 : Fin k0_t2_loop.trips) (c0_i32_464 : BitVec 32) : Fin 3 → Nat :=
  let c0_465 : Index := 0#32
  let c0_466 : Index := 0#32
  let c0_i32_460 : BitVec 32 := 0#32
  let c1_i32_461 : BitVec 32 := 1#32
  let arg17 : BitVec 32 := Scf.iv c0_i32_460 c1_i32_461 k0_t2
  let c16_i32_463 : BitVec 32 := 16#32
  let v1097 : BitVec 32 := Scalar.muli arg17 c16_i32_463
  let v1098 : BitVec 32 := Scalar.addi v1097 c0_i32_464
  let v1099 : Index := Scalar.indexCast v1098
  ![0, 0, v1099.toNat]
def k0_mult12 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32 : BitVec 32 := 128#32
  let v1102 : BitVec 32 := Scalar.muli arg17 c128_i32
  v1102
def k0_off16 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32 : BitVec 32 := 128#32
  let v1102 : BitVec 32 := Scalar.muli arg17 c128_i32
  let v1103 : BitVec 32 := v1102
  let v1104 : Index := Scalar.indexCast v1103
  let c0_467 : Index := 0#32
  ![v1104.toNat, 0]
def k0_mult13 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_473 : BitVec 32 := 128#32
  let v1118 : BitVec 32 := Scalar.muli arg17 c128_i32_473
  v1118
def k0_off17 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_473 : BitVec 32 := 128#32
  let v1118 : BitVec 32 := Scalar.muli arg17 c128_i32_473
  let v1119 : BitVec 32 := v1118
  let v1120 : Index := Scalar.indexCast v1119
  let c128_474 : Index := 128#32
  ![v1120.toNat, 128]
def k0_mult14 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_479 : BitVec 32 := 128#32
  let v1134 : BitVec 32 := Scalar.muli arg17 c128_i32_479
  v1134
def k0_off18 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_479 : BitVec 32 := 128#32
  let v1134 : BitVec 32 := Scalar.muli arg17 c128_i32_479
  let v1135 : BitVec 32 := v1134
  let v1136 : Index := Scalar.indexCast v1135
  let c256_480 : Index := 256#32
  ![v1136.toNat, 256]
def k0_mult15 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_485 : BitVec 32 := 128#32
  let v1150 : BitVec 32 := Scalar.muli arg17 c128_i32_485
  v1150
def k0_off19 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_485 : BitVec 32 := 128#32
  let v1150 : BitVec 32 := Scalar.muli arg17 c128_i32_485
  let v1151 : BitVec 32 := v1150
  let v1152 : Index := Scalar.indexCast v1151
  let c384_486 : Index := 384#32
  ![v1152.toNat, 384]
def k0_mult16 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_491 : BitVec 32 := 128#32
  let v1166 : BitVec 32 := Scalar.muli arg17 c128_i32_491
  v1166
def k0_off20 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_491 : BitVec 32 := 128#32
  let v1166 : BitVec 32 := Scalar.muli arg17 c128_i32_491
  let v1167 : BitVec 32 := v1166
  let v1168 : Index := Scalar.indexCast v1167
  let c512_492 : Index := 512#32
  ![v1168.toNat, 512]
def k0_mult17 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_497 : BitVec 32 := 128#32
  let v1182 : BitVec 32 := Scalar.muli arg17 c128_i32_497
  v1182
def k0_off21 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_497 : BitVec 32 := 128#32
  let v1182 : BitVec 32 := Scalar.muli arg17 c128_i32_497
  let v1183 : BitVec 32 := v1182
  let v1184 : Index := Scalar.indexCast v1183
  let c640_498 : Index := 640#32
  ![v1184.toNat, 640]
def k0_mult18 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_503 : BitVec 32 := 128#32
  let v1198 : BitVec 32 := Scalar.muli arg17 c128_i32_503
  v1198
def k0_off22 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_503 : BitVec 32 := 128#32
  let v1198 : BitVec 32 := Scalar.muli arg17 c128_i32_503
  let v1199 : BitVec 32 := v1198
  let v1200 : Index := Scalar.indexCast v1199
  let c768_504 : Index := 768#32
  ![v1200.toNat, 768]
def k0_mult19 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_509 : BitVec 32 := 128#32
  let v1214 : BitVec 32 := Scalar.muli arg17 c128_i32_509
  v1214
def k0_off23 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_509 : BitVec 32 := 128#32
  let v1214 : BitVec 32 := Scalar.muli arg17 c128_i32_509
  let v1215 : BitVec 32 := v1214
  let v1216 : Index := Scalar.indexCast v1215
  let c896_510 : Index := 896#32
  ![v1216.toNat, 896]
def k0_mult20 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_515 : BitVec 32 := 128#32
  let v1230 : BitVec 32 := Scalar.muli arg17 c128_i32_515
  v1230
def k0_off24 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_515 : BitVec 32 := 128#32
  let v1230 : BitVec 32 := Scalar.muli arg17 c128_i32_515
  let v1231 : BitVec 32 := v1230
  let v1232 : Index := Scalar.indexCast v1231
  let c1024_516 : Index := 1024#32
  ![v1232.toNat, 1024]
def k0_mult21 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_521 : BitVec 32 := 128#32
  let v1246 : BitVec 32 := Scalar.muli arg17 c128_i32_521
  v1246
def k0_off25 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_521 : BitVec 32 := 128#32
  let v1246 : BitVec 32 := Scalar.muli arg17 c128_i32_521
  let v1247 : BitVec 32 := v1246
  let v1248 : Index := Scalar.indexCast v1247
  let c1152_522 : Index := 1152#32
  ![v1248.toNat, 1152]
def k0_mult22 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_527 : BitVec 32 := 128#32
  let v1262 : BitVec 32 := Scalar.muli arg17 c128_i32_527
  v1262
def k0_off26 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_527 : BitVec 32 := 128#32
  let v1262 : BitVec 32 := Scalar.muli arg17 c128_i32_527
  let v1263 : BitVec 32 := v1262
  let v1264 : Index := Scalar.indexCast v1263
  let c1280_528 : Index := 1280#32
  ![v1264.toNat, 1280]
def k0_mult23 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_534 : BitVec 32 := 128#32
  let v1278 : BitVec 32 := Scalar.muli arg17 c128_i32_534
  v1278
def k0_off27 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_534 : BitVec 32 := 128#32
  let v1278 : BitVec 32 := Scalar.muli arg17 c128_i32_534
  let v1279 : BitVec 32 := v1278
  let v1280 : Index := Scalar.indexCast v1279
  let c1408_535 : Index := 1408#32
  ![v1280.toNat, 1408]
def k0_mult24 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_540 : BitVec 32 := 128#32
  let v1294 : BitVec 32 := Scalar.muli arg17 c128_i32_540
  v1294
def k0_off28 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_540 : BitVec 32 := 128#32
  let v1294 : BitVec 32 := Scalar.muli arg17 c128_i32_540
  let v1295 : BitVec 32 := v1294
  let v1296 : Index := Scalar.indexCast v1295
  let c1536_541 : Index := 1536#32
  ![v1296.toNat, 1536]
def k0_mult25 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_546 : BitVec 32 := 128#32
  let v1310 : BitVec 32 := Scalar.muli arg17 c128_i32_546
  v1310
def k0_off29 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_546 : BitVec 32 := 128#32
  let v1310 : BitVec 32 := Scalar.muli arg17 c128_i32_546
  let v1311 : BitVec 32 := v1310
  let v1312 : Index := Scalar.indexCast v1311
  let c1664_547 : Index := 1664#32
  ![v1312.toNat, 1664]
def k0_mult26 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_552 : BitVec 32 := 128#32
  let v1326 : BitVec 32 := Scalar.muli arg17 c128_i32_552
  v1326
def k0_off30 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_552 : BitVec 32 := 128#32
  let v1326 : BitVec 32 := Scalar.muli arg17 c128_i32_552
  let v1327 : BitVec 32 := v1326
  let v1328 : Index := Scalar.indexCast v1327
  let c1792_553 : Index := 1792#32
  ![v1328.toNat, 1792]
def k0_mult27 (k0_t2 : Fin k0_t2_loop.trips) : BitVec 32 :=
  let c0_i32_460 : BitVec 32 := 0#32
  let c1_i32_461 : BitVec 32 := 1#32
  let arg17 : BitVec 32 := Scf.iv c0_i32_460 c1_i32_461 k0_t2
  let c128_i32_558 : BitVec 32 := 128#32
  let v1342 : BitVec 32 := Scalar.muli arg17 c128_i32_558
  v1342
def k0_off31 (k0_t2 : Fin k0_t2_loop.trips) : Fin 2 → Nat :=
  let c0_i32_460 : BitVec 32 := 0#32
  let c1_i32_461 : BitVec 32 := 1#32
  let arg17 : BitVec 32 := Scf.iv c0_i32_460 c1_i32_461 k0_t2
  let c128_i32_558 : BitVec 32 := 128#32
  let v1342 : BitVec 32 := Scalar.muli arg17 c128_i32_558
  let v1343 : BitVec 32 := v1342
  let v1344 : Index := Scalar.indexCast v1343
  let c1920_559 : Index := 1920#32
  ![v1344.toNat, 1920]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1x1.size a ≤ S88x11.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S88x11) ![v0.toNat, 0] S1x1.size (k0_off1_inb i)) numel1_S1x1
  let c11_i32 : BitVec 32 := 11#32
  let v2 : BitVec 32 := Scalar.divsi v1 c11_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c11_i32 c0_i32_1
  let v9 : BitVec 32 := Scalar.extui v8
  let c0_i32_2 : BitVec 32 := 0#32
  let v10 : BitVec 1 := Scalar.cmpi .slt c11_i32 c0_i32_2
  let v11 : BitVec 32 := Scalar.extui v10
  let v12 : BitVec 32 := Scalar.subi v9 v11
  let v13 : BitVec 1 := Scalar.cmpi .ne v7 v12
  let v14 : BitVec 32 := Scalar.remsi v1 c11_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![c0_i32_4.toNat, v18.toNat]

def cc0_transform_3 (k0_off1_inb : ∀ i : grid0.Coords, ∀ a, (k0_off1 i) a + S1x1.size a ≤ S88x11.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S88x11) ![v0.toNat, 0] S1x1.size (k0_off1_inb i)) numel1_S1x1
  let c11_i32 : BitVec 32 := 11#32
  let v2 : BitVec 32 := Scalar.divsi v1 c11_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c11_i32 c0_i32_1
  let v9 : BitVec 32 := Scalar.extui v8
  let c0_i32_2 : BitVec 32 := 0#32
  let v10 : BitVec 1 := Scalar.cmpi .slt c11_i32 c0_i32_2
  let v11 : BitVec 32 := Scalar.extui v10
  let v12 : BitVec 32 := Scalar.subi v9 v11
  let v13 : BitVec 1 := Scalar.cmpi .ne v7 v12
  let v14 : BitVec 32 := Scalar.remsi v1 c11_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_4 (k0_off1_inb : ∀ i : grid0.Coords, ∀ a, (k0_off1 i) a + S1x1.size a ≤ S88x11.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c0 : Index := 0#32
  let v1 : BitVec 32 := pf.at 0 (Rect.unit (s := S88x11) ![v0.toNat, 0] S1x1.size (k0_off1_inb i)) numel1_S1x1
  let c11_i32 : BitVec 32 := 11#32
  let v2 : BitVec 32 := Scalar.divsi v1 c11_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c11_i32 c0_i32_1
  let v9 : BitVec 32 := Scalar.extui v8
  let c0_i32_2 : BitVec 32 := 0#32
  let v10 : BitVec 1 := Scalar.cmpi .slt c11_i32 c0_i32_2
  let v11 : BitVec 32 := Scalar.extui v10
  let v12 : BitVec 32 := Scalar.subi v9 v11
  let v13 : BitVec 1 := Scalar.cmpi .ne v7 v12
  let v14 : BitVec 32 := Scalar.remsi v1 c11_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_5 (k0_off1_inb : ∀ i : grid0.Coords, ∀ a, (k0_off1 i) a + S1x1.size a ≤ S88x11.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S88x11) ![v0.toNat, 0] S1x1.size (k0_off1_inb i)) numel1_S1x1
  let c11_i32 : BitVec 32 := 11#32
  let v2 : BitVec 32 := Scalar.divsi v1 c11_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c11_i32 c0_i32_1
  let v9 : BitVec 32 := Scalar.extui v8
  let c0_i32_2 : BitVec 32 := 0#32
  let v10 : BitVec 1 := Scalar.cmpi .slt c11_i32 c0_i32_2
  let v11 : BitVec 32 := Scalar.extui v10
  let v12 : BitVec 32 := Scalar.subi v9 v11
  let v13 : BitVec 1 := Scalar.cmpi .ne v7 v12
  let v14 : BitVec 32 := Scalar.remsi v1 c11_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1408x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1408 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x11 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S11264x2048 : Shape := ⟨2, ![11264, 2048]⟩
abbrev S11264x16 : Shape := ⟨2, ![11264, 16]⟩
abbrev S2048x90112 : Shape := ⟨2, ![2048, 90112]⟩
abbrev S16x704 : Shape := ⟨2, ![16, 704]⟩
abbrev S90112x2048 : Shape := ⟨2, ![90112, 2048]⟩
abbrev S704x16 : Shape := ⟨2, ![704, 16]⟩
abbrev S88x11 : Shape := ⟨2, ![88, 11]⟩
abbrev S11264 : Shape := ⟨1, ![11264]⟩
abbrev S2048x704x128 : Shape := ⟨3, ![2048, 704, 128]⟩
abbrev S88x11x1 : Shape := ⟨3, ![88, 11, 1]⟩
abbrev S2048x88x11x128 : Shape := ⟨4, ![2048, 88, 11, 128]⟩
abbrev S88x2048x11x128 : Shape := ⟨4, ![88, 2048, 11, 128]⟩
abbrev S88x2048x1408 : Shape := ⟨3, ![88, 2048, 1408]⟩
abbrev S16x88x11 : Shape := ⟨3, ![16, 88, 11]⟩
abbrev S88x16x11 : Shape := ⟨3, ![88, 16, 11]⟩
abbrev S88x16x128x11 : Shape := ⟨4, ![88, 16, 128, 11]⟩
abbrev S88x2048x11 : Shape := ⟨3, ![88, 2048, 11]⟩
abbrev S704x128x2048 : Shape := ⟨3, ![704, 128, 2048]⟩
abbrev S88x11x128x2048 : Shape := ⟨4, ![88, 11, 128, 2048]⟩
abbrev S88x1408x2048 : Shape := ⟨3, ![88, 1408, 2048]⟩
abbrev S88x11x16 : Shape := ⟨3, ![88, 11, 16]⟩
abbrev S88x11x128x16 : Shape := ⟨4, ![88, 11, 128, 16]⟩
abbrev S88x1408x16 : Shape := ⟨3, ![88, 1408, 16]⟩
abbrev S88x1408x16x128 : Shape := ⟨4, ![88, 1408, 16, 128]⟩
abbrev S88x128x2048 : Shape := ⟨3, ![88, 128, 2048]⟩
abbrev S11264x16x128 : Shape := ⟨3, ![11264, 16, 128]⟩
abbrev S88x128x1 : Shape := ⟨3, ![88, 128, 1]⟩
abbrev S11264x1408 : Shape := ⟨2, ![11264, 1408]⟩
abbrev S11264x11 : Shape := ⟨2, ![11264, 11]⟩
abbrev S88x128x1408 : Shape := ⟨3, ![88, 128, 1408]⟩
abbrev S88x128x11x128 : Shape := ⟨4, ![88, 128, 11, 128]⟩
abbrev S88x128x11 : Shape := ⟨3, ![88, 128, 11]⟩
abbrev S88x128x11x1 : Shape := ⟨4, ![88, 128, 11, 1]⟩
abbrev S88x128x16x128 : Shape := ⟨4, ![88, 128, 16, 128]⟩
abbrev S88x128x16 : Shape := ⟨3, ![88, 128, 16]⟩
abbrev S88x128x16x1 : Shape := ⟨4, ![88, 128, 16, 1]⟩

abbrev nBuf : Space → Nat
  | .hbm => 39
  | .vmem => 11
  | .smem => 0
  | _ => 0

abbrev bufTy : (tb : Table) → Fin (tcTables nBuf tb) → BufTy
  | .hbm, ⟨0, _⟩ => ⟨S11264x2048, .fp8e4m3⟩
  | .hbm, ⟨1, _⟩ => ⟨S11264x16, .f32⟩
  | .hbm, ⟨2, _⟩ => ⟨S2048x90112, .fp8e4m3⟩
  | .hbm, ⟨3, _⟩ => ⟨S16x704, .f32⟩
  | .hbm, ⟨4, _⟩ => ⟨S90112x2048, .fp8e4m3⟩
  | .hbm, ⟨5, _⟩ => ⟨S704x16, .f32⟩
  | .hbm, ⟨6, _⟩ => ⟨S88x11, .i32⟩
  | .hbm, ⟨7, _⟩ => ⟨S11264, .f32⟩
  | .hbm, ⟨8, _⟩ => ⟨S2048x704x128, .fp8e4m3⟩
  | .hbm, ⟨9, _⟩ => ⟨S88x11x1, .i32⟩
  | .hbm, ⟨10, _⟩ => ⟨S2048x88x11x128, .fp8e4m3⟩
  | .hbm, ⟨11, _⟩ => ⟨S88x2048x11x128, .fp8e4m3⟩
  | .hbm, ⟨12, _⟩ => ⟨S88x2048x1408, .fp8e4m3⟩
  | .hbm, ⟨13, _⟩ => ⟨S88x11x1, .i32⟩
  | .hbm, ⟨14, _⟩ => ⟨S16x88x11, .f32⟩
  | .hbm, ⟨15, _⟩ => ⟨S88x16x11, .f32⟩
  | .hbm, ⟨16, _⟩ => ⟨S88x16x128x11, .f32⟩
  | .hbm, ⟨17, _⟩ => ⟨S88x2048x11, .f32⟩
  | .hbm, ⟨18, _⟩ => ⟨S88x2048x11x128, .f32⟩
  | .hbm, ⟨19, _⟩ => ⟨S88x2048x1408, .f32⟩
  | .hbm, ⟨20, _⟩ => ⟨S704x128x2048, .fp8e4m3⟩
  | .hbm, ⟨21, _⟩ => ⟨S88x11x1, .i32⟩
  | .hbm, ⟨22, _⟩ => ⟨S88x11x128x2048, .fp8e4m3⟩
  | .hbm, ⟨23, _⟩ => ⟨S88x1408x2048, .fp8e4m3⟩
  | .hbm, ⟨24, _⟩ => ⟨S88x11x1, .i32⟩
  | .hbm, ⟨25, _⟩ => ⟨S88x11x16, .f32⟩
  | .hbm, ⟨26, _⟩ => ⟨S88x11x128x16, .f32⟩
  | .hbm, ⟨27, _⟩ => ⟨S88x1408x16, .f32⟩
  | .hbm, ⟨28, _⟩ => ⟨S88x1408x16x128, .f32⟩
  | .hbm, ⟨29, _⟩ => ⟨S88x1408x2048, .f32⟩
  | .hbm, ⟨30, _⟩ => ⟨S88x128x2048, .fp8e4m3⟩
  | .hbm, ⟨31, _⟩ => ⟨S11264x16x128, .f32⟩
  | .hbm, ⟨32, _⟩ => ⟨S11264x2048, .f32⟩
  | .hbm, ⟨33, _⟩ => ⟨S88x128x2048, .f32⟩
  | .hbm, ⟨34, _⟩ => ⟨S88x128x1, .f32⟩
  | .hbm, ⟨35, _⟩ => ⟨S11264x2048, .fp8e4m3⟩
  | .hbm, ⟨36, _⟩ => ⟨S11264x16, .f32⟩
  | .hbm, ⟨37, _⟩ => ⟨S11264x1408, .fp8e4m3⟩
  | .hbm, ⟨38, _⟩ => ⟨S11264x11, .f32⟩
  | .local _ .vmem, ⟨0, _⟩ => ⟨S88x128x2048, .fp8e4m3⟩
  | .local _ .vmem, ⟨1, _⟩ => ⟨S88x128x2048, .f32⟩
  | .local _ .vmem, ⟨2, _⟩ => ⟨S88x2048x1408, .fp8e4m3⟩
  | .local _ .vmem, ⟨3, _⟩ => ⟨S88x2048x1408, .f32⟩
  | .local _ .vmem, ⟨4, _⟩ => ⟨S88x1408x2048, .fp8e4m3⟩
  | .local _ .vmem, ⟨5, _⟩ => ⟨S88x1408x2048, .f32⟩
  | .local _ .vmem, ⟨6, _⟩ => ⟨S88x128x1, .f32⟩
  | .local _ .vmem, ⟨7, _⟩ => ⟨S11264x2048, .fp8e4m3⟩
  | .local _ .vmem, ⟨8, _⟩ => ⟨S11264x16, .f32⟩
  | .local _ .vmem, ⟨9, _⟩ => ⟨S11264x1408, .fp8e4m3⟩
  | .local _ .vmem, ⟨10, _⟩ => ⟨S11264x11, .f32⟩
  | _, _ => ⟨S11264x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S88x128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S88x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S88x2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S88x2048x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S88x1408x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S88x1408x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S88x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S11264x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S11264x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S11264x1408 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S11264x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pre.lean ====
module

public import Idealize.ShloMosaic.Lib.Affine
public import Idealize.ShloMosaic.Lib.ReduceAll
public import Idealize.ShloMosaic.Lib.ValueIdxCore
public import proofs.«01_k».proof.Proof.Gen.Pre_pre

@[expose] public section

set_option maxRecDepth 16384
set_option Elab.async false

noncomputable section

/- What the precondition says of the table of column indices: every row's first entry is a word below 704, so the expert it
   names (that entry divided by eleven, rounded down) is one of 64. -/

namespace Cert.Pre

open Cert.Pre_pre
open Idealize.ShloMosaic

variable {F : FTy → Type} [FloatOps F]

/-- The expert a word names: the word divided by eleven, rounded down, in the program's own word arithmetic. -/
def expert (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 11#32 0#32)) (Scalar.extui (Scalar.cmpi .slt 11#32 0#32))))
    (Scalar.cmpi .ne (Scalar.remsi v 11#32) 0#32)) (Scalar.subi (Scalar.divsi v 11#32) 1#32) (Scalar.divsi v 11#32)

theorem expert_small : ∀ k : Fin 704, expert (BitVec.ofNat 32 k.val) = BitVec.ofNat 32 (k.val / 11) := by decide +kernel

theorem expert_eq (v : BitVec 32) (h : v.toNat < 704) : expert v = BitVec.ofNat 32 (v.toNat / 11) := by
  have := expert_small ⟨v.toNat, h⟩
  rwa [show BitVec.ofNat 32 v.toNat = v by simp] at this

theorem expert_lt (v : BitVec 32) (h : v.toNat < 704) : (expert v).toNat < 64 := by
  rw [expert_eq v h, BitVec.toNat_ofNat]; omega

/-- Row `r`'s first column, under the precondition, is below 704. -/
theorem first_lt (a0 : FVec F S11264x2048 .fp8e4m3) (a1 : FVec F S11264x16 .f32) (a2 : FVec F S2048x90112 .fp8e4m3)
    (a3 : FVec F S16x704 .f32) (a4 : FVec F S90112x2048 .fp8e4m3) (a5 : FVec F S704x16 .f32) (a6 : IVec S88x11 32) (a7 : FVec F S11264 .f32)
    (h : Pre_pre.fn (F := F) a0 a1 a2 a3 a4 a5 a6 a7 = fun _ => 1#1) (r : Fin 88) :
    (a6 (ValueIdx.ix2 (n0 := 88) (n1 := 11) r 0)).toNat < 704 := by
  have h0 := congrFun h (Shape.Idx.first (s := S_) (by decide))
  unfold Pre_pre.fn Pre_pre.fn_part1 at h0
  dsimp only at h0
  have h1 := (IntOp.andi_eq_one.1 h0).1
  have h2 := (IntOp.andi_eq_one.1 h1).1
  obtain ⟨hge, hlt⟩ := IntOp.andi_eq_one.1 h2
  haveI : Subsingleton S_.Idx := ⟨fun a b => funext fun x => x.elim0⟩
  have g := Host.reduce_andi_all _ _ _ _ _ hge (ValueIdx.ix2 (n0 := 88) (n1 := 1) r 0)
  have l := Host.reduce_andi_all _ _ _ _ _ hlt (ValueIdx.ix2 (n0 := 88) (n1 := 1) r 0)
  have e : a6 (ValueIdx.ix2 (n0 := 88) (n1 := 11) r 0) = extractStridedSlice S88x1 ![0, 0] a6 Facts.slices_S88x11_S88x1_0_0 (ValueIdx.ix2 (n0 := 88) (n1 := 1) r 0) := by
    unfold extractStridedSlice
    refine congrArg a6 (funext fun a => Fin.ext ?_)
    fin_cases a
    · show r.val = 0 + r.val; omega
    · rfl
  rw [e]
  have g' : (0#32 : BitVec 32).toInt ≤ (extractStridedSlice S88x1 ![0, 0] a6 Facts.slices_S88x11_S88x1_0_0 (ValueIdx.ix2 (n0 := 88) (n1 := 1) r 0)).toInt :=
    IntOp.cmpi_sge.1 g
  have l' : (extractStridedSlice S88x1 ![0, 0] a6 Facts.slices_S88x11_S88x1_0_0 (ValueIdx.ix2 (n0 := 88) (n1 := 1) r 0)).toInt < (704#32 : BitVec 32).toInt :=
    IntOp.cmpi_slt.1 l
  generalize extractStridedSlice S88x1 ![0, 0] a6 Facts.slices_S88x11_S88x1_0_0 (ValueIdx.ix2 (n0 := 88) (n1 := 1) r 0) = v at *
  rw [show (0#32 : BitVec 32).toInt = 0 from rfl] at g'
  rw [show (704#32 : BitVec 32).toInt = 704 from rfl] at l'
  rw [BitVec.toInt_eq_toNat_cond] at g' l'
  split at g' <;> omega

end Cert.Pre
-- ==== Proof.Kernel.Run.lean ====
module

public import proofs.«01_k».proof.Proof.Gen.Kernel.Loops
public import proofs.«01_k».proof.Proof.Gen.Kernel.Launch

@[expose] public section

set_option maxRecDepth 16384
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the proof. -/
local notation "𝕄" => MT nD τ sig Unit (Elt F) ℕ (UR sig nD τ) ℕ

/-- The prefetched table and the four scratch buffers, whole. -/
abbrev tbM0_0 : Memref sig .tc .smem S88x11 .i32 := Memref.whole main_arg6
abbrev scM0_0 : Memref sig .tc .vmem S128x2048 .bf16 := Memref.whole cc0_scratch0
abbrev scM0_1 : Memref sig .tc .vmem S2048x1408 .bf16 := Memref.whole cc0_scratch1
abbrev scM0_2 : Memref sig .tc .vmem S1408x2048 .bf16 := Memref.whole cc0_scratch2
abbrev scM0_3 : Memref sig .tc .vmem S128x1408 .bf16 := Memref.whole cc0_scratch3

set_option backward.proofsInPublic true in
set_option maxHeartbeats 8000000 in
/-- The body at a point that keeps the cached weights (`hc0`: the same expert as the point before):
    what it leaves in each output's pieces and in the scratch buffers, with the proof that it runs there. -/
noncomputable def run_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    Σ' (out0 : List (View.Piece (Elt F) S128x2048 .fp8e4m3)) (out1 : List (View.Piece (Elt F) S128x16 .f32)) (out2 : List (View.Piece (Elt F) S128x1408 .fp8e4m3)) (out3 : List (View.Piece (Elt F) S128x11 .f32)) (out4 : Buf (Elt F) ((c : Thread nD τ).loc cc0_scratch0)) (out5 : Buf (Elt F) ((c : Thread nD τ).loc cc0_scratch1)) (out6 : Buf (Elt F) ((c : Thread nD τ).loc cc0_scratch2)), { out7 : Buf (Elt F) ((c : Thread nD τ).loc cc0_scratch3) //
      ∀ (xa0 : Buf (Elt F) ((c : Thread nD τ).loc cc0_scratch0)) (xa3 : Buf (Elt F) ((c : Thread nD τ).loc cc0_scratch3)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (tbM0_0.view.loc (c : Thread nD τ) ↦{fullShare.right} T0)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (tbM0_0.view.loc (c : Thread nD τ) ↦{fullShare.right} T0)
              ∗ (∃ f, arg9.view.loc (c : Thread nD τ) ↦[arg9.view.set]{fullShare} arg9.view.writes (Elt F) f out0)
              ∗ (∃ f, arg10.view.loc (c : Thread nD τ) ↦[arg10.view.set]{fullShare} arg10.view.writes (Elt F) f out1)
              ∗ (∃ f, arg11.view.loc (c : Thread nD τ) ↦[arg11.view.set]{fullShare} arg11.view.writes (Elt F) f out2)
              ∗ (∃ f, arg12.view.loc (c : Thread nD τ) ↦[arg12.view.set]{fullShare} arg12.view.writes (Elt F) f out3)
              ∗ (scM0_0.view.loc (c : Thread nD τ) ↦{fullShare} out4)
              ∗ (scM0_1.view.loc (c : Thread nD τ) ↦{fullShare} out5)
              ∗ (scM0_2.view.loc (c : Thread nD τ) ↦{fullShare} out6)
              ∗ (scM0_3.view.loc (c : Thread nD τ) ↦{fullShare} out7)) -∗ K ⟨⟩))
          ⊢ wp frame (wpE (defs₀ (F := F)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _)) K } :=
  ⟨_, _, _, _, _, _, _, _, fun (xa0 : Buf (Elt F) ((c : Thread nD τ).loc cc0_scratch0)) (xa3 : Buf (Elt F) ((c : Thread nD τ).loc cc0_scratch3)) K => by
    unfold owns
    rw [cc0__body_eq_skeleton]; unfold cc0__body_skel
    iintro ⟨H0, H1, H2, H3, H4, H5, H6, HT0, ⟨%d7, %f7, -, HO7⟩, ⟨%d8, %f8, -, HO8⟩, ⟨%d9, %f9, -, HO9⟩, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    sl_exec! (disch := first | (guard_target = ¬(Scalar.cmpi = _); exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HO7]; · iexists _; iexact HO7
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    iexact HS3⟩

set_option backward.proofsInPublic true in
set_option maxHeartbeats 8000000 in
/-- The body at a point that dequantises a new expert's weights (`hc0`) into the two caches first. -/
noncomputable def run_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    Σ' (out0 : List (View.Piece (Elt F) S128x2048 .fp8e4m3)) (out1 : List (View.Piece (Elt F) S128x16 .f32)) (out2 : List (View.Piece (Elt F) S128x1408 .fp8e4m3)) (out3 : List (View.Piece (Elt F) S128x11 .f32)) (out4 : Buf (Elt F) ((c : Thread nD τ).loc cc0_scratch0)) (out5 : Buf (Elt F) ((c : Thread nD τ).loc cc0_scratch1)) (out6 : Buf (Elt F) ((c : Thread nD τ).loc cc0_scratch2)), { out7 : Buf (Elt F) ((c : Thread nD τ).loc cc0_scratch3) //
      ∀ (xa0 : Buf (Elt F) ((c : Thread nD τ).loc cc0_scratch0)) (xa3 : Buf (Elt F) ((c : Thread nD τ).loc cc0_scratch3)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (tbM0_0.view.loc (c : Thread nD τ) ↦{fullShare.right} T0)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦[scM0_1.view.set]{fullShare} xa1)
          ∗ (scM0_2.view.loc (c : Thread nD τ) ↦[scM0_2.view.set]{fullShare} xa2)
          ∗ (scM0_3.view.loc (c : Thread nD τ) ↦{fullShare} xa3)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (tbM0_0.view.loc (c : Thread nD τ) ↦{fullShare.right} T0)
              ∗ (∃ f, arg9.view.loc (c : Thread nD τ) ↦[arg9.view.set]{fullShare} arg9.view.writes (Elt F) f out0)
              ∗ (∃ f, arg10.view.loc (c : Thread nD τ) ↦[arg10.view.set]{fullShare} arg10.view.writes (Elt F) f out1)
              ∗ (∃ f, arg11.view.loc (c : Thread nD τ) ↦[arg11.view.set]{fullShare} arg11.view.writes (Elt F) f out2)
              ∗ (∃ f, arg12.view.loc (c : Thread nD τ) ↦[arg12.view.set]{fullShare} arg12.view.writes (Elt F) f out3)
              ∗ (scM0_0.view.loc (c : Thread nD τ) ↦{fullShare} out4)
              ∗ (scM0_1.view.loc (c : Thread nD τ) ↦[scM0_1.view.set]{fullShare} out5)
              ∗ (scM0_2.view.loc (c : Thread nD τ) ↦[scM0_2.view.set]{fullShare} out6)
              ∗ (scM0_3.view.loc (c : Thread nD τ) ↦{fullShare} out7)) -∗ K ⟨⟩))
          ⊢ wp frame (wpE (defs₀ (F := F)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _)) K } :=
  ⟨_, _, _, _, _, _, _, _, fun (xa0 : Buf (Elt F) ((c : Thread nD τ).loc cc0_scratch0)) (xa3 : Buf (Elt F) ((c : Thread nD τ).loc cc0_scratch3)) K => by
    unfold owns
    rw [cc0__body_eq_skeleton]; unfold cc0__body_skel
    iintro ⟨H0, H1, H2, H3, H4, H5, H6, HT0, ⟨%d7, %f7, -, HO7⟩, ⟨%d8, %f8, -, HO8⟩, ⟨%d9, %f9, -, HO9⟩, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    sl_exec! (disch := first | (guard_target = Scalar.cmpi = _; exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HO7]; · iexists _; iexact HO7
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    iexact HS3⟩

end Cert.Kernel.Own
-- ==== Proof.Kernel.Deq.lean ====
module

public import Idealize.ShloMosaic.Lib.Pipeline.Value
public import proofs.«01_k».proof.Proof.Kernel.Run

@[expose] public section

set_option maxRecDepth 16384
set_option Elab.async false

noncomputable section

/- What the two weight caches hold after the dequantisation loops: every element of the code block times the scale of
   its 128 × 128 tile, whatever the caches held before. -/

namespace Cert.Kernel.Own

open Cert.Kernel Cert.Kernel.Gen
open Idealize.ShloMosaic
open Idealize.ShloMosaic.TcCoe

variable {F : FTy → Type} [FloatOps F]

/-- The entry of a block's 176 scales at position `n`. -/
def scaleIx (n : ℕ) (h : n < 176) : S1x1x176.Idx := fun a => ⟨(![0, 0, n] : Fin 3 → ℕ) a, by
  fin_cases a
  · exact Nat.one_pos
  · exact Nat.one_pos
  · exact h⟩

/-- The tile a position of the weight block lies in is one of the 176. -/
theorem tile1_lt (y : S2048x1408.Idx) : (y 0).val / 128 * 11 + (y 1).val / 128 < 176 := by
  have h0 : (y 0).val < 2048 := (y 0).isLt
  have h1 : (y 1).val < 1408 := (y 1).isLt
  omega

/-- The dequantised weight block: each code times its tile's scale. -/
def deq1 (xa : S2048x1408.Idx → Elt F .fp8e4m3) (xb : S1x1x176.Idx → Elt F .f32) : S2048x1408.Idx → Elt F .bf16 :=
  mulf (extf .bf16 (xa : FVec F S2048x1408 .fp8e4m3) bitsLt_fp8e4m3_bf16)
    (fun y => Scalar.truncf .bf16 bitsLt_bf16_f32 (xb (scaleIx _ (tile1_lt y))))

/-- One tile as the loop's body computes it is the dequantised block's tile. -/
theorem tile1 (ma : Memref sig .tc .vmem S2048x1408 .fp8e4m3) (mb : Memref sig .tc .smem S1x1x176 .f32)
    (xa : S2048x1408.Idx → Elt F .fp8e4m3) (xb : S1x1x176.Idx → Elt F .f32) (k j : ℕ) (hk : k < 16) (hj : j < 11)
    {off : Fin 2 → ℕ} {off3 : Fin 3 → ℕ} (hoff : off = ![128 * k, 128 * j]) (hoff3 : off3 = ![0, 0, 11 * k + j])
    (inb : ∀ a, off a + S128x128.size a ≤ S2048x1408.size a) (inb3 : ∀ a, off3 a + S1x1x1.size a ≤ S1x1x176.size a)
    (pf : 0 < (Rect.unit (s := S1x1x176) off3 S1x1x1.size inb3).toLoadRect.shape.numel)
    (x : (Rect.unit (s := S2048x1408) off S128x128.size inb).shape.Idx) :
    (shapeCast S128x128 (mulf (extf .bf16 (View.readAt (Elt F) ma.view (Rect.unit (s := S2048x1408) off S128x128.size inb).toLoadRect (ma.view.rep xa) : FVec F S128x128 .fp8e4m3) bitsLt_fp8e4m3_bf16)
      (broadcast S128x128 (Scalar.truncf .bf16 bitsLt_bf16_f32 (View.readAt (Elt F) mb.view (Rect.unit (s := S1x1x176) off3 S1x1x1.size inb3).toLoadRect (mb.view.rep xb) (Shape.Idx.first pf) : F .f32))) : FVec F S128x128 .bf16) shapeCasts_S128x128_S128x128) x
      = deq1 xa xb ((Rect.unit (s := S2048x1408) off S128x128.size inb).emb x) := by
  subst hoff hoff3
  rw [shapeCast_self, View.readAt_rep, View.readAt_rep]
  have h0 : (x 0).val < 128 := (x 0).isLt
  have h1 : (x 1).val < 128 := (x 1).isLt
  have e3 : (Rect.unit (s := S1x1x176) ![0, 0, 11 * k + j] S1x1x1.size inb3).toLoadRect.idx (Shape.Idx.first pf)
      = scaleIx _ (tile1_lt ((Rect.unit (s := S2048x1408) ![128 * k, 128 * j] S128x128.size inb).emb x)) := by
    funext a
    apply Fin.ext
    fin_cases a
    · rfl
    · rfl
    · show 11 * k + j + 1 * 0 = (128 * k + 1 * (x 0).val) / 128 * 11 + (128 * j + 1 * (x 1).val) / 128
      have e1 : (128 * k + 1 * (x 0).val) / 128 = k := by omega
      have e2 : (128 * j + 1 * (x 1).val) / 128 = j := by omega
      rw [e1, e2, Nat.mul_comm]; omega
  beta_reduce
  rw [e3]
  rfl

/-- Every piece of one trip is a tile of the dequantised block. -/
theorem trip1_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S2048x1408.Idx → Elt F .fp8e4m3) (xb : S1x1x176.Idx → Elt F .f32) (k : Fin k0_t1_loop.trips) :
    ∀ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.rep xa) (arg5.view.rep xb) k,
      ∀ x : p.1.shape.Idx, p.2 x = deq1 xa xb (p.1.emb x) := by
  have hk : k.val < 16 := Nat.lt_of_lt_of_le k.isLt k0_t1_abs.2.1
  unfold tripL_k0_t1 trip_k0_t1
  simp only [List.forall_mem_cons, List.not_mem_nil, false_imp_iff, forall_const, and_true]
  exact ⟨tile1 arg4 arg5 xa xb k 10 hk (by decide) (k0_off14_eq k) (k0_off3_eq k ⟨10, by decide⟩) _ _ _, tile1 arg4 arg5 xa xb k 9 hk (by decide) (k0_off13_eq k) (k0_off3_eq k ⟨9, by decide⟩) _ _ _, tile1 arg4 arg5 xa xb k 8 hk (by decide) (k0_off12_eq k) (k0_off3_eq k ⟨8, by decide⟩) _ _ _, tile1 arg4 arg5 xa xb k 7 hk (by decide) (k0_off11_eq k) (k0_off3_eq k ⟨7, by decide⟩) _ _ _, tile1 arg4 arg5 xa xb k 6 hk (by decide) (k0_off10_eq k) (k0_off3_eq k ⟨6, by decide⟩) _ _ _, tile1 arg4 arg5 xa xb k 5 hk (by decide) (k0_off9_eq k) (k0_off3_eq k ⟨5, by decide⟩) _ _ _, tile1 arg4 arg5 xa xb k 4 hk (by decide) (k0_off8_eq k) (k0_off3_eq k ⟨4, by decide⟩) _ _ _, tile1 arg4 arg5 xa xb k 3 hk (by decide) (k0_off7_eq k) (k0_off3_eq k ⟨3, by decide⟩) _ _ _, tile1 arg4 arg5 xa xb k 2 hk (by decide) (k0_off6_eq k) (k0_off3_eq k ⟨2, by decide⟩) _ _ _, tile1 arg4 arg5 xa xb k 1 hk (by decide) (k0_off5_eq k) (k0_off3_eq k ⟨1, by decide⟩) _ _ _, tile1 arg4 arg5 xa xb k 0 hk (by decide) (k0_off4_eq k) (k0_off3_eq k ⟨0, by decide⟩) _ _ _, fun _ => trivial⟩

/-- A position lies in its tile. -/
theorem intile1 (k j : ℕ) {off : Fin 2 → ℕ} (hoff : off = ![128 * k, 128 * j]) (inb : ∀ a, off a + S128x128.size a ≤ S2048x1408.size a)
    (y : S2048x1408.Idx) (h0 : (y 0).val / 128 = k) (h1 : (y 1).val / 128 = j) : y ∈ (Rect.unit (s := S2048x1408) off S128x128.size inb).set := by
  subst hoff
  refine Rect.mem_set_unit.mpr fun a => ?_
  fin_cases a
  · show 128 * k ≤ (y 0).val ∧ (y 0).val < 128 * k + 128
    omega
  · show 128 * j ≤ (y 1).val ∧ (y 1).val < 128 * j + 128
    omega

/-- Position `y` of the block lies in a piece of its row tile's trip. -/
theorem trip1_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg4.view.ty) (Xb : BufTy.Contents (Elt F) arg5.view.ty) (k : Fin k0_t1_loop.trips) (y : S2048x1408.Idx) (hy : (y 0).val / 128 = k.val) :
    ∃ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb k, y ∈ p.1.set := by
  have h1 : (y 1).val < 1408 := (y 1).isLt
  have hj : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 := by omega
  unfold tripL_k0_t1 trip_k0_t1
  simp only [List.exists_mem_cons_iff]
  rcases hj with h | h | h | h | h | h | h | h | h | h | h
  · right; right; right; right; right; right; right; right; right; right; left; exact intile1 k.val 0 (k0_off4_eq k) _ y hy h
  · right; right; right; right; right; right; right; right; right; left; exact intile1 k.val 1 (k0_off5_eq k) _ y hy h
  · right; right; right; right; right; right; right; right; left; exact intile1 k.val 2 (k0_off6_eq k) _ y hy h
  · right; right; right; right; right; right; right; left; exact intile1 k.val 3 (k0_off7_eq k) _ y hy h
  · right; right; right; right; right; right; left; exact intile1 k.val 4 (k0_off8_eq k) _ y hy h
  · right; right; right; right; right; left; exact intile1 k.val 5 (k0_off9_eq k) _ y hy h
  · right; right; right; right; left; exact intile1 k.val 6 (k0_off10_eq k) _ y hy h
  · right; right; right; left; exact intile1 k.val 7 (k0_off11_eq k) _ y hy h
  · right; right; left; exact intile1 k.val 8 (k0_off12_eq k) _ y hy h
  · right; left; exact intile1 k.val 9 (k0_off13_eq k) _ y hy h
  · left; exact intile1 k.val 10 (k0_off14_eq k) _ y hy h

/-- Every piece of the trips before `t` is a tile of the dequantised block. -/
theorem pb1_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S2048x1408.Idx → Elt F .fp8e4m3) (xb : S1x1x176.Idx → Elt F .f32) : ∀ (t : ℕ), t ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.rep xa) (arg5.view.rep xb) t,
      ∀ x : p.1.shape.Idx, p.2 x = deq1 xa xb (p.1.emb x)
  | 0, _ => fun p hp => absurd hp List.not_mem_nil
  | t + 1, ht => by
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.rep xa) (arg5.view.rep xb) ⟨t, ht⟩]
    intro p hp
    rcases List.mem_append.mp hp with h | h
    · exact trip1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb ⟨t, ht⟩ p h
    · exact pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb t (Nat.le_of_succ_le ht) p h

/-- The trips before `t` cover the row tiles before `t`. -/
theorem pb1_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg4.view.ty) (Xb : BufTy.Contents (Elt F) arg5.view.ty) (y : S2048x1408.Idx) : ∀ (t : ℕ), t ≤ k0_t1_loop.trips →
    (y 0).val / 128 < t → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb t, y ∈ p.1.set
  | 0, _, h => absurd h (Nat.not_lt_zero _)
  | t + 1, ht, h => by
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩]
    rcases Nat.lt_succ_iff_lt_or_eq.mp h with h | h
    · obtain ⟨p, hp, hy⟩ := pb1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb y t (Nat.le_of_succ_le ht) h
      exact ⟨p, List.mem_append_right _ hp, hy⟩
    · obtain ⟨p, hp, hy⟩ := trip1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩ y h
      exact ⟨p, List.mem_append_left _ hp, hy⟩

/-- The weight cache holding the dequantised block. -/
def cache1 (c : Dev nD) (xa : S2048x1408.Idx → Elt F .fp8e4m3) (xb : S1x1x176.Idx → Elt F .f32) :
    Buf (Elt F) ((c : Thread nD τ).loc cc0_scratch1) := scM0_1.view.rep (deq1 xa xb)

/-- Two contents of the cache that read the same are the same. -/
theorem scr1_ext (c : Dev nD) (f g : Buf (Elt F) ((c : Thread nD τ).loc cc0_scratch1)) (h : scM0_1.view.read (Elt F) f = scM0_1.view.read (Elt F) g) : f = g := h

/-- After the loop the cache is the dequantised block, whatever it held before. -/
theorem loop1 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole)
    (xa : S2048x1408.Idx → Elt F .fp8e4m3) (xb : S1x1x176.Idx → Elt F .f32) (G : Buf (Elt F) ((c : Thread nD τ).loc cc0_scratch1)) :
    scM0_1.view.writes (Elt F) G (pb_k0_t1 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg4.view.rep xa) (arg5.view.rep xb) k0_t1_loop.trips) = cache1 c xa xb := by
  have ht : 16 ≤ k0_t1_loop.trips := by decide
  have key : scM0_1.view.read (Elt F) (scM0_1.view.writes (Elt F) G (pb_k0_t1 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg4.view.rep xa) (arg5.view.rep xb) k0_t1_loop.trips)) = deq1 xa xb := by
    funext y
    exact View.read_writes_apply_of_pieces _ _ _ _ (pb1_tiles c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) xa xb _ (Nat.le_refl _)) y
      (pb1_cover c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) _ _ y _ (Nat.le_refl _) (Nat.lt_of_lt_of_le (by have h0 : (y 0).val < 2048 := (y 0).isLt; omega) ht))
  have e : scM0_1.view.read (Elt F) (cache1 c xa xb) = deq1 xa xb := View.read_rep _ _
  exact scr1_ext c _ _ (key.trans e.symm)

/-- The tile a position of the weight block lies in is one of the 176. -/
theorem tile2_lt (y : S1408x2048.Idx) : (y 0).val / 128 * 16 + (y 1).val / 128 < 176 := by
  have h0 : (y 0).val < 1408 := (y 0).isLt
  have h1 : (y 1).val < 2048 := (y 1).isLt
  omega

/-- The dequantised weight block: each code times its tile's scale. -/
def deq2 (xa : S1408x2048.Idx → Elt F .fp8e4m3) (xb : S1x1x176.Idx → Elt F .f32) : S1408x2048.Idx → Elt F .bf16 :=
  mulf (extf .bf16 (xa : FVec F S1408x2048 .fp8e4m3) bitsLt_fp8e4m3_bf16)
    (fun y => Scalar.truncf .bf16 bitsLt_bf16_f32 (xb (scaleIx _ (tile2_lt y))))

/-- One tile as the loop's body computes it is the dequantised block's tile. -/
theorem tile2 (ma : Memref sig .tc .vmem S1408x2048 .fp8e4m3) (mb : Memref sig .tc .smem S1x1x176 .f32)
    (xa : S1408x2048.Idx → Elt F .fp8e4m3) (xb : S1x1x176.Idx → Elt F .f32) (k j : ℕ) (hk : k < 11) (hj : j < 16)
    {off : Fin 2 → ℕ} {off3 : Fin 3 → ℕ} (hoff : off = ![128 * k, 128 * j]) (hoff3 : off3 = ![0, 0, 16 * k + j])
    (inb : ∀ a, off a + S128x128.size a ≤ S1408x2048.size a) (inb3 : ∀ a, off3 a + S1x1x1.size a ≤ S1x1x176.size a)
    (pf : 0 < (Rect.unit (s := S1x1x176) off3 S1x1x1.size inb3).toLoadRect.shape.numel)
    (x : (Rect.unit (s := S1408x2048) off S128x128.size inb).shape.Idx) :
    (shapeCast S128x128 (mulf (extf .bf16 (View.readAt (Elt F) ma.view (Rect.unit (s := S1408x2048) off S128x128.size inb).toLoadRect (ma.view.rep xa) : FVec F S128x128 .fp8e4m3) bitsLt_fp8e4m3_bf16)
      (broadcast S128x128 (Scalar.truncf .bf16 bitsLt_bf16_f32 (View.readAt (Elt F) mb.view (Rect.unit (s := S1x1x176) off3 S1x1x1.size inb3).toLoadRect (mb.view.rep xb) (Shape.Idx.first pf) : F .f32))) : FVec F S128x128 .bf16) shapeCasts_S128x128_S128x128) x
      = deq2 xa xb ((Rect.unit (s := S1408x2048) off S128x128.size inb).emb x) := by
  subst hoff hoff3
  rw [shapeCast_self, View.readAt_rep, View.readAt_rep]
  have h0 : (x 0).val < 128 := (x 0).isLt
  have h1 : (x 1).val < 128 := (x 1).isLt
  have e3 : (Rect.unit (s := S1x1x176) ![0, 0, 16 * k + j] S1x1x1.size inb3).toLoadRect.idx (Shape.Idx.first pf)
      = scaleIx _ (tile2_lt ((Rect.unit (s := S1408x2048) ![128 * k, 128 * j] S128x128.size inb).emb x)) := by
    funext a
    apply Fin.ext
    fin_cases a
    · rfl
    · rfl
    · show 16 * k + j + 1 * 0 = (128 * k + 1 * (x 0).val) / 128 * 16 + (128 * j + 1 * (x 1).val) / 128
      have e1 : (128 * k + 1 * (x 0).val) / 128 = k := by omega
      have e2 : (128 * j + 1 * (x 1).val) / 128 = j := by omega
      rw [e1, e2, Nat.mul_comm]; omega
  beta_reduce
  rw [e3]
  rfl

/-- Every piece of one trip is a tile of the dequantised block. -/
theorem trip2_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S1408x2048.Idx → Elt F .fp8e4m3) (xb : S1x1x176.Idx → Elt F .f32) (k : Fin k0_t2_loop.trips) :
    ∀ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg6.view.rep xa) (arg7.view.rep xb) k,
      ∀ x : p.1.shape.Idx, p.2 x = deq2 xa xb (p.1.emb x) := by
  have hk : k.val < 11 := Nat.lt_of_lt_of_le k.isLt k0_t2_abs.2.1
  unfold tripL_k0_t2 trip_k0_t2
  simp only [List.forall_mem_cons, List.not_mem_nil, false_imp_iff, forall_const, and_true]
  exact ⟨tile2 arg6 arg7 xa xb k 15 hk (by decide) (k0_off31_eq k) (k0_off15_eq k ⟨15, by decide⟩) _ _ _, tile2 arg6 arg7 xa xb k 14 hk (by decide) (k0_off30_eq k) (k0_off15_eq k ⟨14, by decide⟩) _ _ _, tile2 arg6 arg7 xa xb k 13 hk (by decide) (k0_off29_eq k) (k0_off15_eq k ⟨13, by decide⟩) _ _ _, tile2 arg6 arg7 xa xb k 12 hk (by decide) (k0_off28_eq k) (k0_off15_eq k ⟨12, by decide⟩) _ _ _, tile2 arg6 arg7 xa xb k 11 hk (by decide) (k0_off27_eq k) (k0_off15_eq k ⟨11, by decide⟩) _ _ _, tile2 arg6 arg7 xa xb k 10 hk (by decide) (k0_off26_eq k) (k0_off15_eq k ⟨10, by decide⟩) _ _ _, tile2 arg6 arg7 xa xb k 9 hk (by decide) (k0_off25_eq k) (k0_off15_eq k ⟨9, by decide⟩) _ _ _, tile2 arg6 arg7 xa xb k 8 hk (by decide) (k0_off24_eq k) (k0_off15_eq k ⟨8, by decide⟩) _ _ _, tile2 arg6 arg7 xa xb k 7 hk (by decide) (k0_off23_eq k) (k0_off15_eq k ⟨7, by decide⟩) _ _ _, tile2 arg6 arg7 xa xb k 6 hk (by decide) (k0_off22_eq k) (k0_off15_eq k ⟨6, by decide⟩) _ _ _, tile2 arg6 arg7 xa xb k 5 hk (by decide) (k0_off21_eq k) (k0_off15_eq k ⟨5, by decide⟩) _ _ _, tile2 arg6 arg7 xa xb k 4 hk (by decide) (k0_off20_eq k) (k0_off15_eq k ⟨4, by decide⟩) _ _ _, tile2 arg6 arg7 xa xb k 3 hk (by decide) (k0_off19_eq k) (k0_off15_eq k ⟨3, by decide⟩) _ _ _, tile2 arg6 arg7 xa xb k 2 hk (by decide) (k0_off18_eq k) (k0_off15_eq k ⟨2, by decide⟩) _ _ _, tile2 arg6 arg7 xa xb k 1 hk (by decide) (k0_off17_eq k) (k0_off15_eq k ⟨1, by decide⟩) _ _ _, tile2 arg6 arg7 xa xb k 0 hk (by decide) (k0_off16_eq k) (k0_off15_eq k ⟨0, by decide⟩) _ _ _, fun _ => trivial⟩

/-- A position lies in its tile. -/
theorem intile2 (k j : ℕ) {off : Fin 2 → ℕ} (hoff : off = ![128 * k, 128 * j]) (inb : ∀ a, off a + S128x128.size a ≤ S1408x2048.size a)
    (y : S1408x2048.Idx) (h0 : (y 0).val / 128 = k) (h1 : (y 1).val / 128 = j) : y ∈ (Rect.unit (s := S1408x2048) off S128x128.size inb).set := by
  subst hoff
  refine Rect.mem_set_unit.mpr fun a => ?_
  fin_cases a
  · show 128 * k ≤ (y 0).val ∧ (y 0).val < 128 * k + 128
    omega
  · show 128 * j ≤ (y 1).val ∧ (y 1).val < 128 * j + 128
    omega

/-- Position `y` of the block lies in a piece of its row tile's trip. -/
theorem trip2_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg6.view.ty) (Xb : BufTy.Contents (Elt F) arg7.view.ty) (k : Fin k0_t2_loop.trips) (y : S1408x2048.Idx) (hy : (y 0).val / 128 = k.val) :
    ∃ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb k, y ∈ p.1.set := by
  have h1 : (y 1).val < 2048 := (y 1).isLt
  have hj : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 := by omega
  unfold tripL_k0_t2 trip_k0_t2
  simp only [List.exists_mem_cons_iff]
  rcases hj with h | h | h | h | h | h | h | h | h | h | h | h | h | h | h | h
  · right; right; right; right; right; right; right; right; right; right; right; right; right; right; right; left; exact intile2 k.val 0 (k0_off16_eq k) _ y hy h
  · right; right; right; right; right; right; right; right; right; right; right; right; right; right; left; exact intile2 k.val 1 (k0_off17_eq k) _ y hy h
  · right; right; right; right; right; right; right; right; right; right; right; right; right; left; exact intile2 k.val 2 (k0_off18_eq k) _ y hy h
  · right; right; right; right; right; right; right; right; right; right; right; right; left; exact intile2 k.val 3 (k0_off19_eq k) _ y hy h
  · right; right; right; right; right; right; right; right; right; right; right; left; exact intile2 k.val 4 (k0_off20_eq k) _ y hy h
  · right; right; right; right; right; right; right; right; right; right; left; exact intile2 k.val 5 (k0_off21_eq k) _ y hy h
  · right; right; right; right; right; right; right; right; right; left; exact intile2 k.val 6 (k0_off22_eq k) _ y hy h
  · right; right; right; right; right; right; right; right; left; exact intile2 k.val 7 (k0_off23_eq k) _ y hy h
  · right; right; right; right; right; right; right; left; exact intile2 k.val 8 (k0_off24_eq k) _ y hy h
  · right; right; right; right; right; right; left; exact intile2 k.val 9 (k0_off25_eq k) _ y hy h
  · right; right; right; right; right; left; exact intile2 k.val 10 (k0_off26_eq k) _ y hy h
  · right; right; right; right; left; exact intile2 k.val 11 (k0_off27_eq k) _ y hy h
  · right; right; right; left; exact intile2 k.val 12 (k0_off28_eq k) _ y hy h
  · right; right; left; exact intile2 k.val 13 (k0_off29_eq k) _ y hy h
  · right; left; exact intile2 k.val 14 (k0_off30_eq k) _ y hy h
  · left; exact intile2 k.val 15 (k0_off31_eq k) _ y hy h

/-- Every piece of the trips before `t` is a tile of the dequantised block. -/
theorem pb2_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S1408x2048.Idx → Elt F .fp8e4m3) (xb : S1x1x176.Idx → Elt F .f32) : ∀ (t : ℕ), t ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg6.view.rep xa) (arg7.view.rep xb) t,
      ∀ x : p.1.shape.Idx, p.2 x = deq2 xa xb (p.1.emb x)
  | 0, _ => fun p hp => absurd hp List.not_mem_nil
  | t + 1, ht => by
    rw [pb_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg6.view.rep xa) (arg7.view.rep xb) ⟨t, ht⟩]
    intro p hp
    rcases List.mem_append.mp hp with h | h
    · exact trip2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb ⟨t, ht⟩ p h
    · exact pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb t (Nat.le_of_succ_le ht) p h

/-- The trips before `t` cover the row tiles before `t`. -/
theorem pb2_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg6.view.ty) (Xb : BufTy.Contents (Elt F) arg7.view.ty) (y : S1408x2048.Idx) : ∀ (t : ℕ), t ≤ k0_t2_loop.trips →
    (y 0).val / 128 < t → ∃ p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb t, y ∈ p.1.set
  | 0, _, h => absurd h (Nat.not_lt_zero _)
  | t + 1, ht, h => by
    rw [pb_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩]
    rcases Nat.lt_succ_iff_lt_or_eq.mp h with h | h
    · obtain ⟨p, hp, hy⟩ := pb2_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb y t (Nat.le_of_succ_le ht) h
      exact ⟨p, List.mem_append_right _ hp, hy⟩
    · obtain ⟨p, hp, hy⟩ := trip2_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩ y h
      exact ⟨p, List.mem_append_left _ hp, hy⟩

/-- The weight cache holding the dequantised block. -/
def cache2 (c : Dev nD) (xa : S1408x2048.Idx → Elt F .fp8e4m3) (xb : S1x1x176.Idx → Elt F .f32) :
    Buf (Elt F) ((c : Thread nD τ).loc cc0_scratch2) := scM0_2.view.rep (deq2 xa xb)

/-- Two contents of the cache that read the same are the same. -/
theorem scr2_ext (c : Dev nD) (f g : Buf (Elt F) ((c : Thread nD τ).loc cc0_scratch2)) (h : scM0_2.view.read (Elt F) f = scM0_2.view.read (Elt F) g) : f = g := h

/-- After the loop the cache is the dequantised block, whatever it held before. -/
theorem loop2 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole)
    (xa : S1408x2048.Idx → Elt F .fp8e4m3) (xb : S1x1x176.Idx → Elt F .f32) (G : Buf (Elt F) ((c : Thread nD τ).loc cc0_scratch2)) :
    scM0_2.view.writes (Elt F) G (pb_k0_t2 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg6.view.rep xa) (arg7.view.rep xb) k0_t2_loop.trips) = cache2 c xa xb := by
  have ht : 11 ≤ k0_t2_loop.trips := by decide
  have key : scM0_2.view.read (Elt F) (scM0_2.view.writes (Elt F) G (pb_k0_t2 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg6.view.rep xa) (arg7.view.rep xb) k0_t2_loop.trips)) = deq2 xa xb := by
    funext y
    exact View.read_writes_apply_of_pieces _ _ _ _ (pb2_tiles c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) xa xb _ (Nat.le_refl _)) y
      (pb2_cover c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) _ _ y _ (Nat.le_refl _) (Nat.lt_of_lt_of_le (by have h0 : (y 0).val < 1408 := (y 0).isLt; omega) ht))
  have e : scM0_2.view.read (Elt F) (cache2 c xa xb) = deq2 xa xb := View.read_rep _ _
  exact scr2_ext c _ _ (key.trans e.symm)

end Cert.Kernel.Own
-- ==== Proof.Kernel.Block.lean ====
module

public import Idealize.ShloMosaic.Lib.Ring
public import Idealize.ShloMosaic.Lib.Pipeline.FrameBody
public import proofs.«01_k».proof.Proof.Kernel.Deq

@[expose] public section

set_option maxRecDepth 16384
set_option Elab.async false

noncomputable section

/- One grid point's outputs, as the pieces its body writes: a function of the row block, the row weights and the two
   caches. A point that dequantises first writes the same pieces at the caches it has just filled. -/

namespace Cert.Kernel.Own

open Cert.Kernel Cert.Kernel.Gen
open Idealize.ShloMosaic
open Idealize.ShloMosaic.TcCoe Idealize.ShloMosaic.Tactic

variable {F : FTy → Type} [FloatOps F]

/-- The pieces a point writes into output 7's block. -/
abbrev pcs7 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x2048 .fp8e4m3) :=
  run_B.sl.HO7_16 c arg2 arg3 arg8 x0 x1 x6 xa1 xa2

/-- They tile the block. -/
theorem pcs7_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x2048.Idx) : ∃ p ∈ pcs7 c arg2 arg3 arg8 x0 x1 x6 xa1 xa2, y ∈ p.1.set :=
  View.cover_of_tiledL (pcs7 c arg2 arg3 arg8 x0 x1 x6 xa1 xa2) S128x128.size (by sl_kernel_rfl) y

theorem runB_7  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).1 = pcs7 c arg2 arg3 arg8 x0 x1 x6 xa1 xa2 := rfl

theorem runA_7  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).1 = pcs7 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

/-- The pieces a point writes into output 8's block. -/
abbrev pcs8 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x16 .f32) :=
  run_B.sl.HO8_16 c arg2 arg3 arg8 x0 x1 x6 xa1 xa2

/-- They tile the block. -/
theorem pcs8_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x16.Idx) : ∃ p ∈ pcs8 c arg2 arg3 arg8 x0 x1 x6 xa1 xa2, y ∈ p.1.set :=
  View.cover_of_tiledL (pcs8 c arg2 arg3 arg8 x0 x1 x6 xa1 xa2) S128x1.size (by sl_kernel_rfl) y

theorem runB_8  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.1 = pcs8 c arg2 arg3 arg8 x0 x1 x6 xa1 xa2 := rfl

theorem runA_8  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.1 = pcs8 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

/-- The pieces a point writes into output 9's block. -/
abbrev pcs9 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x1408 .fp8e4m3) :=
  run_B.sl.HO9_11 c arg2 arg3 x0 x1 xa1

/-- They tile the block. -/
theorem pcs9_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x1408.Idx) : ∃ p ∈ pcs9 c arg2 arg3 arg8 x0 x1 x6 xa1 xa2, y ∈ p.1.set :=
  View.cover_of_tiledL (pcs9 c arg2 arg3 arg8 x0 x1 x6 xa1 xa2) S128x128.size (by sl_kernel_rfl) y

theorem runB_9  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.1 = pcs9 c arg2 arg3 arg8 x0 x1 x6 xa1 xa2 := rfl

theorem runA_9  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.1 = pcs9 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

/-- The pieces a point writes into output 10's block. -/
abbrev pcs10 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x11 .f32) :=
  run_B.sl.HO10_11 c arg2 arg3 x0 x1 xa1

/-- They tile the block. -/
theorem pcs10_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x11.Idx) : ∃ p ∈ pcs10 c arg2 arg3 arg8 x0 x1 x6 xa1 xa2, y ∈ p.1.set :=
  View.cover_of_tiledL (pcs10 c arg2 arg3 arg8 x0 x1 x6 xa1 xa2) S128x1.size (by sl_kernel_rfl) y

theorem runB_10  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.1 = pcs10 c arg2 arg3 arg8 x0 x1 x6 xa1 xa2 := rfl

theorem runA_10  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.1 = pcs10 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

theorem runB_s1  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) : (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.1 = xa1 := rfl
theorem runB_s2  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) : (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.2.1 = xa2 := rfl
theorem runA_s1  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) : (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.1 = cache1 c x2 x3 :=
  loop1 c i arg2 harg2 arg3 harg3 arg4 harg4 arg5 harg5 arg6 harg6 arg7 harg7 arg8 harg8 arg9 harg9 arg10 harg10 arg11 harg11 arg12 harg12 x2 x3 xa1
theorem runA_s2  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) : (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.2.1 = cache2 c x4 x5 :=
  loop2 c i arg2 harg2 arg3 harg3 arg4 harg4 arg5 harg5 arg6 harg6 arg7 harg7 arg8 harg8 arg9 harg9 arg10 harg10 arg11 harg11 arg12 harg12 x4 x5 xa2

end Cert.Kernel.Own
-- ==== Proof.Kernel.Table.lean ====
module

public import Idealize.ShloMosaic.Lib.Affine
public import Idealize.ShloMosaic.Lib.ReduceAll
public import proofs.«01_k».proof.Proof.Kernel.Block
public import proofs.«01_k».proof.Proof.Gen.Kernel.Launch
public import proofs.«01_k».proof.Proof.Pre

@[expose] public section

set_option maxRecDepth 16384
set_option Elab.async false

noncomputable section

/- What the launch reads off the table of column indices: the word of a row block's first column, the expert it names, the
   blocks of the four weight operands at that expert, and when a point dequantises anew. -/

namespace Cert.Kernel.Own

open Cert.Kernel Cert.Kernel.Gen
open Idealize.ShloMosaic
open Idealize.ShloMosaic.TcCoe Idealize.ShloMosaic.Tactic

variable {F : FTy → Type} [FloatOps F]

/-- The word of row block `i`'s first column index. -/
def word (pf : pre0.Contents (Elt F)) (i : grid0.Coords) : BitVec 32 :=
  pf.at 0 (Rect.unit (s := S88x11) (k0_off1 i) S1x1.size (k0_off1_inb i)) numel1_S1x1

theorem transform_2_eq (pf : pre0.Contents (Elt F)) (i : grid0.Coords) :
    cc0_transform_2 k0_off1_inb numel1_S1x1 pf i = ![0, (Pre.expert (word pf i)).toNat] := rfl
theorem transform_3_eq (pf : pre0.Contents (Elt F)) (i : grid0.Coords) :
    cc0_transform_3 k0_off1_inb numel1_S1x1 pf i = ![(Pre.expert (word pf i)).toNat, 0, 0] := rfl
theorem transform_4_eq (pf : pre0.Contents (Elt F)) (i : grid0.Coords) :
    cc0_transform_4 k0_off1_inb numel1_S1x1 pf i = ![(Pre.expert (word pf i)).toNat, 0] := rfl
theorem transform_5_eq (pf : pre0.Contents (Elt F)) (i : grid0.Coords) :
    cc0_transform_5 k0_off1_inb numel1_S1x1 pf i = ![(Pre.expert (word pf i)).toNat, 0, 0] := rfl

/-- Where every first column names one of the 64 experts, every weight block lies inside its array. -/
theorem ok_of_words (pf : pre0.Contents (Elt F)) (h : ∀ i, (Pre.expert (word pf i)).toNat < 64) : ok0 pf := by
  unfold ok0
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · rw [transform_2_eq]; have := h i; intro a
    fin_cases a
    · show (0 + 1) * 2048 ≤ 2048; omega
    · show ((Pre.expert (word pf i)).toNat + 1) * 1408 ≤ 90112; omega
  · rw [transform_3_eq]; have := h i; intro a
    fin_cases a
    · show ((Pre.expert (word pf i)).toNat + 1) * 1 ≤ 64; omega
    · show (0 + 1) * 1 ≤ 1; omega
    · show (0 + 1) * 176 ≤ 176; omega
  · rw [transform_4_eq]; have := h i; intro a
    fin_cases a
    · show ((Pre.expert (word pf i)).toNat + 1) * 1408 ≤ 90112; omega
    · show (0 + 1) * 2048 ≤ 2048; omega
  · rw [transform_5_eq]; have := h i; intro a
    fin_cases a
    · show ((Pre.expert (word pf i)).toNat + 1) * 1 ≤ 64; omega
    · show (0 + 1) * 1 ≤ 1; omega
    · show (0 + 1) * 176 ≤ 176; omega

/-- The word at a row block is the table's entry in that row, column 0. -/
theorem word_eq (pf : pre0.Contents (Elt F)) (i : grid0.Coords) :
    word pf i = pf 0 (ValueIdx.ix2 (n0 := 88) (n1 := 11) (i 0) 0) := by
  unfold word
  refine congrArg (pf 0) (funext fun a => Fin.ext ?_)
  show (k0_off1 i) a + 1 * 0 = _
  rw [k0_off1_eq]
  fin_cases a <;> rfl

/-- The condition a point tests before it dequantises: it is the first, or its first column differs from the one before. -/
abbrev Fresh (i : grid0.Coords) (T0 : Buf (Elt F) (((0 : Dev nD) : Thread nD τ).loc main_arg6)) : Prop :=
  Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32 = 1#1

theorem k0_off2_eq : ∀ i : grid0.Coords, k0_off2 i = ![(i 0).val - 1, 0] := by decide +kernel

theorem not_guard (a b c : BitVec 32) (h : ¬ Scalar.cmpi .ne (Scalar.extui (Scalar.ori (Scalar.cmpi .eq a 0#32) (Scalar.cmpi .ne b c))) 0#32 = 1#1) :
    ¬ a = 0#32 ∧ b = c := by
  rw [Scalar.guard_iff, Scalar.ori, IntOp.ori_eq_one, Scalar.cmpi, Scalar.cmpi, IntOp.cmpi_eq, IntOp.cmpi_ne, not_or, not_not] at h
  exact h

/-- A point that does not dequantise is not the first, and its word is the one before's. -/
theorem not_fresh (pf : pre0.Contents (Elt F)) (i i' : grid0.Coords) (hi : (i' 0).val = (i 0).val - 1) (h : ¬ Fresh i (pf 0)) :
    (i 0).val ≠ 0 ∧ word pf i' = word pf i := by
  replace h := not_guard _ _ _ h
  refine ⟨fun h0 => h.1 (by rw [h0]), ?_⟩
  refine Eq.trans ?_ (h.2.trans ?_)
  · rw [word_eq]
    refine congrArg (pf 0) (funext fun a => Fin.ext ?_)
    show _ = (k0_off2 i) a + 1 * 0
    rw [k0_off2_eq]
    fin_cases a
    · exact hi
    · rfl
  · rfl

end Cert.Kernel.Own
-- ==== Proof.Kernel.Dats.lean ====
module

public import Idealize.ShloMosaic.Lib.Pipeline.Quiescent
public import Idealize.ShloMosaic.Lib.Pipeline.Frame
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import proofs.«01_k».proof.Proof.Kernel.Table

@[expose] public section

set_option maxRecDepth 16384
set_option Elab.async false

noncomputable section

/- The launch: every point's body, what each leaves in its outputs' blocks, and the run of the whole grid. Before a point the
   two caches hold the weights of the point before it, dequantised. -/

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table as launched. -/
def tab : pre0.Contents (Elt F) := fun k => m (((0 : Dev nD) : Thread nD τ).loc (pre0.ref k))

/-- The buffers as the launch finds them: after the host's reshapes. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_tab (c : Dev nD) (k : Fin 1) : V m c (pre0.ref k) = tab m k := by
  have h0 : c = 0 := Subsingleton.elim _ _
  subst h0
  fin_cases k
  exact V_arg6 m 0

variable (hok : ok0 (tab m))

def adm : (pcfg0 (F := F)).Adm := ⟨tab m, hok⟩
abbrev cfgA : Pipeline.Cfg sig Λ₀ := cfg0 (F := F) (adm m hok)
abbrev pcs : Fin 1 → Pipeline.Cfg sig Λ₀ := Pipeline.pin (pcfgs (F := F)) fun _ => adm m hok

abbrev crd (t : Fin (cfgA m hok).N) : (cfgA m hok).grid.Coords := (cfgA m hok).grid.coords t

abbrev ms_0 (t : Fin (cfgA m hok).N) : Memref sig .tc .vmem S128x2048 .fp8e4m3 := spec0_0.stage ((cfgA m hok).slots t (0 : Fin 11))
abbrev hs_0 (t : Fin (cfgA m hok).N) : (ms_0 m hok t).IsWhole := hstage0_0 (((cfgA m hok).slots t (0 : Fin 11)).cast nbuf0_0)
abbrev ms_1 (t : Fin (cfgA m hok).N) : Memref sig .tc .vmem S128x16 .f32 := spec0_1.stage ((cfgA m hok).slots t (1 : Fin 11))
abbrev hs_1 (t : Fin (cfgA m hok).N) : (ms_1 m hok t).IsWhole := hstage0_1 (((cfgA m hok).slots t (1 : Fin 11)).cast nbuf0_1)
abbrev ms_2 (t : Fin (cfgA m hok).N) : Memref sig .tc .vmem S2048x1408 .fp8e4m3 := spec0_2.stage ((cfgA m hok).slots t (2 : Fin 11))
abbrev hs_2 (t : Fin (cfgA m hok).N) : (ms_2 m hok t).IsWhole := hstage0_2 (((cfgA m hok).slots t (2 : Fin 11)).cast nbuf0_2)
abbrev ms_3 (t : Fin (cfgA m hok).N) : Memref sig .tc .smem S1x1x176 .f32 := spec0_3.stage ((cfgA m hok).slots t (3 : Fin 11))
abbrev hs_3 (t : Fin (cfgA m hok).N) : (ms_3 m hok t).IsWhole := hstage0_3 (((cfgA m hok).slots t (3 : Fin 11)).cast nbuf0_3)
abbrev ms_4 (t : Fin (cfgA m hok).N) : Memref sig .tc .vmem S1408x2048 .fp8e4m3 := spec0_4.stage ((cfgA m hok).slots t (4 : Fin 11))
abbrev hs_4 (t : Fin (cfgA m hok).N) : (ms_4 m hok t).IsWhole := hstage0_4 (((cfgA m hok).slots t (4 : Fin 11)).cast nbuf0_4)
abbrev ms_5 (t : Fin (cfgA m hok).N) : Memref sig .tc .smem S1x1x176 .f32 := spec0_5.stage ((cfgA m hok).slots t (5 : Fin 11))
abbrev hs_5 (t : Fin (cfgA m hok).N) : (ms_5 m hok t).IsWhole := hstage0_5 (((cfgA m hok).slots t (5 : Fin 11)).cast nbuf0_5)
abbrev ms_6 (t : Fin (cfgA m hok).N) : Memref sig .tc .vmem S128x1 .f32 := spec0_6.stage ((cfgA m hok).slots t (6 : Fin 11))
abbrev hs_6 (t : Fin (cfgA m hok).N) : (ms_6 m hok t).IsWhole := hstage0_6 (((cfgA m hok).slots t (6 : Fin 11)).cast nbuf0_6)
abbrev ms_7 (t : Fin (cfgA m hok).N) : Memref sig .tc .vmem S128x2048 .fp8e4m3 := spec0_7.stage ((cfgA m hok).slots t (7 : Fin 11))
abbrev hs_7 (t : Fin (cfgA m hok).N) : (ms_7 m hok t).IsWhole := hstage0_7 (((cfgA m hok).slots t (7 : Fin 11)).cast nbuf0_7)
abbrev ms_8 (t : Fin (cfgA m hok).N) : Memref sig .tc .vmem S128x16 .f32 := spec0_8.stage ((cfgA m hok).slots t (8 : Fin 11))
abbrev hs_8 (t : Fin (cfgA m hok).N) : (ms_8 m hok t).IsWhole := hstage0_8 (((cfgA m hok).slots t (8 : Fin 11)).cast nbuf0_8)
abbrev ms_9 (t : Fin (cfgA m hok).N) : Memref sig .tc .vmem S128x1408 .fp8e4m3 := spec0_9.stage ((cfgA m hok).slots t (9 : Fin 11))
abbrev hs_9 (t : Fin (cfgA m hok).N) : (ms_9 m hok t).IsWhole := hstage0_9 (((cfgA m hok).slots t (9 : Fin 11)).cast nbuf0_9)
abbrev ms_10 (t : Fin (cfgA m hok).N) : Memref sig .tc .vmem S128x11 .f32 := spec0_10.stage ((cfgA m hok).slots t (10 : Fin 11))
abbrev hs_10 (t : Fin (cfgA m hok).N) : (ms_10 m hok t).IsWhole := hstage0_10 (((cfgA m hok).slots t (10 : Fin 11)).cast nbuf0_10)

/-- Window `w`'s block at point `t`. -/
def iblk (c : Dev nD) (w : Fin (cfgA m hok).W) (t : Fin (cfgA m hok).N) : (((cfgA m hok).win w).xblock (crd m hok t)).Idx → Elt F ((cfgA m hok).win w).elt :=
  (((cfgA m hok).win w).blk t).view.read (Elt F) (V m c (Pipeline.arrRef spec0 w))

theorem iblk2_congr (c : Dev nD) (t t' : Fin (cfgA m hok).N) (h : word (tab m) (crd m hok t') = word (tab m) (crd m hok t)) :
    (iblk m hok c (2 : Fin 11) t' : S2048x1408.Idx → Elt F .fp8e4m3) = (iblk m hok c (2 : Fin 11) t : S2048x1408.Idx → Elt F .fp8e4m3) := by
  funext x
  unfold iblk
  refine congrArg (V m c (Pipeline.arrRef spec0 (2 : Fin 11))) (funext fun a => Fin.ext ?_)
  show cc0_transform_2 k0_off1_inb numel1_S1x1 (tab m) (crd m hok t') a * S2048x1408.size a + 1 * (x a).val
    = cc0_transform_2 k0_off1_inb numel1_S1x1 (tab m) (crd m hok t) a * S2048x1408.size a + 1 * (x a).val
  rw [transform_2_eq, transform_2_eq, h]

theorem iblk3_congr (c : Dev nD) (t t' : Fin (cfgA m hok).N) (h : word (tab m) (crd m hok t') = word (tab m) (crd m hok t)) :
    (iblk m hok c (3 : Fin 11) t' : S1x1x176.Idx → Elt F .f32) = (iblk m hok c (3 : Fin 11) t : S1x1x176.Idx → Elt F .f32) := by
  funext x
  unfold iblk
  refine congrArg (V m c (Pipeline.arrRef spec0 (3 : Fin 11))) (funext fun a => Fin.ext ?_)
  show cc0_transform_3 k0_off1_inb numel1_S1x1 (tab m) (crd m hok t') a * S1x1x176.size a + 1 * (x a).val
    = cc0_transform_3 k0_off1_inb numel1_S1x1 (tab m) (crd m hok t) a * S1x1x176.size a + 1 * (x a).val
  rw [transform_3_eq, transform_3_eq, h]

theorem iblk4_congr (c : Dev nD) (t t' : Fin (cfgA m hok).N) (h : word (tab m) (crd m hok t') = word (tab m) (crd m hok t)) :
    (iblk m hok c (4 : Fin 11) t' : S1408x2048.Idx → Elt F .fp8e4m3) = (iblk m hok c (4 : Fin 11) t : S1408x2048.Idx → Elt F .fp8e4m3) := by
  funext x
  unfold iblk
  refine congrArg (V m c (Pipeline.arrRef spec0 (4 : Fin 11))) (funext fun a => Fin.ext ?_)
  show cc0_transform_4 k0_off1_inb numel1_S1x1 (tab m) (crd m hok t') a * S1408x2048.size a + 1 * (x a).val
    = cc0_transform_4 k0_off1_inb numel1_S1x1 (tab m) (crd m hok t) a * S1408x2048.size a + 1 * (x a).val
  rw [transform_4_eq, transform_4_eq, h]

theorem iblk5_congr (c : Dev nD) (t t' : Fin (cfgA m hok).N) (h : word (tab m) (crd m hok t') = word (tab m) (crd m hok t)) :
    (iblk m hok c (5 : Fin 11) t' : S1x1x176.Idx → Elt F .f32) = (iblk m hok c (5 : Fin 11) t : S1x1x176.Idx → Elt F .f32) := by
  funext x
  unfold iblk
  refine congrArg (V m c (Pipeline.arrRef spec0 (5 : Fin 11))) (funext fun a => Fin.ext ?_)
  show cc0_transform_5 k0_off1_inb numel1_S1x1 (tab m) (crd m hok t') a * S1x1x176.size a + 1 * (x a).val
    = cc0_transform_5 k0_off1_inb numel1_S1x1 (tab m) (crd m hok t) a * S1x1x176.size a + 1 * (x a).val
  rw [transform_5_eq, transform_5_eq, h]

/-- The two caches after point `t`: its expert's weights, dequantised. -/
def held1 (c : Dev nD) (t : Fin (cfgA m hok).N) : Buf (Elt F) ((c : Thread nD τ).loc cc0_scratch1) :=
  cache1 c (iblk m hok c (2 : Fin 11) t : S2048x1408.Idx → Elt F .fp8e4m3) (iblk m hok c (3 : Fin 11) t : S1x1x176.Idx → Elt F .f32)
def held2 (c : Dev nD) (t : Fin (cfgA m hok).N) : Buf (Elt F) ((c : Thread nD τ).loc cc0_scratch2) :=
  cache2 c (iblk m hok c (4 : Fin 11) t : S1408x2048.Idx → Elt F .fp8e4m3) (iblk m hok c (5 : Fin 11) t : S1x1x176.Idx → Elt F .f32)

/-- What point `t` leaves in output 7's block. -/
def outb7 (c : Dev nD) (t : Fin (cfgA m hok).N) : S128x2048.Idx → Elt F .fp8e4m3 :=
  View.canon (pcs7 c (ms_0 m hok t) (ms_1 m hok t) (ms_6 m hok t) (iblk m hok c (0 : Fin 11) t) (iblk m hok c (1 : Fin 11) t) (iblk m hok c (6 : Fin 11) t)
    (held1 m hok c t) (held2 m hok c t))

/-- What point `t` leaves in output 8's block. -/
def outb8 (c : Dev nD) (t : Fin (cfgA m hok).N) : S128x16.Idx → Elt F .f32 :=
  View.canon (pcs8 c (ms_0 m hok t) (ms_1 m hok t) (ms_6 m hok t) (iblk m hok c (0 : Fin 11) t) (iblk m hok c (1 : Fin 11) t) (iblk m hok c (6 : Fin 11) t)
    (held1 m hok c t) (held2 m hok c t))

/-- What point `t` leaves in output 9's block. -/
def outb9 (c : Dev nD) (t : Fin (cfgA m hok).N) : S128x1408.Idx → Elt F .fp8e4m3 :=
  View.canon (pcs9 c (ms_0 m hok t) (ms_1 m hok t) (ms_6 m hok t) (iblk m hok c (0 : Fin 11) t) (iblk m hok c (1 : Fin 11) t) (iblk m hok c (6 : Fin 11) t)
    (held1 m hok c t) (held2 m hok c t))

/-- What point `t` leaves in output 10's block. -/
def outb10 (c : Dev nD) (t : Fin (cfgA m hok).N) : S128x11.Idx → Elt F .f32 :=
  View.canon (pcs10 c (ms_0 m hok t) (ms_1 m hok t) (ms_6 m hok t) (iblk m hok c (0 : Fin 11) t) (iblk m hok c (1 : Fin 11) t) (iblk m hok c (6 : Fin 11) t)
    (held1 m hok c t) (held2 m hok c t))

/-- The invariant before position `n`: the scratch buffers, the caches at the weights of the point before, the table. -/
def Phi (c : Dev nD) (t : Fin ((cfgA m hok).N + 1)) : sProp 𝕄 :=
  iprop((∃ a, (scM0_0.view.loc (c : Thread nD τ) ↦{fullShare} a))
    ∗ (∃ a, ⌜∀ t' : Fin (cfgA m hok).N, t.val = t'.val + 1 → a = held1 m hok c t'⌝ ∗ (scM0_1.view.loc (c : Thread nD τ) ↦{fullShare} a))
    ∗ (∃ a, ⌜∀ t' : Fin (cfgA m hok).N, t.val = t'.val + 1 → a = held2 m hok c t'⌝ ∗ (scM0_2.view.loc (c : Thread nD τ) ↦{fullShare} a))
    ∗ (∃ a, (scM0_3.view.loc (c : Thread nD τ) ↦{fullShare} a))
    ∗ (tbM0_0.view.loc (c : Thread nD τ) ↦{fullShare.right} (tab m 0 : S88x11.Idx → Elt F .i32))
    ∗ ∃ r, prngReg c r)

/-- The proof data of the pipeline on core `c`. -/
def dats (_ : Fin 1) (c : Dev nD) : Dat τ (Elt F) Unit ℕ (UR sig nD τ) ℕ (cfgA m hok) c where
  A w := V m c (Pipeline.arrRef spec0 w)
  after w t := match w with
    | ⟨0, _⟩ => iblk m hok c (0 : Fin 11) t
    | ⟨1, _⟩ => iblk m hok c (1 : Fin 11) t
    | ⟨2, _⟩ => iblk m hok c (2 : Fin 11) t
    | ⟨3, _⟩ => iblk m hok c (3 : Fin 11) t
    | ⟨4, _⟩ => iblk m hok c (4 : Fin 11) t
    | ⟨5, _⟩ => iblk m hok c (5 : Fin 11) t
    | ⟨6, _⟩ => iblk m hok c (6 : Fin 11) t
    | ⟨7, _⟩ => outb7 m hok c t
    | ⟨8, _⟩ => outb8 m hok c t
    | ⟨9, _⟩ => outb9 m hok c t
    | ⟨10, _⟩ => outb10 m hok c t
  Φ t := Phi m hok c t
  q _ := fullShare
  owed _ := 0

theorem A_eq (c : Dev nD) (w : Fin (cfgA m hok).W) : (dats m hok 0 c).A w = V m c (Pipeline.arrRef spec0 w) := by
  dsimp only [dats]

theorem after_0 (c : Dev nD) (t : Fin (cfgA m hok).N) : (dats m hok 0 c).after (0 : Fin 11) t = iblk m hok c (0 : Fin 11) t := by dsimp only [dats]
theorem after_1 (c : Dev nD) (t : Fin (cfgA m hok).N) : (dats m hok 0 c).after (1 : Fin 11) t = iblk m hok c (1 : Fin 11) t := by dsimp only [dats]
theorem after_2 (c : Dev nD) (t : Fin (cfgA m hok).N) : (dats m hok 0 c).after (2 : Fin 11) t = iblk m hok c (2 : Fin 11) t := by dsimp only [dats]
theorem after_3 (c : Dev nD) (t : Fin (cfgA m hok).N) : (dats m hok 0 c).after (3 : Fin 11) t = iblk m hok c (3 : Fin 11) t := by dsimp only [dats]
theorem after_4 (c : Dev nD) (t : Fin (cfgA m hok).N) : (dats m hok 0 c).after (4 : Fin 11) t = iblk m hok c (4 : Fin 11) t := by dsimp only [dats]
theorem after_5 (c : Dev nD) (t : Fin (cfgA m hok).N) : (dats m hok 0 c).after (5 : Fin 11) t = iblk m hok c (5 : Fin 11) t := by dsimp only [dats]
theorem after_6 (c : Dev nD) (t : Fin (cfgA m hok).N) : (dats m hok 0 c).after (6 : Fin 11) t = iblk m hok c (6 : Fin 11) t := by dsimp only [dats]
theorem after_7 (c : Dev nD) (t : Fin (cfgA m hok).N) : (dats m hok 0 c).after (7 : Fin 11) t = outb7 m hok c t := by dsimp only [dats]
theorem after_8 (c : Dev nD) (t : Fin (cfgA m hok).N) : (dats m hok 0 c).after (8 : Fin 11) t = outb8 m hok c t := by dsimp only [dats]
theorem after_9 (c : Dev nD) (t : Fin (cfgA m hok).N) : (dats m hok 0 c).after (9 : Fin 11) t = outb9 m hok c t := by dsimp only [dats]
theorem after_10 (c : Dev nD) (t : Fin (cfgA m hok).N) : (dats m hok 0 c).after (10 : Fin 11) t = outb10 m hok c t := by dsimp only [dats]

theorem before_0 (c : Dev nD) (t : Fin (cfgA m hok).N) (d) : (dats m hok 0 c).before (0 : Fin 11) t d = iblk m hok c (0 : Fin 11) t :=
  ((dats m hok 0 c).before_in_eq_fetched (0 : Fin 11) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hok).N) (d) : (dats m hok 0 c).before (1 : Fin 11) t d = iblk m hok c (1 : Fin 11) t :=
  ((dats m hok 0 c).before_in_eq_fetched (1 : Fin 11) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hok).N) (d) : (dats m hok 0 c).before (2 : Fin 11) t d = iblk m hok c (2 : Fin 11) t :=
  ((dats m hok 0 c).before_in_eq_fetched (2 : Fin 11) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m hok).N) (d) : (dats m hok 0 c).before (3 : Fin 11) t d = iblk m hok c (3 : Fin 11) t :=
  ((dats m hok 0 c).before_in_eq_fetched (3 : Fin 11) rfl (fun _ => rfl) (fun _ _ _ => rfl) (fun t => by rw [after_3]; unfold Dat.blockOf iblk; rfl) t d).trans
    (by unfold Dat.fetched Dat.blockOf iblk; rfl)
theorem before_4 (c : Dev nD) (t : Fin (cfgA m hok).N) (d) : (dats m hok 0 c).before (4 : Fin 11) t d = iblk m hok c (4 : Fin 11) t :=
  ((dats m hok 0 c).before_in_eq_fetched (4 : Fin 11) rfl (fun _ => rfl) (fun _ _ _ => rfl) (fun t => by rw [after_4]; unfold Dat.blockOf iblk; rfl) t d).trans
    (by unfold Dat.fetched Dat.blockOf iblk; rfl)
theorem before_5 (c : Dev nD) (t : Fin (cfgA m hok).N) (d) : (dats m hok 0 c).before (5 : Fin 11) t d = iblk m hok c (5 : Fin 11) t :=
  ((dats m hok 0 c).before_in_eq_fetched (5 : Fin 11) rfl (fun _ => rfl) (fun _ _ _ => rfl) (fun t => by rw [after_5]; unfold Dat.blockOf iblk; rfl) t d).trans
    (by unfold Dat.fetched Dat.blockOf iblk; rfl)
theorem before_6 (c : Dev nD) (t : Fin (cfgA m hok).N) (d) : (dats m hok 0 c).before (6 : Fin 11) t d = iblk m hok c (6 : Fin 11) t :=
  ((dats m hok 0 c).before_in_eq_fetched (6 : Fin 11) rfl (fun _ => rfl) (fun _ _ _ => rfl) (fun t => by rw [after_6]; unfold Dat.blockOf iblk; rfl) t d).trans
    (by unfold Dat.fetched Dat.blockOf iblk; rfl)

/-- The body at point `t` on its staging buffers. -/
abbrev bodyAt (t : Fin (cfgA m hok).N) : Prog (TpuEff nD τ sig (Elt F) Λ₀ .tc) PUnit :=
  cc0__body (crd m hok t) (Memref.whole main_arg6) (Memref.isWhole_whole _) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Own
-- ==== Proof.Kernel.Frame.lean ====
module

public import Idealize.ShloMosaic.Lib.Pipeline.Quiescent
public import Idealize.ShloMosaic.Lib.Pipeline.Frame
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import proofs.«01_k».proof.Proof.Kernel.Dats

@[expose] public section

set_option maxRecDepth 16384
set_option Elab.async false

noncomputable section

/- The run of the launch: every point's body, what each leaves in its outputs' blocks, and the run of the whole grid. Before a point the
   two caches hold the weights of the point before it, dequantised. -/

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hok : ok0 (tab m))

theorem hset1 : (scM0_1 : Memref sig .tc .vmem S2048x1408 .bf16).view.set = Finset.univ := (Memref.isWhole_whole _ : scM0_1.IsWhole).set_eq_univ
theorem hset2 : (scM0_2 : Memref sig .tc .vmem S1408x2048 .bf16).view.set = Finset.univ := (Memref.isWhole_whole _ : scM0_2.IsWhole).set_eq_univ

theorem crd_val (t : Fin (cfgA m hok).N) : (crd m hok t 0).val = t.val := by
  exact (Pipeline.Grid.coords_val t 0 (S := 1) (B := 88) rfl rfl).trans (by rw [Nat.div_one]; exact Nat.mod_eq_of_lt (by have := t.isLt; have e : (cfgA m hok).N = 88 := N_0; omega))

set_option maxHeartbeats 4000000 in
/-- The body at point `t`, whichever way its test goes. -/
theorem sound_body (c : Dev nD) (t : Fin (cfgA m hok).N) :
    iprop((dats m hok 0 c).Φ t.castSucc ∗ (dats m hok 0 c).owesAt () t.castSucc
        ∗ (∃ d, owns (c : Thread nD τ) (ms_0 m hok t) fullShare ((dats m hok 0 c).before (0 : Fin 11) t d)) ∗ (∃ d, owns (c : Thread nD τ) (ms_1 m hok t) fullShare ((dats m hok 0 c).before (1 : Fin 11) t d)) ∗ (∃ d, owns (c : Thread nD τ) (ms_2 m hok t) fullShare ((dats m hok 0 c).before (2 : Fin 11) t d)) ∗ (∃ d, owns (c : Thread nD τ) (ms_3 m hok t) fullShare ((dats m hok 0 c).before (3 : Fin 11) t d)) ∗ (∃ d, owns (c : Thread nD τ) (ms_4 m hok t) fullShare ((dats m hok 0 c).before (4 : Fin 11) t d)) ∗ (∃ d, owns (c : Thread nD τ) (ms_5 m hok t) fullShare ((dats m hok 0 c).before (5 : Fin 11) t d)) ∗ (∃ d, owns (c : Thread nD τ) (ms_6 m hok t) fullShare ((dats m hok 0 c).before (6 : Fin 11) t d)) ∗ (∃ d, owns (c : Thread nD τ) (ms_7 m hok t) fullShare ((dats m hok 0 c).before (7 : Fin 11) t d)) ∗ (∃ d, owns (c : Thread nD τ) (ms_8 m hok t) fullShare ((dats m hok 0 c).before (8 : Fin 11) t d)) ∗ (∃ d, owns (c : Thread nD τ) (ms_9 m hok t) fullShare ((dats m hok 0 c).before (9 : Fin 11) t d)) ∗ (∃ d, owns (c : Thread nD τ) (ms_10 m hok t) fullShare ((dats m hok 0 c).before (10 : Fin 11) t d)))
      ⊢ wp frame (wpE (defs₀ (F := F)) Variants.none c none) Set.univ (bodyAt m hok t) fun _ =>
          iprop((dats m hok 0 c).Φ t.succ ∗ (dats m hok 0 c).owesAt () t.succ
            ∗ owns (c : Thread nD τ) (ms_0 m hok t) fullShare ((dats m hok 0 c).after (0 : Fin 11) t) ∗ owns (c : Thread nD τ) (ms_1 m hok t) fullShare ((dats m hok 0 c).after (1 : Fin 11) t) ∗ owns (c : Thread nD τ) (ms_2 m hok t) fullShare ((dats m hok 0 c).after (2 : Fin 11) t) ∗ owns (c : Thread nD τ) (ms_3 m hok t) fullShare ((dats m hok 0 c).after (3 : Fin 11) t) ∗ owns (c : Thread nD τ) (ms_4 m hok t) fullShare ((dats m hok 0 c).after (4 : Fin 11) t) ∗ owns (c : Thread nD τ) (ms_5 m hok t) fullShare ((dats m hok 0 c).after (5 : Fin 11) t) ∗ owns (c : Thread nD τ) (ms_6 m hok t) fullShare ((dats m hok 0 c).after (6 : Fin 11) t) ∗ owns (c : Thread nD τ) (ms_7 m hok t) fullShare ((dats m hok 0 c).after (7 : Fin 11) t) ∗ owns (c : Thread nD τ) (ms_8 m hok t) fullShare ((dats m hok 0 c).after (8 : Fin 11) t) ∗ owns (c : Thread nD τ) (ms_9 m hok t) fullShare ((dats m hok 0 c).after (9 : Fin 11) t) ∗ owns (c : Thread nD τ) (ms_10 m hok t) fullShare ((dats m hok 0 c).after (10 : Fin 11) t)) := by
  simp only [before_0, before_1, before_2, before_3, before_4, before_5, before_6, after_0, after_1, after_2, after_3, after_4, after_5, after_6, after_7, after_8, after_9, after_10]
  rewrite [show (dats m hok 0 c).Φ t.succ = Phi m hok c t.succ from rfl, show (dats m hok 0 c).Φ t.castSucc = Phi m hok c t.castSucc from rfl,
    show (dats m hok 0 c).owesAt () t.succ = (dats m hok 0 c).owesAt () t.castSucc from rfl]
  unfold Phi
  by_cases q0 : Fresh (F := F) (crd m hok t) (tab m 0)
  · skip
    iintro ⟨⟨⟨%a0, HS0⟩, ⟨%a1, %h1, HS1⟩, ⟨%a2, %h2, HS2⟩, ⟨%a3, HS3⟩, HT0, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have h7r := runA_7 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have h8r := runA_8 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have h9r := runA_9 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have h10r := runA_10 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have hs1r := runA_s1 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have hs2r := runA_s2 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    generalize run_A c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0 = r at h7r h8r h9r h10r hs1r hs2r
    obtain ⟨o7, o8, o9, o10, s0, s1, s2, s3, R⟩ := r
    dsimp only at h7r h8r h9r h10r hs1r hs2r R
    rw [hset1, hset2] at R
    rw [h7r, h8r, h9r, h10r, hs1r, hs2r] at R
    iapply (R a0 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, HT0, ⟨%e7, H7⟩, ⟨%e8, H8⟩, ⟨%e9, H9⟩, ⟨%e10, H10⟩, HS0, HS1, HS2, HS3⟩
    isplitl [HS0 HS1 HS2 HS3 HT0 HP]
    · isplitl [HS0]; · iexists _; iexact HS0
      isplitl [HS1]
      · iexists _; isplitr; swap
        · iexact HS1
        · ipureintro; intro t' ht'
          have : t' = t := Fin.ext (by have h : t.val + 1 = t'.val + 1 := ht'; omega)
          subst this; rfl
      isplitl [HS2]
      · iexists _; isplitr; swap
        · iexact HS2
        · ipureintro; intro t' ht'
          have : t' = t := Fin.ext (by have h : t.val + 1 = t'.val + 1 := ht'; omega)
          subst this; rfl
      isplitl [HS3]; · iexists _; iexact HS3
      isplitl [HT0]; · iexact HT0
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]
    · unfold owns; iexists _; isplitr; swap
      · iexact H7
      · ipureintro; unfold outb7; exact View.read_writes_eq_canon _ _ _ (pcs7_cover c _ _ _ _ _ _ _ _)
    isplitl [H8]
    · unfold owns; iexists _; isplitr; swap
      · iexact H8
      · ipureintro; unfold outb8; exact View.read_writes_eq_canon _ _ _ (pcs8_cover c _ _ _ _ _ _ _ _)
    isplitl [H9]
    · unfold owns; iexists _; isplitr; swap
      · iexact H9
      · ipureintro; unfold outb9; exact View.read_writes_eq_canon _ _ _ (pcs9_cover c _ _ _ _ _ _ _ _)
    unfold owns; iexists _; isplitr; swap
    · iexact H10
    · ipureintro; unfold outb10; exact View.read_writes_eq_canon _ _ _ (pcs10_cover c _ _ _ _ _ _ _ _)
  · have hne : t.val ≠ 0 := fun h0 => (not_fresh (tab m) (crd m hok t) (crd m hok t) (by rw [crd_val]; omega) q0).1 (by rw [crd_val]; exact h0)
    have hw := (not_fresh (tab m) (crd m hok t) (crd m hok ⟨t.val - 1, by omega⟩) (by rw [crd_val, crd_val]) q0).2
    iintro ⟨⟨⟨%a0, HS0⟩, ⟨%a1, %h1, HS1⟩, ⟨%a2, %h2, HS2⟩, ⟨%a3, HS3⟩, HT0, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have e1 : a1 = held1 m hok c t := by
      rw [h1 ⟨t.val - 1, by omega⟩ (by show t.val = t.val - 1 + 1; omega)]
      unfold held1
      rw [iblk2_congr m hok c t ⟨t.val - 1, by omega⟩ hw, iblk3_congr m hok c t ⟨t.val - 1, by omega⟩ hw]
    have e2 : a2 = held2 m hok c t := by
      rw [h2 ⟨t.val - 1, by omega⟩ (by show t.val = t.val - 1 + 1; omega)]
      unfold held2
      rw [iblk4_congr m hok c t ⟨t.val - 1, by omega⟩ hw, iblk5_congr m hok c t ⟨t.val - 1, by omega⟩ hw]
    obtain ⟨r, h7r, h8r, h9r, h10r, hs1r, hs2r⟩ : ∃ r : type_of% (run_B c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0), r.1 = pcs7 c (ms_0 m hok t) (ms_1 m hok t) (ms_6 m hok t) (iblk m hok c (0 : Fin 11) t) (iblk m hok c (1 : Fin 11) t) (iblk m hok c (6 : Fin 11) t) a1 a2 ∧ r.2.1 = pcs8 c (ms_0 m hok t) (ms_1 m hok t) (ms_6 m hok t) (iblk m hok c (0 : Fin 11) t) (iblk m hok c (1 : Fin 11) t) (iblk m hok c (6 : Fin 11) t) a1 a2 ∧ r.2.2.1 = pcs9 c (ms_0 m hok t) (ms_1 m hok t) (ms_6 m hok t) (iblk m hok c (0 : Fin 11) t) (iblk m hok c (1 : Fin 11) t) (iblk m hok c (6 : Fin 11) t) a1 a2 ∧ r.2.2.2.1 = pcs10 c (ms_0 m hok t) (ms_1 m hok t) (ms_6 m hok t) (iblk m hok c (0 : Fin 11) t) (iblk m hok c (1 : Fin 11) t) (iblk m hok c (6 : Fin 11) t) a1 a2 ∧ r.2.2.2.2.2.1 = a1 ∧ r.2.2.2.2.2.2.1 = a2 :=
      ⟨run_B c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0, runB_7 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_8 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_9 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_10 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_s1 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_s2 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0⟩
    obtain ⟨o7, o8, o9, o10, s0, s1, s2, s3, R⟩ := r
    dsimp only at h7r h8r h9r h10r hs1r hs2r R
    rw [h7r, h8r, h9r, h10r, hs1r, hs2r] at R
    clear h7r h8r h9r h10r hs1r hs2r
    subst e1 e2
    iapply (R a0 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, HT0, ⟨%e7, H7⟩, ⟨%e8, H8⟩, ⟨%e9, H9⟩, ⟨%e10, H10⟩, HS0, HS1, HS2, HS3⟩
    isplitl [HS0 HS1 HS2 HS3 HT0 HP]
    · isplitl [HS0]; · iexists _; iexact HS0
      isplitl [HS1]
      · iexists _; isplitr; swap
        · iexact HS1
        · ipureintro; intro t' ht'
          have : t' = t := Fin.ext (by have h : t.val + 1 = t'.val + 1 := ht'; omega)
          subst this; rfl
      isplitl [HS2]
      · iexists _; isplitr; swap
        · iexact HS2
        · ipureintro; intro t' ht'
          have : t' = t := Fin.ext (by have h : t.val + 1 = t'.val + 1 := ht'; omega)
          subst this; rfl
      isplitl [HS3]; · iexists _; iexact HS3
      isplitl [HT0]; · iexact HT0
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]
    · unfold owns; iexists _; isplitr; swap
      · iexact H7
      · ipureintro; unfold outb7; exact View.read_writes_eq_canon _ _ _ (pcs7_cover c _ _ _ _ _ _ _ _)
    isplitl [H8]
    · unfold owns; iexists _; isplitr; swap
      · iexact H8
      · ipureintro; unfold outb8; exact View.read_writes_eq_canon _ _ _ (pcs8_cover c _ _ _ _ _ _ _ _)
    isplitl [H9]
    · unfold owns; iexists _; isplitr; swap
      · iexact H9
      · ipureintro; unfold outb9; exact View.read_writes_eq_canon _ _ _ (pcs9_cover c _ _ _ _ _ _ _ _)
    unfold owns; iexists _; isplitr; swap
    · iexact H10
    · ipureintro; unfold outb10; exact View.read_writes_eq_canon _ _ _ (pcs10_cover c _ _ _ _ _ _ _ _)

/-- The body table's row at point `t`'s slots is the body as `bodyAt` spells it. -/
theorem defs₀_row (t : Fin (cfgA m hok).N) :
    defs₀ (F := F) .tc (cfgA m hok).body ((cfgA m hok).bodyArgs t ((cfgA m hok).slots t)) = bodyAt m hok t := by
  unfold defs₀; rw [Defs.onTc_tc]

theorem body_obligation (c : Dev nD) : BodyObligation (dats m hok 0 c) (defs₀ (F := F)) Variants.none () Set.univ := fun t => by
  rw [bigSep_W0, bigSep_W0]
  exact sound_body m hok c t

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg6) ↦{q 0} v 0)) := by
  unfold Pipeline.prefHeld
  rw [show (Finset.univ : Finset (Fin 1)) = {(0 : Fin 1)} from by decide, bigSep_singleton]
  rfl

theorem phi_in (c : Dev nD) : iprop(Pipeline.ΦA spec0 c ∗ Pipeline.ΦT pre0 (adm m hok).1 c) ⊢ (dats m hok 0 c).Φ 0 := by
  unfold Pipeline.ΦA
  rw [show (Pipeline.ΦT pre0 (adm m hok).1 c : sProp 𝕄) = Pipeline.prefHeld pre0 c (fun _ => fullShare.right) (adm m hok).1 from rfl, prefHeld_eq, scopedRest0_eq, show (dats m hok 0 c).Φ 0 = Phi m hok c 0 from rfl]
  unfold Phi
  iintro ⟨⟨⟨⟨%a0, HS0⟩, ⟨%a1, HS1⟩, ⟨%a2, HS2⟩, ⟨%a3, HS3⟩⟩, HP⟩, HT0⟩
  isplitl [HS0]; · iexists a0; iexact HS0
  isplitl [HS1]
  · iexists a1; isplitr; swap
    · iexact HS1
    · ipureintro; intro t' h; exact absurd (show 0 = t'.val + 1 from h) (by omega)
  isplitl [HS2]
  · iexists a2; isplitr; swap
    · iexact HS2
    · ipureintro; intro t' h; exact absurd (show 0 = t'.val + 1 from h) (by omega)
  isplitl [HS3]; · iexists a3; iexact HS3
  isplitl [HT0]; · iexact HT0
  iexact HP

theorem phi_out (c : Dev nD) : (dats m hok 0 c).Φ (Fin.last (cfgA m hok).N) ⊢ Pipeline.ΦA spec0 c := by
  unfold Pipeline.ΦA
  rw [scopedRest0_eq, show (dats m hok 0 c).Φ (Fin.last (cfgA m hok).N) = Phi m hok c (Fin.last _) from rfl]
  unfold Phi
  iintro ⟨⟨%a0, HS0⟩, ⟨%a1, -, HS1⟩, ⟨%a2, -, HS2⟩, ⟨%a3, HS3⟩, -, HP⟩
  isplitr [HP]; swap
  · iexact HP
  isplitl [HS0]; · iexists a0; iexact HS0
  isplitl [HS1]; · iexists a1; iexact HS1
  isplitl [HS2]; · iexists a2; iexact HS2
  iexists a3; iexact HS3

set_option backward.isDefEq.respectTransparency.types false in
set_option maxHeartbeats 4000000 in
/-- From any memory with zero counters whose table names experts: every fair execution terminates, every array ends at what
    the proof data computes, every other buffer as the launch found it, every counter at zero. -/
theorem run_main_quiescent : θ_run (defs (F := F)) (onTc (τ := τ) (main (F := F))) (s₀ m ρ)
    (fun r => (Pipeline.FramePost (pcs m hok) (dats m hok) 0 (V m)) r ∧ r.2.sem = fun _ => 0) :=
  Pipeline.θ_run_frameP_track (Q' := _) pcfgs (fun _ => adm m hok) (dats m hok) (0 : Fin 1) launch0 defs₀ Variants.none m ρ main
    (hbody := fun c => (body_obligation m hok c).loose) (hshare := fun c => (dats m hok 0 c).share_full fun _ => rfl)
    (howed := fun _ _ => rfl) (V := V m)
    (hmain := Pipeline.hmainP_prefix pcfgs 0 defs₀ Variants.none m main hostOps0 hostOps0_sub hostOps0_fresh main_chain)
    (hA := A_eq m hok) (hpf := V_tab m) (hin := phi_in m hok) (hout := phi_out m hok)

theorem args_of_post (r : PUnit × MemSt nD τ sig (Elt F)) (h : Pipeline.FramePost (pcs m hok) (dats m hok) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have ha := fun w : Fin (cfgA m hok).W => (h c).1 w
  have hb := (h c).2
  refine ⟨?_, ?_, ?_, ?_, ?_, ?_, ?_, ?_⟩
  · exact ((ha (0 : Fin 11)).trans ((dats m hok 0 c).arrAt_in (0 : Fin 11) rfl _)).trans (V_arg0 m c)
  · exact ((ha (1 : Fin 11)).trans ((dats m hok 0 c).arrAt_in (1 : Fin 11) rfl _)).trans (V_arg1 m c)
  · exact ((ha (2 : Fin 11)).trans ((dats m hok 0 c).arrAt_in (2 : Fin 11) rfl _)).trans (V_arg2 m c)
  · exact (hb main_arg3 (Pipeline.mem_restRefs_of main_arg3 (by decide) (show ∀ w : Fin 11, (spec0 w).arr.view.ref ≠ main_arg3 from by decide))).trans (V_arg3 m c)
  · exact ((ha (4 : Fin 11)).trans ((dats m hok 0 c).arrAt_in (4 : Fin 11) rfl _)).trans (V_arg4 m c)
  · exact (hb main_arg5 (Pipeline.mem_restRefs_of main_arg5 (by decide) (show ∀ w : Fin 11, (spec0 w).arr.view.ref ≠ main_arg5 from by decide))).trans (V_arg5 m c)
  · exact (hb main_arg6 (Pipeline.mem_restRefs_of main_arg6 (by decide) (show ∀ w : Fin 11, (spec0 w).arr.view.ref ≠ main_arg6 from by decide))).trans (V_arg6 m c)
  · exact (hb main_arg7 (Pipeline.mem_restRefs_of main_arg7 (by decide) (show ∀ w : Fin 11, (spec0 w).arr.view.ref ≠ main_arg7 from by decide))).trans (V_arg7 m c)

/-- The frame: under the table's side condition, nothing faults, every argument ends unchanged, every counter at zero. -/
theorem frame (hok : ok0 (tab m)) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_of_post m hok r h.1 c, h.2⟩) (run_main_quiescent m ρ hok)

end Cert.Kernel.Own
-- ==== Proof.KernelIdeal.Run.lean ====
module

public import proofs.«01_k».proof.Proof.Gen.KernelIdeal.Loops
public import proofs.«01_k».proof.Proof.Gen.KernelIdeal.Launch

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the proof. -/
local notation "𝕄" => MT nD τ sig Unit (Elt F) ℕ (UR sig nD τ) ℕ

/-- The prefetched table and the four scratch buffers, whole. -/
abbrev tbM0_0 : Memref sig .tc .smem S88x11 .i32 := Memref.whole main_arg6
abbrev scM0_0 : Memref sig .tc .vmem S128x2048 .bf16 := Memref.whole cc0_scratch0
abbrev scM0_1 : Memref sig .tc .vmem S2048x1408 .bf16 := Memref.whole cc0_scratch1
abbrev scM0_2 : Memref sig .tc .vmem S1408x2048 .bf16 := Memref.whole cc0_scratch2
abbrev scM0_3 : Memref sig .tc .vmem S128x1408 .bf16 := Memref.whole cc0_scratch3

set_option backward.proofsInPublic true in
set_option maxHeartbeats 8000000 in
/-- The body at a point that keeps the cached weights (`hc0`: the same expert as the point before):
    what it leaves in each output's pieces and in the scratch buffers, with the proof that it runs there. -/
noncomputable def run_B (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    Σ' (out0 : List (View.Piece (Elt F) S128x2048 .fp8e4m3)) (out1 : List (View.Piece (Elt F) S128x16 .f32)) (out2 : List (View.Piece (Elt F) S128x1408 .fp8e4m3)) (out3 : List (View.Piece (Elt F) S128x11 .f32)) (out4 : Buf (Elt F) ((c : Thread nD τ).loc cc0_scratch0)) (out5 : Buf (Elt F) ((c : Thread nD τ).loc cc0_scratch1)) (out6 : Buf (Elt F) ((c : Thread nD τ).loc cc0_scratch2)), { out7 : Buf (Elt F) ((c : Thread nD τ).loc cc0_scratch3) //
      ∀ (xa0 : Buf (Elt F) ((c : Thread nD τ).loc cc0_scratch0)) (xa3 : Buf (Elt F) ((c : Thread nD τ).loc cc0_scratch3)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (tbM0_0.view.loc (c : Thread nD τ) ↦{fullShare.right} T0)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (tbM0_0.view.loc (c : Thread nD τ) ↦{fullShare.right} T0)
              ∗ (∃ f, arg9.view.loc (c : Thread nD τ) ↦[arg9.view.set]{fullShare} arg9.view.writes (Elt F) f out0)
              ∗ (∃ f, arg10.view.loc (c : Thread nD τ) ↦[arg10.view.set]{fullShare} arg10.view.writes (Elt F) f out1)
              ∗ (∃ f, arg11.view.loc (c : Thread nD τ) ↦[arg11.view.set]{fullShare} arg11.view.writes (Elt F) f out2)
              ∗ (∃ f, arg12.view.loc (c : Thread nD τ) ↦[arg12.view.set]{fullShare} arg12.view.writes (Elt F) f out3)
              ∗ (scM0_0.view.loc (c : Thread nD τ) ↦{fullShare} out4)
              ∗ (scM0_1.view.loc (c : Thread nD τ) ↦{fullShare} out5)
              ∗ (scM0_2.view.loc (c : Thread nD τ) ↦{fullShare} out6)
              ∗ (scM0_3.view.loc (c : Thread nD τ) ↦{fullShare} out7)) -∗ K ⟨⟩))
          ⊢ wp frame (wpE (defs₀ (F := F)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _)) K } :=
  ⟨_, _, _, _, _, _, _, _, fun (xa0 : Buf (Elt F) ((c : Thread nD τ).loc cc0_scratch0)) (xa3 : Buf (Elt F) ((c : Thread nD τ).loc cc0_scratch3)) K => by
    unfold owns
    rw [cc0__body_eq_skeleton]; unfold cc0__body_skel
    iintro ⟨H0, H1, H2, H3, H4, H5, H6, HT0, ⟨%d7, %f7, -, HO7⟩, ⟨%d8, %f8, -, HO8⟩, ⟨%d9, %f9, -, HO9⟩, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    sl_exec! (disch := first | (guard_target = ¬(Scalar.cmpi = _); exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HO7]; · iexists _; iexact HO7
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    iexact HS3⟩

set_option backward.proofsInPublic true in
set_option maxHeartbeats 8000000 in
/-- The body at a point that dequantises a new expert's weights (`hc0`) into the two caches first. -/
noncomputable def run_A (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    Σ' (out0 : List (View.Piece (Elt F) S128x2048 .fp8e4m3)) (out1 : List (View.Piece (Elt F) S128x16 .f32)) (out2 : List (View.Piece (Elt F) S128x1408 .fp8e4m3)) (out3 : List (View.Piece (Elt F) S128x11 .f32)) (out4 : Buf (Elt F) ((c : Thread nD τ).loc cc0_scratch0)) (out5 : Buf (Elt F) ((c : Thread nD τ).loc cc0_scratch1)) (out6 : Buf (Elt F) ((c : Thread nD τ).loc cc0_scratch2)), { out7 : Buf (Elt F) ((c : Thread nD τ).loc cc0_scratch3) //
      ∀ (xa0 : Buf (Elt F) ((c : Thread nD τ).loc cc0_scratch0)) (xa3 : Buf (Elt F) ((c : Thread nD τ).loc cc0_scratch3)) (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (tbM0_0.view.loc (c : Thread nD τ) ↦{fullShare.right} T0)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (scM0_0.view.loc (c : Thread nD τ) ↦{fullShare} xa0)
          ∗ (scM0_1.view.loc (c : Thread nD τ) ↦[scM0_1.view.set]{fullShare} xa1)
          ∗ (scM0_2.view.loc (c : Thread nD τ) ↦[scM0_2.view.set]{fullShare} xa2)
          ∗ (scM0_3.view.loc (c : Thread nD τ) ↦{fullShare} xa3)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (tbM0_0.view.loc (c : Thread nD τ) ↦{fullShare.right} T0)
              ∗ (∃ f, arg9.view.loc (c : Thread nD τ) ↦[arg9.view.set]{fullShare} arg9.view.writes (Elt F) f out0)
              ∗ (∃ f, arg10.view.loc (c : Thread nD τ) ↦[arg10.view.set]{fullShare} arg10.view.writes (Elt F) f out1)
              ∗ (∃ f, arg11.view.loc (c : Thread nD τ) ↦[arg11.view.set]{fullShare} arg11.view.writes (Elt F) f out2)
              ∗ (∃ f, arg12.view.loc (c : Thread nD τ) ↦[arg12.view.set]{fullShare} arg12.view.writes (Elt F) f out3)
              ∗ (scM0_0.view.loc (c : Thread nD τ) ↦{fullShare} out4)
              ∗ (scM0_1.view.loc (c : Thread nD τ) ↦[scM0_1.view.set]{fullShare} out5)
              ∗ (scM0_2.view.loc (c : Thread nD τ) ↦[scM0_2.view.set]{fullShare} out6)
              ∗ (scM0_3.view.loc (c : Thread nD τ) ↦{fullShare} out7)) -∗ K ⟨⟩))
          ⊢ wp frame (wpE (defs₀ (F := F)) Variants.none c none) Set.univ (cc0__body i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _)) K } :=
  ⟨_, _, _, _, _, _, _, _, fun (xa0 : Buf (Elt F) ((c : Thread nD τ).loc cc0_scratch0)) (xa3 : Buf (Elt F) ((c : Thread nD τ).loc cc0_scratch3)) K => by
    unfold owns
    rw [cc0__body_eq_skeleton]; unfold cc0__body_skel
    iintro ⟨H0, H1, H2, H3, H4, H5, H6, HT0, ⟨%d7, %f7, -, HO7⟩, ⟨%d8, %f8, -, HO8⟩, ⟨%d9, %f9, -, HO9⟩, ⟨%d10, %f10, -, HO10⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    sl_exec! (disch := first | (guard_target = Scalar.cmpi = _; exact hc0))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HO7]; · iexists _; iexact HO7
    isplitl [HO8]; · iexists _; iexact HO8
    isplitl [HO9]; · iexists _; iexact HO9
    isplitl [HO10]; · iexists _; iexact HO10
    isplitl [HS0]; · iexact HS0
    isplitl [HS1]; · iexact HS1
    isplitl [HS2]; · iexact HS2
    iexact HS3⟩

end Cert.KernelIdeal.Own
-- ==== Proof.KernelIdeal.Deq.lean ====
module

public import Idealize.ShloMosaic.Lib.Pipeline.Value
public import proofs.«01_k».proof.Proof.KernelIdeal.Run

@[expose] public section

set_option maxRecDepth 16384
set_option Elab.async false

noncomputable section

/- What the two weight caches hold after the dequantisation loops: every element of the code block times the scale of
   its 128 × 128 tile, whatever the caches held before. -/

namespace Cert.KernelIdeal.Own

open Cert.KernelIdeal Cert.KernelIdeal.Gen
open Idealize.ShloMosaic
open Idealize.ShloMosaic.TcCoe

variable {F : FTy → Type} [FloatOps F]

/-- The entry of a block's 176 scales at position `n`. -/
def scaleIx (n : ℕ) (h : n < 176) : S1x1x176.Idx := fun a => ⟨(![0, 0, n] : Fin 3 → ℕ) a, by
  fin_cases a
  · exact Nat.one_pos
  · exact Nat.one_pos
  · exact h⟩

/-- The tile a position of the weight block lies in is one of the 176. -/
theorem tile1_lt (y : S2048x1408.Idx) : (y 0).val / 128 * 11 + (y 1).val / 128 < 176 := by
  have h0 : (y 0).val < 2048 := (y 0).isLt
  have h1 : (y 1).val < 1408 := (y 1).isLt
  omega

/-- The dequantised weight block: each code times its tile's scale. -/
def deq1 (xa : S2048x1408.Idx → Elt F .fp8e4m3) (xb : S1x1x176.Idx → Elt F .f32) : S2048x1408.Idx → Elt F .bf16 :=
  mulf (extf .bf16 (xa : FVec F S2048x1408 .fp8e4m3) bitsLt_fp8e4m3_bf16)
    (fun y => Scalar.truncf .bf16 bitsLt_bf16_f32 (xb (scaleIx _ (tile1_lt y))))

/-- One tile as the loop's body computes it is the dequantised block's tile. -/
theorem tile1 (ma : Memref sig .tc .vmem S2048x1408 .fp8e4m3) (mb : Memref sig .tc .smem S1x1x176 .f32)
    (xa : S2048x1408.Idx → Elt F .fp8e4m3) (xb : S1x1x176.Idx → Elt F .f32) (k j : ℕ) (hk : k < 16) (hj : j < 11)
    {off : Fin 2 → ℕ} {off3 : Fin 3 → ℕ} (hoff : off = ![128 * k, 128 * j]) (hoff3 : off3 = ![0, 0, 11 * k + j])
    (inb : ∀ a, off a + S128x128.size a ≤ S2048x1408.size a) (inb3 : ∀ a, off3 a + S1x1x1.size a ≤ S1x1x176.size a)
    (pf : 0 < (Rect.unit (s := S1x1x176) off3 S1x1x1.size inb3).toLoadRect.shape.numel)
    (x : (Rect.unit (s := S2048x1408) off S128x128.size inb).shape.Idx) :
    (shapeCast S128x128 (mulf (extf .bf16 (View.readAt (Elt F) ma.view (Rect.unit (s := S2048x1408) off S128x128.size inb).toLoadRect (ma.view.rep xa) : FVec F S128x128 .fp8e4m3) bitsLt_fp8e4m3_bf16)
      (broadcast S128x128 (Scalar.truncf .bf16 bitsLt_bf16_f32 (View.readAt (Elt F) mb.view (Rect.unit (s := S1x1x176) off3 S1x1x1.size inb3).toLoadRect (mb.view.rep xb) (Shape.Idx.first pf) : F .f32))) : FVec F S128x128 .bf16) shapeCasts_S128x128_S128x128) x
      = deq1 xa xb ((Rect.unit (s := S2048x1408) off S128x128.size inb).emb x) := by
  subst hoff hoff3
  rw [shapeCast_self, View.readAt_rep, View.readAt_rep]
  have h0 : (x 0).val < 128 := (x 0).isLt
  have h1 : (x 1).val < 128 := (x 1).isLt
  have e3 : (Rect.unit (s := S1x1x176) ![0, 0, 11 * k + j] S1x1x1.size inb3).toLoadRect.idx (Shape.Idx.first pf)
      = scaleIx _ (tile1_lt ((Rect.unit (s := S2048x1408) ![128 * k, 128 * j] S128x128.size inb).emb x)) := by
    funext a
    apply Fin.ext
    fin_cases a
    · rfl
    · rfl
    · show 11 * k + j + 1 * 0 = (128 * k + 1 * (x 0).val) / 128 * 11 + (128 * j + 1 * (x 1).val) / 128
      have e1 : (128 * k + 1 * (x 0).val) / 128 = k := by omega
      have e2 : (128 * j + 1 * (x 1).val) / 128 = j := by omega
      rw [e1, e2, Nat.mul_comm]; omega
  beta_reduce
  rw [e3]
  rfl

/-- Every piece of one trip is a tile of the dequantised block. -/
theorem trip1_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S2048x1408.Idx → Elt F .fp8e4m3) (xb : S1x1x176.Idx → Elt F .f32) (k : Fin k0_t1_loop.trips) :
    ∀ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.rep xa) (arg5.view.rep xb) k,
      ∀ x : p.1.shape.Idx, p.2 x = deq1 xa xb (p.1.emb x) := by
  have hk : k.val < 16 := Nat.lt_of_lt_of_le k.isLt k0_t1_abs.2.1
  unfold tripL_k0_t1 trip_k0_t1
  simp only [List.forall_mem_cons, List.not_mem_nil, false_imp_iff, forall_const, and_true]
  exact ⟨tile1 arg4 arg5 xa xb k 10 hk (by decide) (k0_off14_eq k) (k0_off3_eq k ⟨10, by decide⟩) _ _ _, tile1 arg4 arg5 xa xb k 9 hk (by decide) (k0_off13_eq k) (k0_off3_eq k ⟨9, by decide⟩) _ _ _, tile1 arg4 arg5 xa xb k 8 hk (by decide) (k0_off12_eq k) (k0_off3_eq k ⟨8, by decide⟩) _ _ _, tile1 arg4 arg5 xa xb k 7 hk (by decide) (k0_off11_eq k) (k0_off3_eq k ⟨7, by decide⟩) _ _ _, tile1 arg4 arg5 xa xb k 6 hk (by decide) (k0_off10_eq k) (k0_off3_eq k ⟨6, by decide⟩) _ _ _, tile1 arg4 arg5 xa xb k 5 hk (by decide) (k0_off9_eq k) (k0_off3_eq k ⟨5, by decide⟩) _ _ _, tile1 arg4 arg5 xa xb k 4 hk (by decide) (k0_off8_eq k) (k0_off3_eq k ⟨4, by decide⟩) _ _ _, tile1 arg4 arg5 xa xb k 3 hk (by decide) (k0_off7_eq k) (k0_off3_eq k ⟨3, by decide⟩) _ _ _, tile1 arg4 arg5 xa xb k 2 hk (by decide) (k0_off6_eq k) (k0_off3_eq k ⟨2, by decide⟩) _ _ _, tile1 arg4 arg5 xa xb k 1 hk (by decide) (k0_off5_eq k) (k0_off3_eq k ⟨1, by decide⟩) _ _ _, tile1 arg4 arg5 xa xb k 0 hk (by decide) (k0_off4_eq k) (k0_off3_eq k ⟨0, by decide⟩) _ _ _, fun _ => trivial⟩

/-- A position lies in its tile. -/
theorem intile1 (k j : ℕ) {off : Fin 2 → ℕ} (hoff : off = ![128 * k, 128 * j]) (inb : ∀ a, off a + S128x128.size a ≤ S2048x1408.size a)
    (y : S2048x1408.Idx) (h0 : (y 0).val / 128 = k) (h1 : (y 1).val / 128 = j) : y ∈ (Rect.unit (s := S2048x1408) off S128x128.size inb).set := by
  subst hoff
  refine Rect.mem_set_unit.mpr fun a => ?_
  fin_cases a
  · show 128 * k ≤ (y 0).val ∧ (y 0).val < 128 * k + 128
    omega
  · show 128 * j ≤ (y 1).val ∧ (y 1).val < 128 * j + 128
    omega

/-- Position `y` of the block lies in a piece of its row tile's trip. -/
theorem trip1_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg4.view.ty) (Xb : BufTy.Contents (Elt F) arg5.view.ty) (k : Fin k0_t1_loop.trips) (y : S2048x1408.Idx) (hy : (y 0).val / 128 = k.val) :
    ∃ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb k, y ∈ p.1.set := by
  have h1 : (y 1).val < 1408 := (y 1).isLt
  have hj : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 := by omega
  unfold tripL_k0_t1 trip_k0_t1
  simp only [List.exists_mem_cons_iff]
  rcases hj with h | h | h | h | h | h | h | h | h | h | h
  · right; right; right; right; right; right; right; right; right; right; left; exact intile1 k.val 0 (k0_off4_eq k) _ y hy h
  · right; right; right; right; right; right; right; right; right; left; exact intile1 k.val 1 (k0_off5_eq k) _ y hy h
  · right; right; right; right; right; right; right; right; left; exact intile1 k.val 2 (k0_off6_eq k) _ y hy h
  · right; right; right; right; right; right; right; left; exact intile1 k.val 3 (k0_off7_eq k) _ y hy h
  · right; right; right; right; right; right; left; exact intile1 k.val 4 (k0_off8_eq k) _ y hy h
  · right; right; right; right; right; left; exact intile1 k.val 5 (k0_off9_eq k) _ y hy h
  · right; right; right; right; left; exact intile1 k.val 6 (k0_off10_eq k) _ y hy h
  · right; right; right; left; exact intile1 k.val 7 (k0_off11_eq k) _ y hy h
  · right; right; left; exact intile1 k.val 8 (k0_off12_eq k) _ y hy h
  · right; left; exact intile1 k.val 9 (k0_off13_eq k) _ y hy h
  · left; exact intile1 k.val 10 (k0_off14_eq k) _ y hy h

/-- Every piece of the trips before `t` is a tile of the dequantised block. -/
theorem pb1_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S2048x1408.Idx → Elt F .fp8e4m3) (xb : S1x1x176.Idx → Elt F .f32) : ∀ (t : ℕ), t ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.rep xa) (arg5.view.rep xb) t,
      ∀ x : p.1.shape.Idx, p.2 x = deq1 xa xb (p.1.emb x)
  | 0, _ => fun p hp => absurd hp List.not_mem_nil
  | t + 1, ht => by
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg4.view.rep xa) (arg5.view.rep xb) ⟨t, ht⟩]
    intro p hp
    rcases List.mem_append.mp hp with h | h
    · exact trip1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb ⟨t, ht⟩ p h
    · exact pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb t (Nat.le_of_succ_le ht) p h

/-- The trips before `t` cover the row tiles before `t`. -/
theorem pb1_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg4.view.ty) (Xb : BufTy.Contents (Elt F) arg5.view.ty) (y : S2048x1408.Idx) : ∀ (t : ℕ), t ≤ k0_t1_loop.trips →
    (y 0).val / 128 < t → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb t, y ∈ p.1.set
  | 0, _, h => absurd h (Nat.not_lt_zero _)
  | t + 1, ht, h => by
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩]
    rcases Nat.lt_succ_iff_lt_or_eq.mp h with h | h
    · obtain ⟨p, hp, hy⟩ := pb1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb y t (Nat.le_of_succ_le ht) h
      exact ⟨p, List.mem_append_right _ hp, hy⟩
    · obtain ⟨p, hp, hy⟩ := trip1_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩ y h
      exact ⟨p, List.mem_append_left _ hp, hy⟩

/-- The weight cache holding the dequantised block. -/
def cache1 (c : Dev nD) (xa : S2048x1408.Idx → Elt F .fp8e4m3) (xb : S1x1x176.Idx → Elt F .f32) :
    Buf (Elt F) ((c : Thread nD τ).loc cc0_scratch1) := scM0_1.view.rep (deq1 xa xb)

/-- Two contents of the cache that read the same are the same. -/
theorem scr1_ext (c : Dev nD) (f g : Buf (Elt F) ((c : Thread nD τ).loc cc0_scratch1)) (h : scM0_1.view.read (Elt F) f = scM0_1.view.read (Elt F) g) : f = g := h

/-- After the loop the cache is the dequantised block, whatever it held before. -/
theorem loop1 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole)
    (xa : S2048x1408.Idx → Elt F .fp8e4m3) (xb : S1x1x176.Idx → Elt F .f32) (G : Buf (Elt F) ((c : Thread nD τ).loc cc0_scratch1)) :
    scM0_1.view.writes (Elt F) G (pb_k0_t1 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg4.view.rep xa) (arg5.view.rep xb) k0_t1_loop.trips) = cache1 c xa xb := by
  have ht : 16 ≤ k0_t1_loop.trips := by decide
  have key : scM0_1.view.read (Elt F) (scM0_1.view.writes (Elt F) G (pb_k0_t1 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg4.view.rep xa) (arg5.view.rep xb) k0_t1_loop.trips)) = deq1 xa xb := by
    funext y
    exact View.read_writes_apply_of_pieces _ _ _ _ (pb1_tiles c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) xa xb _ (Nat.le_refl _)) y
      (pb1_cover c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) _ _ y _ (Nat.le_refl _) (Nat.lt_of_lt_of_le (by have h0 : (y 0).val < 2048 := (y 0).isLt; omega) ht))
  have e : scM0_1.view.read (Elt F) (cache1 c xa xb) = deq1 xa xb := View.read_rep _ _
  exact scr1_ext c _ _ (key.trans e.symm)

/-- The tile a position of the weight block lies in is one of the 176. -/
theorem tile2_lt (y : S1408x2048.Idx) : (y 0).val / 128 * 16 + (y 1).val / 128 < 176 := by
  have h0 : (y 0).val < 1408 := (y 0).isLt
  have h1 : (y 1).val < 2048 := (y 1).isLt
  omega

/-- The dequantised weight block: each code times its tile's scale. -/
def deq2 (xa : S1408x2048.Idx → Elt F .fp8e4m3) (xb : S1x1x176.Idx → Elt F .f32) : S1408x2048.Idx → Elt F .bf16 :=
  mulf (extf .bf16 (xa : FVec F S1408x2048 .fp8e4m3) bitsLt_fp8e4m3_bf16)
    (fun y => Scalar.truncf .bf16 bitsLt_bf16_f32 (xb (scaleIx _ (tile2_lt y))))

/-- One tile as the loop's body computes it is the dequantised block's tile. -/
theorem tile2 (ma : Memref sig .tc .vmem S1408x2048 .fp8e4m3) (mb : Memref sig .tc .smem S1x1x176 .f32)
    (xa : S1408x2048.Idx → Elt F .fp8e4m3) (xb : S1x1x176.Idx → Elt F .f32) (k j : ℕ) (hk : k < 11) (hj : j < 16)
    {off : Fin 2 → ℕ} {off3 : Fin 3 → ℕ} (hoff : off = ![128 * k, 128 * j]) (hoff3 : off3 = ![0, 0, 16 * k + j])
    (inb : ∀ a, off a + S128x128.size a ≤ S1408x2048.size a) (inb3 : ∀ a, off3 a + S1x1x1.size a ≤ S1x1x176.size a)
    (pf : 0 < (Rect.unit (s := S1x1x176) off3 S1x1x1.size inb3).toLoadRect.shape.numel)
    (x : (Rect.unit (s := S1408x2048) off S128x128.size inb).shape.Idx) :
    (shapeCast S128x128 (mulf (extf .bf16 (View.readAt (Elt F) ma.view (Rect.unit (s := S1408x2048) off S128x128.size inb).toLoadRect (ma.view.rep xa) : FVec F S128x128 .fp8e4m3) bitsLt_fp8e4m3_bf16)
      (broadcast S128x128 (Scalar.truncf .bf16 bitsLt_bf16_f32 (View.readAt (Elt F) mb.view (Rect.unit (s := S1x1x176) off3 S1x1x1.size inb3).toLoadRect (mb.view.rep xb) (Shape.Idx.first pf) : F .f32))) : FVec F S128x128 .bf16) shapeCasts_S128x128_S128x128) x
      = deq2 xa xb ((Rect.unit (s := S1408x2048) off S128x128.size inb).emb x) := by
  subst hoff hoff3
  rw [shapeCast_self, View.readAt_rep, View.readAt_rep]
  have h0 : (x 0).val < 128 := (x 0).isLt
  have h1 : (x 1).val < 128 := (x 1).isLt
  have e3 : (Rect.unit (s := S1x1x176) ![0, 0, 16 * k + j] S1x1x1.size inb3).toLoadRect.idx (Shape.Idx.first pf)
      = scaleIx _ (tile2_lt ((Rect.unit (s := S1408x2048) ![128 * k, 128 * j] S128x128.size inb).emb x)) := by
    funext a
    apply Fin.ext
    fin_cases a
    · rfl
    · rfl
    · show 16 * k + j + 1 * 0 = (128 * k + 1 * (x 0).val) / 128 * 16 + (128 * j + 1 * (x 1).val) / 128
      have e1 : (128 * k + 1 * (x 0).val) / 128 = k := by omega
      have e2 : (128 * j + 1 * (x 1).val) / 128 = j := by omega
      rw [e1, e2, Nat.mul_comm]; omega
  beta_reduce
  rw [e3]
  rfl

/-- Every piece of one trip is a tile of the dequantised block. -/
theorem trip2_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S1408x2048.Idx → Elt F .fp8e4m3) (xb : S1x1x176.Idx → Elt F .f32) (k : Fin k0_t2_loop.trips) :
    ∀ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg6.view.rep xa) (arg7.view.rep xb) k,
      ∀ x : p.1.shape.Idx, p.2 x = deq2 xa xb (p.1.emb x) := by
  have hk : k.val < 11 := Nat.lt_of_lt_of_le k.isLt k0_t2_abs.2.1
  unfold tripL_k0_t2 trip_k0_t2
  simp only [List.forall_mem_cons, List.not_mem_nil, false_imp_iff, forall_const, and_true]
  exact ⟨tile2 arg6 arg7 xa xb k 15 hk (by decide) (k0_off31_eq k) (k0_off15_eq k ⟨15, by decide⟩) _ _ _, tile2 arg6 arg7 xa xb k 14 hk (by decide) (k0_off30_eq k) (k0_off15_eq k ⟨14, by decide⟩) _ _ _, tile2 arg6 arg7 xa xb k 13 hk (by decide) (k0_off29_eq k) (k0_off15_eq k ⟨13, by decide⟩) _ _ _, tile2 arg6 arg7 xa xb k 12 hk (by decide) (k0_off28_eq k) (k0_off15_eq k ⟨12, by decide⟩) _ _ _, tile2 arg6 arg7 xa xb k 11 hk (by decide) (k0_off27_eq k) (k0_off15_eq k ⟨11, by decide⟩) _ _ _, tile2 arg6 arg7 xa xb k 10 hk (by decide) (k0_off26_eq k) (k0_off15_eq k ⟨10, by decide⟩) _ _ _, tile2 arg6 arg7 xa xb k 9 hk (by decide) (k0_off25_eq k) (k0_off15_eq k ⟨9, by decide⟩) _ _ _, tile2 arg6 arg7 xa xb k 8 hk (by decide) (k0_off24_eq k) (k0_off15_eq k ⟨8, by decide⟩) _ _ _, tile2 arg6 arg7 xa xb k 7 hk (by decide) (k0_off23_eq k) (k0_off15_eq k ⟨7, by decide⟩) _ _ _, tile2 arg6 arg7 xa xb k 6 hk (by decide) (k0_off22_eq k) (k0_off15_eq k ⟨6, by decide⟩) _ _ _, tile2 arg6 arg7 xa xb k 5 hk (by decide) (k0_off21_eq k) (k0_off15_eq k ⟨5, by decide⟩) _ _ _, tile2 arg6 arg7 xa xb k 4 hk (by decide) (k0_off20_eq k) (k0_off15_eq k ⟨4, by decide⟩) _ _ _, tile2 arg6 arg7 xa xb k 3 hk (by decide) (k0_off19_eq k) (k0_off15_eq k ⟨3, by decide⟩) _ _ _, tile2 arg6 arg7 xa xb k 2 hk (by decide) (k0_off18_eq k) (k0_off15_eq k ⟨2, by decide⟩) _ _ _, tile2 arg6 arg7 xa xb k 1 hk (by decide) (k0_off17_eq k) (k0_off15_eq k ⟨1, by decide⟩) _ _ _, tile2 arg6 arg7 xa xb k 0 hk (by decide) (k0_off16_eq k) (k0_off15_eq k ⟨0, by decide⟩) _ _ _, fun _ => trivial⟩

/-- A position lies in its tile. -/
theorem intile2 (k j : ℕ) {off : Fin 2 → ℕ} (hoff : off = ![128 * k, 128 * j]) (inb : ∀ a, off a + S128x128.size a ≤ S1408x2048.size a)
    (y : S1408x2048.Idx) (h0 : (y 0).val / 128 = k) (h1 : (y 1).val / 128 = j) : y ∈ (Rect.unit (s := S1408x2048) off S128x128.size inb).set := by
  subst hoff
  refine Rect.mem_set_unit.mpr fun a => ?_
  fin_cases a
  · show 128 * k ≤ (y 0).val ∧ (y 0).val < 128 * k + 128
    omega
  · show 128 * j ≤ (y 1).val ∧ (y 1).val < 128 * j + 128
    omega

/-- Position `y` of the block lies in a piece of its row tile's trip. -/
theorem trip2_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg6.view.ty) (Xb : BufTy.Contents (Elt F) arg7.view.ty) (k : Fin k0_t2_loop.trips) (y : S1408x2048.Idx) (hy : (y 0).val / 128 = k.val) :
    ∃ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb k, y ∈ p.1.set := by
  have h1 : (y 1).val < 2048 := (y 1).isLt
  have hj : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 := by omega
  unfold tripL_k0_t2 trip_k0_t2
  simp only [List.exists_mem_cons_iff]
  rcases hj with h | h | h | h | h | h | h | h | h | h | h | h | h | h | h | h
  · right; right; right; right; right; right; right; right; right; right; right; right; right; right; right; left; exact intile2 k.val 0 (k0_off16_eq k) _ y hy h
  · right; right; right; right; right; right; right; right; right; right; right; right; right; right; left; exact intile2 k.val 1 (k0_off17_eq k) _ y hy h
  · right; right; right; right; right; right; right; right; right; right; right; right; right; left; exact intile2 k.val 2 (k0_off18_eq k) _ y hy h
  · right; right; right; right; right; right; right; right; right; right; right; right; left; exact intile2 k.val 3 (k0_off19_eq k) _ y hy h
  · right; right; right; right; right; right; right; right; right; right; right; left; exact intile2 k.val 4 (k0_off20_eq k) _ y hy h
  · right; right; right; right; right; right; right; right; right; right; left; exact intile2 k.val 5 (k0_off21_eq k) _ y hy h
  · right; right; right; right; right; right; right; right; right; left; exact intile2 k.val 6 (k0_off22_eq k) _ y hy h
  · right; right; right; right; right; right; right; right; left; exact intile2 k.val 7 (k0_off23_eq k) _ y hy h
  · right; right; right; right; right; right; right; left; exact intile2 k.val 8 (k0_off24_eq k) _ y hy h
  · right; right; right; right; right; right; left; exact intile2 k.val 9 (k0_off25_eq k) _ y hy h
  · right; right; right; right; right; left; exact intile2 k.val 10 (k0_off26_eq k) _ y hy h
  · right; right; right; right; left; exact intile2 k.val 11 (k0_off27_eq k) _ y hy h
  · right; right; right; left; exact intile2 k.val 12 (k0_off28_eq k) _ y hy h
  · right; right; left; exact intile2 k.val 13 (k0_off29_eq k) _ y hy h
  · right; left; exact intile2 k.val 14 (k0_off30_eq k) _ y hy h
  · left; exact intile2 k.val 15 (k0_off31_eq k) _ y hy h

/-- Every piece of the trips before `t` is a tile of the dequantised block. -/
theorem pb2_tiles (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (xa : S1408x2048.Idx → Elt F .fp8e4m3) (xb : S1x1x176.Idx → Elt F .f32) : ∀ (t : ℕ), t ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg6.view.rep xa) (arg7.view.rep xb) t,
      ∀ x : p.1.shape.Idx, p.2 x = deq2 xa xb (p.1.emb x)
  | 0, _ => fun p hp => absurd hp List.not_mem_nil
  | t + 1, ht => by
    rw [pb_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg6.view.rep xa) (arg7.view.rep xb) ⟨t, ht⟩]
    intro p hp
    rcases List.mem_append.mp hp with h | h
    · exact trip2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb ⟨t, ht⟩ p h
    · exact pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xa xb t (Nat.le_of_succ_le ht) p h

/-- The trips before `t` cover the row tiles before `t`. -/
theorem pb2_cover (c : Dev nD) (i : grid0.Coords) (arg1 : Memref sig .tc .smem S88x11 .i32) (harg1 : arg1.IsWhole) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (arg13 : Memref sig .tc .vmem S128x2048 .bf16) (harg13 : arg13.IsWhole) (arg14 : Memref sig .tc .vmem S2048x1408 .bf16) (harg14 : arg14.IsWhole) (arg15 : Memref sig .tc .vmem S1408x2048 .bf16) (harg15 : arg15.IsWhole) (arg16 : Memref sig .tc .vmem S128x1408 .bf16) (harg16 : arg16.IsWhole)
    (Xa : BufTy.Contents (Elt F) arg6.view.ty) (Xb : BufTy.Contents (Elt F) arg7.view.ty) (y : S1408x2048.Idx) : ∀ (t : ℕ), t ≤ k0_t2_loop.trips →
    (y 0).val / 128 < t → ∃ p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb t, y ∈ p.1.set
  | 0, _, h => absurd h (Nat.not_lt_zero _)
  | t + 1, ht, h => by
    rw [pb_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩]
    rcases Nat.lt_succ_iff_lt_or_eq.mp h with h | h
    · obtain ⟨p, hp, hy⟩ := pb2_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb y t (Nat.le_of_succ_le ht) h
      exact ⟨p, List.mem_append_right _ hp, hy⟩
    · obtain ⟨p, hp, hy⟩ := trip2_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Xa Xb ⟨t, ht⟩ y h
      exact ⟨p, List.mem_append_left _ hp, hy⟩

/-- The weight cache holding the dequantised block. -/
def cache2 (c : Dev nD) (xa : S1408x2048.Idx → Elt F .fp8e4m3) (xb : S1x1x176.Idx → Elt F .f32) :
    Buf (Elt F) ((c : Thread nD τ).loc cc0_scratch2) := scM0_2.view.rep (deq2 xa xb)

/-- Two contents of the cache that read the same are the same. -/
theorem scr2_ext (c : Dev nD) (f g : Buf (Elt F) ((c : Thread nD τ).loc cc0_scratch2)) (h : scM0_2.view.read (Elt F) f = scM0_2.view.read (Elt F) g) : f = g := h

/-- After the loop the cache is the dequantised block, whatever it held before. -/
theorem loop2 (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole)
    (xa : S1408x2048.Idx → Elt F .fp8e4m3) (xb : S1x1x176.Idx → Elt F .f32) (G : Buf (Elt F) ((c : Thread nD τ).loc cc0_scratch2)) :
    scM0_2.view.writes (Elt F) G (pb_k0_t2 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg6.view.rep xa) (arg7.view.rep xb) k0_t2_loop.trips) = cache2 c xa xb := by
  have ht : 11 ≤ k0_t2_loop.trips := by decide
  have key : scM0_2.view.read (Elt F) (scM0_2.view.writes (Elt F) G (pb_k0_t2 (F := F) Variants.none c none i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) (arg6.view.rep xa) (arg7.view.rep xb) k0_t2_loop.trips)) = deq2 xa xb := by
    funext y
    exact View.read_writes_apply_of_pieces _ _ _ _ (pb2_tiles c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) xa xb _ (Nat.le_refl _)) y
      (pb2_cover c i tbM0_0 (Memref.isWhole_whole _) arg2 harg2 arg3 harg3 arg4 harg4 arg5 harg5 arg6 harg6 arg7 harg7 arg8 harg8 arg9 harg9 arg10 harg10 arg11 harg11 arg12 harg12 scM0_0 (Memref.isWhole_whole _) scM0_1 (Memref.isWhole_whole _) scM0_2 (Memref.isWhole_whole _) scM0_3 (Memref.isWhole_whole _) _ _ y _ (Nat.le_refl _) (Nat.lt_of_lt_of_le (by have h0 : (y 0).val < 1408 := (y 0).isLt; omega) ht))
  have e : scM0_2.view.read (Elt F) (cache2 c xa xb) = deq2 xa xb := View.read_rep _ _
  exact scr2_ext c _ _ (key.trans e.symm)

end Cert.KernelIdeal.Own
-- ==== Proof.KernelIdeal.Block.lean ====
module

public import Idealize.ShloMosaic.Lib.Ring
public import Idealize.ShloMosaic.Lib.Pipeline.FrameBody
public import proofs.«01_k».proof.Proof.KernelIdeal.Deq

@[expose] public section

set_option maxRecDepth 16384
set_option Elab.async false

noncomputable section

/- One grid point's outputs, as the pieces its body writes: a function of the row block, the row weights and the two
   caches. A point that dequantises first writes the same pieces at the caches it has just filled. -/

namespace Cert.KernelIdeal.Own

open Cert.KernelIdeal Cert.KernelIdeal.Gen
open Idealize.ShloMosaic
open Idealize.ShloMosaic.TcCoe Idealize.ShloMosaic.Tactic

variable {F : FTy → Type} [FloatOps F]

/-- The pieces a point writes into output 7's block. -/
abbrev pcs7 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x2048 .fp8e4m3) :=
  run_B.sl.HO7_16 c arg2 arg3 arg8 x0 x1 x6 xa1 xa2

/-- They tile the block. -/
theorem pcs7_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x2048.Idx) : ∃ p ∈ pcs7 c arg2 arg3 arg8 x0 x1 x6 xa1 xa2, y ∈ p.1.set :=
  View.cover_of_tiledL (pcs7 c arg2 arg3 arg8 x0 x1 x6 xa1 xa2) S128x128.size (by sl_kernel_rfl) y

theorem runB_7  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).1 = pcs7 c arg2 arg3 arg8 x0 x1 x6 xa1 xa2 := rfl

theorem runA_7  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).1 = pcs7 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

/-- The pieces a point writes into output 8's block. -/
abbrev pcs8 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x16 .f32) :=
  run_B.sl.HO8_16 c arg2 arg3 arg8 x0 x1 x6 xa1 xa2

/-- They tile the block. -/
theorem pcs8_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x16.Idx) : ∃ p ∈ pcs8 c arg2 arg3 arg8 x0 x1 x6 xa1 xa2, y ∈ p.1.set :=
  View.cover_of_tiledL (pcs8 c arg2 arg3 arg8 x0 x1 x6 xa1 xa2) S128x1.size (by sl_kernel_rfl) y

theorem runB_8  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.1 = pcs8 c arg2 arg3 arg8 x0 x1 x6 xa1 xa2 := rfl

theorem runA_8  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.1 = pcs8 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

/-- The pieces a point writes into output 9's block. -/
abbrev pcs9 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x1408 .fp8e4m3) :=
  run_B.sl.HO9_11 c arg2 arg3 x0 x1 xa1

/-- They tile the block. -/
theorem pcs9_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x1408.Idx) : ∃ p ∈ pcs9 c arg2 arg3 arg8 x0 x1 x6 xa1 xa2, y ∈ p.1.set :=
  View.cover_of_tiledL (pcs9 c arg2 arg3 arg8 x0 x1 x6 xa1 xa2) S128x128.size (by sl_kernel_rfl) y

theorem runB_9  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.1 = pcs9 c arg2 arg3 arg8 x0 x1 x6 xa1 xa2 := rfl

theorem runA_9  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.1 = pcs9 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

/-- The pieces a point writes into output 10's block. -/
abbrev pcs10 (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) : List (View.Piece (Elt F) S128x11 .f32) :=
  run_B.sl.HO10_11 c arg2 arg3 x0 x1 xa1

/-- They tile the block. -/
theorem pcs10_cover (c : Dev nD) (arg2 : Memref sig .tc .vmem S128x2048 .fp8e4m3) (arg3 : Memref sig .tc .vmem S128x16 .f32) (arg8 : Memref sig .tc .vmem S128x1 .f32) (x0 : S128x2048.Idx → Elt F .fp8e4m3) (x1 : S128x16.Idx → Elt F .f32) (x6 : S128x1.Idx → Elt F .f32) (xa1 : Buf (Elt F) ((c : Thread nD τ).loc cc0_scratch1)) (xa2 : Buf (Elt F) ((c : Thread nD τ).loc cc0_scratch2)) (y : S128x11.Idx) : ∃ p ∈ pcs10 c arg2 arg3 arg8 x0 x1 x6 xa1 xa2, y ∈ p.1.set :=
  View.cover_of_tiledL (pcs10 c arg2 arg3 arg8 x0 x1 x6 xa1 xa2) S128x1.size (by sl_kernel_rfl) y

theorem runB_10  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) :
    (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.1 = pcs10 c arg2 arg3 arg8 x0 x1 x6 xa1 xa2 := rfl

theorem runA_10  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) :
    (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.1 = pcs10 c arg2 arg3 arg8 x0 x1 x6 (cache1 c x2 x3) (cache2 c x4 x5) := by
  rw [← loop1 c i arg2 harg2 arg3 harg3 arg4 harg4 arg5 harg5 arg6 harg6 arg7 harg7 arg8 harg8 arg9 harg9 arg10 harg10 arg11 harg11 arg12 harg12 x2 x3 xa1, ← loop2 c i arg2 harg2 arg3 harg3 arg4 harg4 arg5 harg5 arg6 harg6 arg7 harg7 arg8 harg8 arg9 harg9 arg10 harg10 arg11 harg11 arg12 harg12 x4 x5 xa2]
  rfl

theorem runB_s1  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) : (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.1 = xa1 := rfl
theorem runB_s2  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : ¬((Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1)) : (run_B c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.2.1 = xa2 := rfl
theorem runA_s1  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) : (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.1 = cache1 c x2 x3 :=
  loop1 c i arg2 harg2 arg3 harg3 arg4 harg4 arg5 harg5 arg6 harg6 arg7 harg7 arg8 harg8 arg9 harg9 arg10 harg10 arg11 harg11 arg12 harg12 x2 x3 xa1
theorem runA_s2  (c : Dev nD) (i : grid0.Coords) (arg2 : Memref sig .tc .vmem S128x2048 .fp8e4m3) (harg2 : arg2.IsWhole) (arg3 : Memref sig .tc .vmem S128x16 .f32) (harg3 : arg3.IsWhole) (arg4 : Memref sig .tc .vmem S2048x1408 .fp8e4m3) (harg4 : arg4.IsWhole) (arg5 : Memref sig .tc .smem S1x1x176 .f32) (harg5 : arg5.IsWhole) (arg6 : Memref sig .tc .vmem S1408x2048 .fp8e4m3) (harg6 : arg6.IsWhole) (arg7 : Memref sig .tc .smem S1x1x176 .f32) (harg7 : arg7.IsWhole) (arg8 : Memref sig .tc .vmem S128x1 .f32) (harg8 : arg8.IsWhole) (arg9 : Memref sig .tc .vmem S128x2048 .fp8e4m3) (harg9 : arg9.IsWhole) (arg10 : Memref sig .tc .vmem S128x16 .f32) (harg10 : arg10.IsWhole) (arg11 : Memref sig .tc .vmem S128x1408 .fp8e4m3) (harg11 : arg11.IsWhole) (arg12 : Memref sig .tc .vmem S128x11 .f32) (harg12 : arg12.IsWhole) (T0 : (S88x11.Idx → Elt F .i32))
     (x0 : (S128x2048.Idx → Elt F .fp8e4m3)) (x1 : (S128x16.Idx → Elt F .f32)) (x2 : (S2048x1408.Idx → Elt F .fp8e4m3)) (x3 : (S1x1x176.Idx → Elt F .f32)) (x4 : (S1408x2048.Idx → Elt F .fp8e4m3)) (x5 : (S1x1x176.Idx → Elt F .f32)) (x6 : (S128x1.Idx → Elt F .f32)) (xa1 : Buf (Elt F) ((c : Thread nD τ).loc cc0_scratch1)) (xa2 : Buf (Elt F) ((c : Thread nD τ).loc cc0_scratch2)) (hc0 : (Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32) = 1#1) : (run_A c i arg2 harg2 arg3 harg3 arg4 harg4 arg5 harg5 arg6 harg6 arg7 harg7 arg8 harg8 arg9 harg9 arg10 harg10 arg11 harg11 arg12 harg12 T0 x0 x1 x2 x3 x4 x5 x6 xa1 xa2 hc0).2.2.2.2.2.2.1 = cache2 c x4 x5 :=
  loop2 c i arg2 harg2 arg3 harg3 arg4 harg4 arg5 harg5 arg6 harg6 arg7 harg7 arg8 harg8 arg9 harg9 arg10 harg10 arg11 harg11 arg12 harg12 x4 x5 xa2

end Cert.KernelIdeal.Own
-- ==== Proof.KernelIdeal.Table.lean ====
module

public import Idealize.ShloMosaic.Lib.Affine
public import Idealize.ShloMosaic.Lib.ReduceAll
public import proofs.«01_k».proof.Proof.KernelIdeal.Block
public import proofs.«01_k».proof.Proof.Gen.KernelIdeal.Launch
public import proofs.«01_k».proof.Proof.Pre

@[expose] public section

set_option maxRecDepth 16384
set_option Elab.async false

noncomputable section

/- What the launch reads off the table of column indices: the word of a row block's first column, the expert it names, the
   blocks of the four weight operands at that expert, and when a point dequantises anew. -/

namespace Cert.KernelIdeal.Own

open Cert.KernelIdeal Cert.KernelIdeal.Gen
open Idealize.ShloMosaic
open Idealize.ShloMosaic.TcCoe Idealize.ShloMosaic.Tactic

variable {F : FTy → Type} [FloatOps F]

/-- The word of row block `i`'s first column index. -/
def word (pf : pre0.Contents (Elt F)) (i : grid0.Coords) : BitVec 32 :=
  pf.at 0 (Rect.unit (s := S88x11) (k0_off1 i) S1x1.size (k0_off1_inb i)) numel1_S1x1

theorem transform_2_eq (pf : pre0.Contents (Elt F)) (i : grid0.Coords) :
    cc0_transform_2 k0_off1_inb numel1_S1x1 pf i = ![0, (Pre.expert (word pf i)).toNat] := rfl
theorem transform_3_eq (pf : pre0.Contents (Elt F)) (i : grid0.Coords) :
    cc0_transform_3 k0_off1_inb numel1_S1x1 pf i = ![(Pre.expert (word pf i)).toNat, 0, 0] := rfl
theorem transform_4_eq (pf : pre0.Contents (Elt F)) (i : grid0.Coords) :
    cc0_transform_4 k0_off1_inb numel1_S1x1 pf i = ![(Pre.expert (word pf i)).toNat, 0] := rfl
theorem transform_5_eq (pf : pre0.Contents (Elt F)) (i : grid0.Coords) :
    cc0_transform_5 k0_off1_inb numel1_S1x1 pf i = ![(Pre.expert (word pf i)).toNat, 0, 0] := rfl

/-- Where every first column names one of the 64 experts, every weight block lies inside its array. -/
theorem ok_of_words (pf : pre0.Contents (Elt F)) (h : ∀ i, (Pre.expert (word pf i)).toNat < 64) : ok0 pf := by
  unfold ok0
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · rw [transform_2_eq]; have := h i; intro a
    fin_cases a
    · show (0 + 1) * 2048 ≤ 2048; omega
    · show ((Pre.expert (word pf i)).toNat + 1) * 1408 ≤ 90112; omega
  · rw [transform_3_eq]; have := h i; intro a
    fin_cases a
    · show ((Pre.expert (word pf i)).toNat + 1) * 1 ≤ 64; omega
    · show (0 + 1) * 1 ≤ 1; omega
    · show (0 + 1) * 176 ≤ 176; omega
  · rw [transform_4_eq]; have := h i; intro a
    fin_cases a
    · show ((Pre.expert (word pf i)).toNat + 1) * 1408 ≤ 90112; omega
    · show (0 + 1) * 2048 ≤ 2048; omega
  · rw [transform_5_eq]; have := h i; intro a
    fin_cases a
    · show ((Pre.expert (word pf i)).toNat + 1) * 1 ≤ 64; omega
    · show (0 + 1) * 1 ≤ 1; omega
    · show (0 + 1) * 176 ≤ 176; omega

/-- The word at a row block is the table's entry in that row, column 0. -/
theorem word_eq (pf : pre0.Contents (Elt F)) (i : grid0.Coords) :
    word pf i = pf 0 (ValueIdx.ix2 (n0 := 88) (n1 := 11) (i 0) 0) := by
  unfold word
  refine congrArg (pf 0) (funext fun a => Fin.ext ?_)
  show (k0_off1 i) a + 1 * 0 = _
  rw [k0_off1_eq]
  fin_cases a <;> rfl

/-- The condition a point tests before it dequantises: it is the first, or its first column differs from the one before. -/
abbrev Fresh (i : grid0.Coords) (T0 : Buf (Elt F) (((0 : Dev nD) : Thread nD τ).loc main_arg6)) : Prop :=
  Scalar.cmpi .ne (Scalar.extui (Scalar.ori (Scalar.cmpi .eq (BitVec.ofNat 32 (i 0).val) 0#32) (Scalar.cmpi .ne (View.readAt (Elt F) (tbM0_0).view (Rect.unit (s := S88x11) (k0_off2 i) S1x1.size (k0_off2_inb i)).toLoadRect T0 (Shape.Idx.first (numel1_S1x1.symm ▸ Nat.one_pos))) (View.readAt (Elt F) (tbM0_0).view (Rect.unit (s := S88x11) (k0_off1 i) S1x1.size (k0_off1_inb i)).toLoadRect T0 (Shape.Idx.first (numel1_S1x1.symm ▸ Nat.one_pos)))))) 0#32 = 1#1

theorem k0_off2_eq : ∀ i : grid0.Coords, k0_off2 i = ![(i 0).val - 1, 0] := by decide +kernel

theorem not_guard (a b c : BitVec 32) (h : ¬ Scalar.cmpi .ne (Scalar.extui (Scalar.ori (Scalar.cmpi .eq a 0#32) (Scalar.cmpi .ne b c))) 0#32 = 1#1) :
    ¬ a = 0#32 ∧ b = c := by
  rw [Scalar.guard_iff, Scalar.ori, IntOp.ori_eq_one, Scalar.cmpi, Scalar.cmpi, IntOp.cmpi_eq, IntOp.cmpi_ne, not_or, not_not] at h
  exact h

/-- A point that does not dequantise is not the first, and its word is the one before's. -/
theorem not_fresh (pf : pre0.Contents (Elt F)) (i i' : grid0.Coords) (hi : (i' 0).val = (i 0).val - 1) (h : ¬ Fresh i (pf 0)) :
    (i 0).val ≠ 0 ∧ word pf i' = word pf i := by
  replace h := not_guard _ _ _ h
  refine ⟨fun h0 => h.1 (by rw [h0]), ?_⟩
  refine Eq.trans ?_ (h.2.trans ?_)
  · rw [word_eq]
    refine congrArg (pf 0) (funext fun a => Fin.ext ?_)
    show _ = (k0_off2 i) a + 1 * 0
    rw [k0_off2_eq]
    fin_cases a
    · exact hi
    · rfl
  · rfl

end Cert.KernelIdeal.Own
-- ==== Proof.KernelIdeal.Dats.lean ====
module

public import Idealize.ShloMosaic.Lib.Pipeline.Quiescent
public import Idealize.ShloMosaic.Lib.Pipeline.Frame
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import proofs.«01_k».proof.Proof.KernelIdeal.Table

@[expose] public section

set_option maxRecDepth 16384
set_option Elab.async false

noncomputable section

/- The launch: every point's body, what each leaves in its outputs' blocks, and the run of the whole grid. Before a point the
   two caches hold the weights of the point before it, dequantised. -/

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table as launched. -/
def tab : pre0.Contents (Elt F) := fun k => m (((0 : Dev nD) : Thread nD τ).loc (pre0.ref k))

/-- The buffers as the launch finds them: after the host's reshapes. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

theorem V_tab (c : Dev nD) (k : Fin 1) : V m c (pre0.ref k) = tab m k := by
  have h0 : c = 0 := Subsingleton.elim _ _
  subst h0
  fin_cases k
  exact V_arg6 m 0

variable (hok : ok0 (tab m))

def adm : (pcfg0 (F := F)).Adm := ⟨tab m, hok⟩
abbrev cfgA : Pipeline.Cfg sig Λ₀ := cfg0 (F := F) (adm m hok)
abbrev pcs : Fin 1 → Pipeline.Cfg sig Λ₀ := Pipeline.pin (pcfgs (F := F)) fun _ => adm m hok

abbrev crd (t : Fin (cfgA m hok).N) : (cfgA m hok).grid.Coords := (cfgA m hok).grid.coords t

abbrev ms_0 (t : Fin (cfgA m hok).N) : Memref sig .tc .vmem S128x2048 .fp8e4m3 := spec0_0.stage ((cfgA m hok).slots t (0 : Fin 11))
abbrev hs_0 (t : Fin (cfgA m hok).N) : (ms_0 m hok t).IsWhole := hstage0_0 (((cfgA m hok).slots t (0 : Fin 11)).cast nbuf0_0)
abbrev ms_1 (t : Fin (cfgA m hok).N) : Memref sig .tc .vmem S128x16 .f32 := spec0_1.stage ((cfgA m hok).slots t (1 : Fin 11))
abbrev hs_1 (t : Fin (cfgA m hok).N) : (ms_1 m hok t).IsWhole := hstage0_1 (((cfgA m hok).slots t (1 : Fin 11)).cast nbuf0_1)
abbrev ms_2 (t : Fin (cfgA m hok).N) : Memref sig .tc .vmem S2048x1408 .fp8e4m3 := spec0_2.stage ((cfgA m hok).slots t (2 : Fin 11))
abbrev hs_2 (t : Fin (cfgA m hok).N) : (ms_2 m hok t).IsWhole := hstage0_2 (((cfgA m hok).slots t (2 : Fin 11)).cast nbuf0_2)
abbrev ms_3 (t : Fin (cfgA m hok).N) : Memref sig .tc .smem S1x1x176 .f32 := spec0_3.stage ((cfgA m hok).slots t (3 : Fin 11))
abbrev hs_3 (t : Fin (cfgA m hok).N) : (ms_3 m hok t).IsWhole := hstage0_3 (((cfgA m hok).slots t (3 : Fin 11)).cast nbuf0_3)
abbrev ms_4 (t : Fin (cfgA m hok).N) : Memref sig .tc .vmem S1408x2048 .fp8e4m3 := spec0_4.stage ((cfgA m hok).slots t (4 : Fin 11))
abbrev hs_4 (t : Fin (cfgA m hok).N) : (ms_4 m hok t).IsWhole := hstage0_4 (((cfgA m hok).slots t (4 : Fin 11)).cast nbuf0_4)
abbrev ms_5 (t : Fin (cfgA m hok).N) : Memref sig .tc .smem S1x1x176 .f32 := spec0_5.stage ((cfgA m hok).slots t (5 : Fin 11))
abbrev hs_5 (t : Fin (cfgA m hok).N) : (ms_5 m hok t).IsWhole := hstage0_5 (((cfgA m hok).slots t (5 : Fin 11)).cast nbuf0_5)
abbrev ms_6 (t : Fin (cfgA m hok).N) : Memref sig .tc .vmem S128x1 .f32 := spec0_6.stage ((cfgA m hok).slots t (6 : Fin 11))
abbrev hs_6 (t : Fin (cfgA m hok).N) : (ms_6 m hok t).IsWhole := hstage0_6 (((cfgA m hok).slots t (6 : Fin 11)).cast nbuf0_6)
abbrev ms_7 (t : Fin (cfgA m hok).N) : Memref sig .tc .vmem S128x2048 .fp8e4m3 := spec0_7.stage ((cfgA m hok).slots t (7 : Fin 11))
abbrev hs_7 (t : Fin (cfgA m hok).N) : (ms_7 m hok t).IsWhole := hstage0_7 (((cfgA m hok).slots t (7 : Fin 11)).cast nbuf0_7)
abbrev ms_8 (t : Fin (cfgA m hok).N) : Memref sig .tc .vmem S128x16 .f32 := spec0_8.stage ((cfgA m hok).slots t (8 : Fin 11))
abbrev hs_8 (t : Fin (cfgA m hok).N) : (ms_8 m hok t).IsWhole := hstage0_8 (((cfgA m hok).slots t (8 : Fin 11)).cast nbuf0_8)
abbrev ms_9 (t : Fin (cfgA m hok).N) : Memref sig .tc .vmem S128x1408 .fp8e4m3 := spec0_9.stage ((cfgA m hok).slots t (9 : Fin 11))
abbrev hs_9 (t : Fin (cfgA m hok).N) : (ms_9 m hok t).IsWhole := hstage0_9 (((cfgA m hok).slots t (9 : Fin 11)).cast nbuf0_9)
abbrev ms_10 (t : Fin (cfgA m hok).N) : Memref sig .tc .vmem S128x11 .f32 := spec0_10.stage ((cfgA m hok).slots t (10 : Fin 11))
abbrev hs_10 (t : Fin (cfgA m hok).N) : (ms_10 m hok t).IsWhole := hstage0_10 (((cfgA m hok).slots t (10 : Fin 11)).cast nbuf0_10)

/-- Window `w`'s block at point `t`. -/
def iblk (c : Dev nD) (w : Fin (cfgA m hok).W) (t : Fin (cfgA m hok).N) : (((cfgA m hok).win w).xblock (crd m hok t)).Idx → Elt F ((cfgA m hok).win w).elt :=
  (((cfgA m hok).win w).blk t).view.read (Elt F) (V m c (Pipeline.arrRef spec0 w))

theorem iblk2_congr (c : Dev nD) (t t' : Fin (cfgA m hok).N) (h : word (tab m) (crd m hok t') = word (tab m) (crd m hok t)) :
    (iblk m hok c (2 : Fin 11) t' : S2048x1408.Idx → Elt F .fp8e4m3) = (iblk m hok c (2 : Fin 11) t : S2048x1408.Idx → Elt F .fp8e4m3) := by
  funext x
  unfold iblk
  refine congrArg (V m c (Pipeline.arrRef spec0 (2 : Fin 11))) (funext fun a => Fin.ext ?_)
  show cc0_transform_2 k0_off1_inb numel1_S1x1 (tab m) (crd m hok t') a * S2048x1408.size a + 1 * (x a).val
    = cc0_transform_2 k0_off1_inb numel1_S1x1 (tab m) (crd m hok t) a * S2048x1408.size a + 1 * (x a).val
  rw [transform_2_eq, transform_2_eq, h]

theorem iblk3_congr (c : Dev nD) (t t' : Fin (cfgA m hok).N) (h : word (tab m) (crd m hok t') = word (tab m) (crd m hok t)) :
    (iblk m hok c (3 : Fin 11) t' : S1x1x176.Idx → Elt F .f32) = (iblk m hok c (3 : Fin 11) t : S1x1x176.Idx → Elt F .f32) := by
  funext x
  unfold iblk
  refine congrArg (V m c (Pipeline.arrRef spec0 (3 : Fin 11))) (funext fun a => Fin.ext ?_)
  show cc0_transform_3 k0_off1_inb numel1_S1x1 (tab m) (crd m hok t') a * S1x1x176.size a + 1 * (x a).val
    = cc0_transform_3 k0_off1_inb numel1_S1x1 (tab m) (crd m hok t) a * S1x1x176.size a + 1 * (x a).val
  rw [transform_3_eq, transform_3_eq, h]

theorem iblk4_congr (c : Dev nD) (t t' : Fin (cfgA m hok).N) (h : word (tab m) (crd m hok t') = word (tab m) (crd m hok t)) :
    (iblk m hok c (4 : Fin 11) t' : S1408x2048.Idx → Elt F .fp8e4m3) = (iblk m hok c (4 : Fin 11) t : S1408x2048.Idx → Elt F .fp8e4m3) := by
  funext x
  unfold iblk
  refine congrArg (V m c (Pipeline.arrRef spec0 (4 : Fin 11))) (funext fun a => Fin.ext ?_)
  show cc0_transform_4 k0_off1_inb numel1_S1x1 (tab m) (crd m hok t') a * S1408x2048.size a + 1 * (x a).val
    = cc0_transform_4 k0_off1_inb numel1_S1x1 (tab m) (crd m hok t) a * S1408x2048.size a + 1 * (x a).val
  rw [transform_4_eq, transform_4_eq, h]

theorem iblk5_congr (c : Dev nD) (t t' : Fin (cfgA m hok).N) (h : word (tab m) (crd m hok t') = word (tab m) (crd m hok t)) :
    (iblk m hok c (5 : Fin 11) t' : S1x1x176.Idx → Elt F .f32) = (iblk m hok c (5 : Fin 11) t : S1x1x176.Idx → Elt F .f32) := by
  funext x
  unfold iblk
  refine congrArg (V m c (Pipeline.arrRef spec0 (5 : Fin 11))) (funext fun a => Fin.ext ?_)
  show cc0_transform_5 k0_off1_inb numel1_S1x1 (tab m) (crd m hok t') a * S1x1x176.size a + 1 * (x a).val
    = cc0_transform_5 k0_off1_inb numel1_S1x1 (tab m) (crd m hok t) a * S1x1x176.size a + 1 * (x a).val
  rw [transform_5_eq, transform_5_eq, h]

/-- The two caches after point `t`: its expert's weights, dequantised. -/
def held1 (c : Dev nD) (t : Fin (cfgA m hok).N) : Buf (Elt F) ((c : Thread nD τ).loc cc0_scratch1) :=
  cache1 c (iblk m hok c (2 : Fin 11) t : S2048x1408.Idx → Elt F .fp8e4m3) (iblk m hok c (3 : Fin 11) t : S1x1x176.Idx → Elt F .f32)
def held2 (c : Dev nD) (t : Fin (cfgA m hok).N) : Buf (Elt F) ((c : Thread nD τ).loc cc0_scratch2) :=
  cache2 c (iblk m hok c (4 : Fin 11) t : S1408x2048.Idx → Elt F .fp8e4m3) (iblk m hok c (5 : Fin 11) t : S1x1x176.Idx → Elt F .f32)

/-- What point `t` leaves in output 7's block. -/
def outb7 (c : Dev nD) (t : Fin (cfgA m hok).N) : S128x2048.Idx → Elt F .fp8e4m3 :=
  View.canon (pcs7 c (ms_0 m hok t) (ms_1 m hok t) (ms_6 m hok t) (iblk m hok c (0 : Fin 11) t) (iblk m hok c (1 : Fin 11) t) (iblk m hok c (6 : Fin 11) t)
    (held1 m hok c t) (held2 m hok c t))

/-- What point `t` leaves in output 8's block. -/
def outb8 (c : Dev nD) (t : Fin (cfgA m hok).N) : S128x16.Idx → Elt F .f32 :=
  View.canon (pcs8 c (ms_0 m hok t) (ms_1 m hok t) (ms_6 m hok t) (iblk m hok c (0 : Fin 11) t) (iblk m hok c (1 : Fin 11) t) (iblk m hok c (6 : Fin 11) t)
    (held1 m hok c t) (held2 m hok c t))

/-- What point `t` leaves in output 9's block. -/
def outb9 (c : Dev nD) (t : Fin (cfgA m hok).N) : S128x1408.Idx → Elt F .fp8e4m3 :=
  View.canon (pcs9 c (ms_0 m hok t) (ms_1 m hok t) (ms_6 m hok t) (iblk m hok c (0 : Fin 11) t) (iblk m hok c (1 : Fin 11) t) (iblk m hok c (6 : Fin 11) t)
    (held1 m hok c t) (held2 m hok c t))

/-- What point `t` leaves in output 10's block. -/
def outb10 (c : Dev nD) (t : Fin (cfgA m hok).N) : S128x11.Idx → Elt F .f32 :=
  View.canon (pcs10 c (ms_0 m hok t) (ms_1 m hok t) (ms_6 m hok t) (iblk m hok c (0 : Fin 11) t) (iblk m hok c (1 : Fin 11) t) (iblk m hok c (6 : Fin 11) t)
    (held1 m hok c t) (held2 m hok c t))

/-- The invariant before position `n`: the scratch buffers, the caches at the weights of the point before, the table. -/
def Phi (c : Dev nD) (t : Fin ((cfgA m hok).N + 1)) : sProp 𝕄 :=
  iprop((∃ a, (scM0_0.view.loc (c : Thread nD τ) ↦{fullShare} a))
    ∗ (∃ a, ⌜∀ t' : Fin (cfgA m hok).N, t.val = t'.val + 1 → a = held1 m hok c t'⌝ ∗ (scM0_1.view.loc (c : Thread nD τ) ↦{fullShare} a))
    ∗ (∃ a, ⌜∀ t' : Fin (cfgA m hok).N, t.val = t'.val + 1 → a = held2 m hok c t'⌝ ∗ (scM0_2.view.loc (c : Thread nD τ) ↦{fullShare} a))
    ∗ (∃ a, (scM0_3.view.loc (c : Thread nD τ) ↦{fullShare} a))
    ∗ (tbM0_0.view.loc (c : Thread nD τ) ↦{fullShare.right} (tab m 0 : S88x11.Idx → Elt F .i32))
    ∗ ∃ r, prngReg c r)

/-- The proof data of the pipeline on core `c`. -/
def dats (_ : Fin 1) (c : Dev nD) : Dat τ (Elt F) Unit ℕ (UR sig nD τ) ℕ (cfgA m hok) c where
  A w := V m c (Pipeline.arrRef spec0 w)
  after w t := match w with
    | ⟨0, _⟩ => iblk m hok c (0 : Fin 11) t
    | ⟨1, _⟩ => iblk m hok c (1 : Fin 11) t
    | ⟨2, _⟩ => iblk m hok c (2 : Fin 11) t
    | ⟨3, _⟩ => iblk m hok c (3 : Fin 11) t
    | ⟨4, _⟩ => iblk m hok c (4 : Fin 11) t
    | ⟨5, _⟩ => iblk m hok c (5 : Fin 11) t
    | ⟨6, _⟩ => iblk m hok c (6 : Fin 11) t
    | ⟨7, _⟩ => outb7 m hok c t
    | ⟨8, _⟩ => outb8 m hok c t
    | ⟨9, _⟩ => outb9 m hok c t
    | ⟨10, _⟩ => outb10 m hok c t
  Φ t := Phi m hok c t
  q _ := fullShare
  owed _ := 0

theorem A_eq (c : Dev nD) (w : Fin (cfgA m hok).W) : (dats m hok 0 c).A w = V m c (Pipeline.arrRef spec0 w) := by
  dsimp only [dats]

theorem after_0 (c : Dev nD) (t : Fin (cfgA m hok).N) : (dats m hok 0 c).after (0 : Fin 11) t = iblk m hok c (0 : Fin 11) t := by dsimp only [dats]
theorem after_1 (c : Dev nD) (t : Fin (cfgA m hok).N) : (dats m hok 0 c).after (1 : Fin 11) t = iblk m hok c (1 : Fin 11) t := by dsimp only [dats]
theorem after_2 (c : Dev nD) (t : Fin (cfgA m hok).N) : (dats m hok 0 c).after (2 : Fin 11) t = iblk m hok c (2 : Fin 11) t := by dsimp only [dats]
theorem after_3 (c : Dev nD) (t : Fin (cfgA m hok).N) : (dats m hok 0 c).after (3 : Fin 11) t = iblk m hok c (3 : Fin 11) t := by dsimp only [dats]
theorem after_4 (c : Dev nD) (t : Fin (cfgA m hok).N) : (dats m hok 0 c).after (4 : Fin 11) t = iblk m hok c (4 : Fin 11) t := by dsimp only [dats]
theorem after_5 (c : Dev nD) (t : Fin (cfgA m hok).N) : (dats m hok 0 c).after (5 : Fin 11) t = iblk m hok c (5 : Fin 11) t := by dsimp only [dats]
theorem after_6 (c : Dev nD) (t : Fin (cfgA m hok).N) : (dats m hok 0 c).after (6 : Fin 11) t = iblk m hok c (6 : Fin 11) t := by dsimp only [dats]
theorem after_7 (c : Dev nD) (t : Fin (cfgA m hok).N) : (dats m hok 0 c).after (7 : Fin 11) t = outb7 m hok c t := by dsimp only [dats]
theorem after_8 (c : Dev nD) (t : Fin (cfgA m hok).N) : (dats m hok 0 c).after (8 : Fin 11) t = outb8 m hok c t := by dsimp only [dats]
theorem after_9 (c : Dev nD) (t : Fin (cfgA m hok).N) : (dats m hok 0 c).after (9 : Fin 11) t = outb9 m hok c t := by dsimp only [dats]
theorem after_10 (c : Dev nD) (t : Fin (cfgA m hok).N) : (dats m hok 0 c).after (10 : Fin 11) t = outb10 m hok c t := by dsimp only [dats]

theorem before_0 (c : Dev nD) (t : Fin (cfgA m hok).N) (d) : (dats m hok 0 c).before (0 : Fin 11) t d = iblk m hok c (0 : Fin 11) t :=
  ((dats m hok 0 c).before_in_eq_fetched (0 : Fin 11) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hok).N) (d) : (dats m hok 0 c).before (1 : Fin 11) t d = iblk m hok c (1 : Fin 11) t :=
  ((dats m hok 0 c).before_in_eq_fetched (1 : Fin 11) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hok).N) (d) : (dats m hok 0 c).before (2 : Fin 11) t d = iblk m hok c (2 : Fin 11) t :=
  ((dats m hok 0 c).before_in_eq_fetched (2 : Fin 11) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m hok).N) (d) : (dats m hok 0 c).before (3 : Fin 11) t d = iblk m hok c (3 : Fin 11) t :=
  ((dats m hok 0 c).before_in_eq_fetched (3 : Fin 11) rfl (fun _ => rfl) (fun _ _ _ => rfl) (fun t => by rw [after_3]; unfold Dat.blockOf iblk; rfl) t d).trans
    (by unfold Dat.fetched Dat.blockOf iblk; rfl)
theorem before_4 (c : Dev nD) (t : Fin (cfgA m hok).N) (d) : (dats m hok 0 c).before (4 : Fin 11) t d = iblk m hok c (4 : Fin 11) t :=
  ((dats m hok 0 c).before_in_eq_fetched (4 : Fin 11) rfl (fun _ => rfl) (fun _ _ _ => rfl) (fun t => by rw [after_4]; unfold Dat.blockOf iblk; rfl) t d).trans
    (by unfold Dat.fetched Dat.blockOf iblk; rfl)
theorem before_5 (c : Dev nD) (t : Fin (cfgA m hok).N) (d) : (dats m hok 0 c).before (5 : Fin 11) t d = iblk m hok c (5 : Fin 11) t :=
  ((dats m hok 0 c).before_in_eq_fetched (5 : Fin 11) rfl (fun _ => rfl) (fun _ _ _ => rfl) (fun t => by rw [after_5]; unfold Dat.blockOf iblk; rfl) t d).trans
    (by unfold Dat.fetched Dat.blockOf iblk; rfl)
theorem before_6 (c : Dev nD) (t : Fin (cfgA m hok).N) (d) : (dats m hok 0 c).before (6 : Fin 11) t d = iblk m hok c (6 : Fin 11) t :=
  ((dats m hok 0 c).before_in_eq_fetched (6 : Fin 11) rfl (fun _ => rfl) (fun _ _ _ => rfl) (fun t => by rw [after_6]; unfold Dat.blockOf iblk; rfl) t d).trans
    (by unfold Dat.fetched Dat.blockOf iblk; rfl)

/-- The body at point `t` on its staging buffers. -/
abbrev bodyAt (t : Fin (cfgA m hok).N) : Prog (TpuEff nD τ sig (Elt F) Λ₀ .tc) PUnit :=
  cc0__body (crd m hok t) (Memref.whole main_arg6) (Memref.isWhole_whole _) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Own
-- ==== Proof.KernelIdeal.Frame.lean ====
module

public import Idealize.ShloMosaic.Lib.Pipeline.Quiescent
public import Idealize.ShloMosaic.Lib.Pipeline.Frame
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import proofs.«01_k».proof.Proof.KernelIdeal.Dats

@[expose] public section

set_option maxRecDepth 16384
set_option Elab.async false

noncomputable section

/- The run of the launch: every point's body, what each leaves in its outputs' blocks, and the run of the whole grid. Before a point the
   two caches hold the weights of the point before it, dequantised. -/

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hok : ok0 (tab m))

theorem hset1 : (scM0_1 : Memref sig .tc .vmem S2048x1408 .bf16).view.set = Finset.univ := (Memref.isWhole_whole _ : scM0_1.IsWhole).set_eq_univ
theorem hset2 : (scM0_2 : Memref sig .tc .vmem S1408x2048 .bf16).view.set = Finset.univ := (Memref.isWhole_whole _ : scM0_2.IsWhole).set_eq_univ

theorem crd_val (t : Fin (cfgA m hok).N) : (crd m hok t 0).val = t.val := by
  exact (Pipeline.Grid.coords_val t 0 (S := 1) (B := 88) rfl rfl).trans (by rw [Nat.div_one]; exact Nat.mod_eq_of_lt (by have := t.isLt; have e : (cfgA m hok).N = 88 := N_0; omega))

set_option maxHeartbeats 4000000 in
/-- The body at point `t`, whichever way its test goes. -/
theorem sound_body (c : Dev nD) (t : Fin (cfgA m hok).N) :
    iprop((dats m hok 0 c).Φ t.castSucc ∗ (dats m hok 0 c).owesAt () t.castSucc
        ∗ (∃ d, owns (c : Thread nD τ) (ms_0 m hok t) fullShare ((dats m hok 0 c).before (0 : Fin 11) t d)) ∗ (∃ d, owns (c : Thread nD τ) (ms_1 m hok t) fullShare ((dats m hok 0 c).before (1 : Fin 11) t d)) ∗ (∃ d, owns (c : Thread nD τ) (ms_2 m hok t) fullShare ((dats m hok 0 c).before (2 : Fin 11) t d)) ∗ (∃ d, owns (c : Thread nD τ) (ms_3 m hok t) fullShare ((dats m hok 0 c).before (3 : Fin 11) t d)) ∗ (∃ d, owns (c : Thread nD τ) (ms_4 m hok t) fullShare ((dats m hok 0 c).before (4 : Fin 11) t d)) ∗ (∃ d, owns (c : Thread nD τ) (ms_5 m hok t) fullShare ((dats m hok 0 c).before (5 : Fin 11) t d)) ∗ (∃ d, owns (c : Thread nD τ) (ms_6 m hok t) fullShare ((dats m hok 0 c).before (6 : Fin 11) t d)) ∗ (∃ d, owns (c : Thread nD τ) (ms_7 m hok t) fullShare ((dats m hok 0 c).before (7 : Fin 11) t d)) ∗ (∃ d, owns (c : Thread nD τ) (ms_8 m hok t) fullShare ((dats m hok 0 c).before (8 : Fin 11) t d)) ∗ (∃ d, owns (c : Thread nD τ) (ms_9 m hok t) fullShare ((dats m hok 0 c).before (9 : Fin 11) t d)) ∗ (∃ d, owns (c : Thread nD τ) (ms_10 m hok t) fullShare ((dats m hok 0 c).before (10 : Fin 11) t d)))
      ⊢ wp frame (wpE (defs₀ (F := F)) Variants.none c none) Set.univ (bodyAt m hok t) fun _ =>
          iprop((dats m hok 0 c).Φ t.succ ∗ (dats m hok 0 c).owesAt () t.succ
            ∗ owns (c : Thread nD τ) (ms_0 m hok t) fullShare ((dats m hok 0 c).after (0 : Fin 11) t) ∗ owns (c : Thread nD τ) (ms_1 m hok t) fullShare ((dats m hok 0 c).after (1 : Fin 11) t) ∗ owns (c : Thread nD τ) (ms_2 m hok t) fullShare ((dats m hok 0 c).after (2 : Fin 11) t) ∗ owns (c : Thread nD τ) (ms_3 m hok t) fullShare ((dats m hok 0 c).after (3 : Fin 11) t) ∗ owns (c : Thread nD τ) (ms_4 m hok t) fullShare ((dats m hok 0 c).after (4 : Fin 11) t) ∗ owns (c : Thread nD τ) (ms_5 m hok t) fullShare ((dats m hok 0 c).after (5 : Fin 11) t) ∗ owns (c : Thread nD τ) (ms_6 m hok t) fullShare ((dats m hok 0 c).after (6 : Fin 11) t) ∗ owns (c : Thread nD τ) (ms_7 m hok t) fullShare ((dats m hok 0 c).after (7 : Fin 11) t) ∗ owns (c : Thread nD τ) (ms_8 m hok t) fullShare ((dats m hok 0 c).after (8 : Fin 11) t) ∗ owns (c : Thread nD τ) (ms_9 m hok t) fullShare ((dats m hok 0 c).after (9 : Fin 11) t) ∗ owns (c : Thread nD τ) (ms_10 m hok t) fullShare ((dats m hok 0 c).after (10 : Fin 11) t)) := by
  simp only [before_0, before_1, before_2, before_3, before_4, before_5, before_6, after_0, after_1, after_2, after_3, after_4, after_5, after_6, after_7, after_8, after_9, after_10]
  rewrite [show (dats m hok 0 c).Φ t.succ = Phi m hok c t.succ from rfl, show (dats m hok 0 c).Φ t.castSucc = Phi m hok c t.castSucc from rfl,
    show (dats m hok 0 c).owesAt () t.succ = (dats m hok 0 c).owesAt () t.castSucc from rfl]
  unfold Phi
  by_cases q0 : Fresh (F := F) (crd m hok t) (tab m 0)
  · skip
    iintro ⟨⟨⟨%a0, HS0⟩, ⟨%a1, %h1, HS1⟩, ⟨%a2, %h2, HS2⟩, ⟨%a3, HS3⟩, HT0, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have h7r := runA_7 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have h8r := runA_8 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have h9r := runA_9 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have h10r := runA_10 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have hs1r := runA_s1 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    have hs2r := runA_s2 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0
    generalize run_A c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0 = r at h7r h8r h9r h10r hs1r hs2r
    obtain ⟨o7, o8, o9, o10, s0, s1, s2, s3, R⟩ := r
    dsimp only at h7r h8r h9r h10r hs1r hs2r R
    rw [hset1, hset2] at R
    rw [h7r, h8r, h9r, h10r, hs1r, hs2r] at R
    iapply (R a0 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, HT0, ⟨%e7, H7⟩, ⟨%e8, H8⟩, ⟨%e9, H9⟩, ⟨%e10, H10⟩, HS0, HS1, HS2, HS3⟩
    isplitl [HS0 HS1 HS2 HS3 HT0 HP]
    · isplitl [HS0]; · iexists _; iexact HS0
      isplitl [HS1]
      · iexists _; isplitr; swap
        · iexact HS1
        · ipureintro; intro t' ht'
          have : t' = t := Fin.ext (by have h : t.val + 1 = t'.val + 1 := ht'; omega)
          subst this; rfl
      isplitl [HS2]
      · iexists _; isplitr; swap
        · iexact HS2
        · ipureintro; intro t' ht'
          have : t' = t := Fin.ext (by have h : t.val + 1 = t'.val + 1 := ht'; omega)
          subst this; rfl
      isplitl [HS3]; · iexists _; iexact HS3
      isplitl [HT0]; · iexact HT0
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]
    · unfold owns; iexists _; isplitr; swap
      · iexact H7
      · ipureintro; unfold outb7; exact View.read_writes_eq_canon _ _ _ (pcs7_cover c _ _ _ _ _ _ _ _)
    isplitl [H8]
    · unfold owns; iexists _; isplitr; swap
      · iexact H8
      · ipureintro; unfold outb8; exact View.read_writes_eq_canon _ _ _ (pcs8_cover c _ _ _ _ _ _ _ _)
    isplitl [H9]
    · unfold owns; iexists _; isplitr; swap
      · iexact H9
      · ipureintro; unfold outb9; exact View.read_writes_eq_canon _ _ _ (pcs9_cover c _ _ _ _ _ _ _ _)
    unfold owns; iexists _; isplitr; swap
    · iexact H10
    · ipureintro; unfold outb10; exact View.read_writes_eq_canon _ _ _ (pcs10_cover c _ _ _ _ _ _ _ _)
  · have hne : t.val ≠ 0 := fun h0 => (not_fresh (tab m) (crd m hok t) (crd m hok t) (by rw [crd_val]; omega) q0).1 (by rw [crd_val]; exact h0)
    have hw := (not_fresh (tab m) (crd m hok t) (crd m hok ⟨t.val - 1, by omega⟩) (by rw [crd_val, crd_val]) q0).2
    iintro ⟨⟨⟨%a0, HS0⟩, ⟨%a1, %h1, HS1⟩, ⟨%a2, %h2, HS2⟩, ⟨%a3, HS3⟩, HT0, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have e1 : a1 = held1 m hok c t := by
      rw [h1 ⟨t.val - 1, by omega⟩ (by show t.val = t.val - 1 + 1; omega)]
      unfold held1
      rw [iblk2_congr m hok c t ⟨t.val - 1, by omega⟩ hw, iblk3_congr m hok c t ⟨t.val - 1, by omega⟩ hw]
    have e2 : a2 = held2 m hok c t := by
      rw [h2 ⟨t.val - 1, by omega⟩ (by show t.val = t.val - 1 + 1; omega)]
      unfold held2
      rw [iblk4_congr m hok c t ⟨t.val - 1, by omega⟩ hw, iblk5_congr m hok c t ⟨t.val - 1, by omega⟩ hw]
    obtain ⟨r, h7r, h8r, h9r, h10r, hs1r, hs2r⟩ : ∃ r : type_of% (run_B c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0), r.1 = pcs7 c (ms_0 m hok t) (ms_1 m hok t) (ms_6 m hok t) (iblk m hok c (0 : Fin 11) t) (iblk m hok c (1 : Fin 11) t) (iblk m hok c (6 : Fin 11) t) a1 a2 ∧ r.2.1 = pcs8 c (ms_0 m hok t) (ms_1 m hok t) (ms_6 m hok t) (iblk m hok c (0 : Fin 11) t) (iblk m hok c (1 : Fin 11) t) (iblk m hok c (6 : Fin 11) t) a1 a2 ∧ r.2.2.1 = pcs9 c (ms_0 m hok t) (ms_1 m hok t) (ms_6 m hok t) (iblk m hok c (0 : Fin 11) t) (iblk m hok c (1 : Fin 11) t) (iblk m hok c (6 : Fin 11) t) a1 a2 ∧ r.2.2.2.1 = pcs10 c (ms_0 m hok t) (ms_1 m hok t) (ms_6 m hok t) (iblk m hok c (0 : Fin 11) t) (iblk m hok c (1 : Fin 11) t) (iblk m hok c (6 : Fin 11) t) a1 a2 ∧ r.2.2.2.2.2.1 = a1 ∧ r.2.2.2.2.2.2.1 = a2 :=
      ⟨run_B c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0, runB_7 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_8 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_9 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_10 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_s1 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0,
        runB_s2 c (crd m hok t) (ms_0 m hok t) (hs_0 m hok t) (ms_1 m hok t) (hs_1 m hok t) (ms_2 m hok t) (hs_2 m hok t) (ms_3 m hok t) (hs_3 m hok t) (ms_4 m hok t) (hs_4 m hok t) (ms_5 m hok t) (hs_5 m hok t) (ms_6 m hok t) (hs_6 m hok t) (ms_7 m hok t) (hs_7 m hok t) (ms_8 m hok t) (hs_8 m hok t) (ms_9 m hok t) (hs_9 m hok t) (ms_10 m hok t) (hs_10 m hok t) (tab m 0) (iblk m hok c (0 : Fin 11) t) (iblk m hok c (1 : Fin 11) t) (iblk m hok c (2 : Fin 11) t) (iblk m hok c (3 : Fin 11) t) (iblk m hok c (4 : Fin 11) t) (iblk m hok c (5 : Fin 11) t) (iblk m hok c (6 : Fin 11) t) a1 a2 q0⟩
    obtain ⟨o7, o8, o9, o10, s0, s1, s2, s3, R⟩ := r
    dsimp only at h7r h8r h9r h10r hs1r hs2r R
    rw [h7r, h8r, h9r, h10r, hs1r, hs2r] at R
    clear h7r h8r h9r h10r hs1r hs2r
    subst e1 e2
    iapply (R a0 a3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, HT0, ⟨%e7, H7⟩, ⟨%e8, H8⟩, ⟨%e9, H9⟩, ⟨%e10, H10⟩, HS0, HS1, HS2, HS3⟩
    isplitl [HS0 HS1 HS2 HS3 HT0 HP]
    · isplitl [HS0]; · iexists _; iexact HS0
      isplitl [HS1]
      · iexists _; isplitr; swap
        · iexact HS1
        · ipureintro; intro t' ht'
          have : t' = t := Fin.ext (by have h : t.val + 1 = t'.val + 1 := ht'; omega)
          subst this; rfl
      isplitl [HS2]
      · iexists _; isplitr; swap
        · iexact HS2
        · ipureintro; intro t' ht'
          have : t' = t := Fin.ext (by have h : t.val + 1 = t'.val + 1 := ht'; omega)
          subst this; rfl
      isplitl [HS3]; · iexists _; iexact HS3
      isplitl [HT0]; · iexact HT0
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]
    · unfold owns; iexists _; isplitr; swap
      · iexact H7
      · ipureintro; unfold outb7; exact View.read_writes_eq_canon _ _ _ (pcs7_cover c _ _ _ _ _ _ _ _)
    isplitl [H8]
    · unfold owns; iexists _; isplitr; swap
      · iexact H8
      · ipureintro; unfold outb8; exact View.read_writes_eq_canon _ _ _ (pcs8_cover c _ _ _ _ _ _ _ _)
    isplitl [H9]
    · unfold owns; iexists _; isplitr; swap
      · iexact H9
      · ipureintro; unfold outb9; exact View.read_writes_eq_canon _ _ _ (pcs9_cover c _ _ _ _ _ _ _ _)
    unfold owns; iexists _; isplitr; swap
    · iexact H10
    · ipureintro; unfold outb10; exact View.read_writes_eq_canon _ _ _ (pcs10_cover c _ _ _ _ _ _ _ _)

/-- The body table's row at point `t`'s slots is the body as `bodyAt` spells it. -/
theorem defs₀_row (t : Fin (cfgA m hok).N) :
    defs₀ (F := F) .tc (cfgA m hok).body ((cfgA m hok).bodyArgs t ((cfgA m hok).slots t)) = bodyAt m hok t := by
  unfold defs₀; rw [Defs.onTc_tc]

theorem body_obligation (c : Dev nD) : BodyObligation (dats m hok 0 c) (defs₀ (F := F)) Variants.none () Set.univ := fun t => by
  rw [bigSep_W0, bigSep_W0]
  exact sound_body m hok c t

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg6) ↦{q 0} v 0)) := by
  unfold Pipeline.prefHeld
  rw [show (Finset.univ : Finset (Fin 1)) = {(0 : Fin 1)} from by decide, bigSep_singleton]
  rfl

theorem phi_in (c : Dev nD) : iprop(Pipeline.ΦA spec0 c ∗ Pipeline.ΦT pre0 (adm m hok).1 c) ⊢ (dats m hok 0 c).Φ 0 := by
  unfold Pipeline.ΦA
  rw [show (Pipeline.ΦT pre0 (adm m hok).1 c : sProp 𝕄) = Pipeline.prefHeld pre0 c (fun _ => fullShare.right) (adm m hok).1 from rfl, prefHeld_eq, scopedRest0_eq, show (dats m hok 0 c).Φ 0 = Phi m hok c 0 from rfl]
  unfold Phi
  iintro ⟨⟨⟨⟨%a0, HS0⟩, ⟨%a1, HS1⟩, ⟨%a2, HS2⟩, ⟨%a3, HS3⟩⟩, HP⟩, HT0⟩
  isplitl [HS0]; · iexists a0; iexact HS0
  isplitl [HS1]
  · iexists a1; isplitr; swap
    · iexact HS1
    · ipureintro; intro t' h; exact absurd (show 0 = t'.val + 1 from h) (by omega)
  isplitl [HS2]
  · iexists a2; isplitr; swap
    · iexact HS2
    · ipureintro; intro t' h; exact absurd (show 0 = t'.val + 1 from h) (by omega)
  isplitl [HS3]; · iexists a3; iexact HS3
  isplitl [HT0]; · iexact HT0
  iexact HP

theorem phi_out (c : Dev nD) : (dats m hok 0 c).Φ (Fin.last (cfgA m hok).N) ⊢ Pipeline.ΦA spec0 c := by
  unfold Pipeline.ΦA
  rw [scopedRest0_eq, show (dats m hok 0 c).Φ (Fin.last (cfgA m hok).N) = Phi m hok c (Fin.last _) from rfl]
  unfold Phi
  iintro ⟨⟨%a0, HS0⟩, ⟨%a1, -, HS1⟩, ⟨%a2, -, HS2⟩, ⟨%a3, HS3⟩, -, HP⟩
  isplitr [HP]; swap
  · iexact HP
  isplitl [HS0]; · iexists a0; iexact HS0
  isplitl [HS1]; · iexists a1; iexact HS1
  isplitl [HS2]; · iexists a2; iexact HS2
  iexists a3; iexact HS3

set_option backward.isDefEq.respectTransparency.types false in
set_option maxHeartbeats 4000000 in
/-- From any memory with zero counters whose table names experts: every fair execution terminates, every array ends at what
    the proof data computes, every other buffer as the launch found it, every counter at zero. -/
theorem run_main_quiescent : θ_run (defs (F := F)) (onTc (τ := τ) (main (F := F))) (s₀ m ρ)
    (fun r => (Pipeline.FramePost (pcs m hok) (dats m hok) 0 (V m)) r ∧ r.2.sem = fun _ => 0) :=
  Pipeline.θ_run_frameP_track (Q' := _) pcfgs (fun _ => adm m hok) (dats m hok) (0 : Fin 1) launch0 defs₀ Variants.none m ρ main
    (hbody := fun c => (body_obligation m hok c).loose) (hshare := fun c => (dats m hok 0 c).share_full fun _ => rfl)
    (howed := fun _ _ => rfl) (V := V m)
    (hmain := Pipeline.hmainP_prefix pcfgs 0 defs₀ Variants.none m main hostOps0 hostOps0_sub hostOps0_fresh main_chain)
    (hA := A_eq m hok) (hpf := V_tab m) (hin := phi_in m hok) (hout := phi_out m hok)

theorem args_of_post (r : PUnit × MemSt nD τ sig (Elt F)) (h : Pipeline.FramePost (pcs m hok) (dats m hok) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have ha := fun w : Fin (cfgA m hok).W => (h c).1 w
  have hb := (h c).2
  refine ⟨?_, ?_, ?_, ?_, ?_, ?_, ?_, ?_⟩
  · exact ((ha (0 : Fin 11)).trans ((dats m hok 0 c).arrAt_in (0 : Fin 11) rfl _)).trans (V_arg0 m c)
  · exact ((ha (1 : Fin 11)).trans ((dats m hok 0 c).arrAt_in (1 : Fin 11) rfl _)).trans (V_arg1 m c)
  · exact ((ha (2 : Fin 11)).trans ((dats m hok 0 c).arrAt_in (2 : Fin 11) rfl _)).trans (V_arg2 m c)
  · exact (hb main_arg3 (Pipeline.mem_restRefs_of main_arg3 (by decide) (show ∀ w : Fin 11, (spec0 w).arr.view.ref ≠ main_arg3 from by decide))).trans (V_arg3 m c)
  · exact ((ha (4 : Fin 11)).trans ((dats m hok 0 c).arrAt_in (4 : Fin 11) rfl _)).trans (V_arg4 m c)
  · exact (hb main_arg5 (Pipeline.mem_restRefs_of main_arg5 (by decide) (show ∀ w : Fin 11, (spec0 w).arr.view.ref ≠ main_arg5 from by decide))).trans (V_arg5 m c)
  · exact (hb main_arg6 (Pipeline.mem_restRefs_of main_arg6 (by decide) (show ∀ w : Fin 11, (spec0 w).arr.view.ref ≠ main_arg6 from by decide))).trans (V_arg6 m c)
  · exact (hb main_arg7 (Pipeline.mem_restRefs_of main_arg7 (by decide) (show ∀ w : Fin 11, (spec0 w).arr.view.ref ≠ main_arg7 from by decide))).trans (V_arg7 m c)

/-- The frame: under the table's side condition, nothing faults, every argument ends unchanged, every counter at zero. -/
theorem frame (hok : ok0 (tab m)) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_of_post m hok r h.1 c, h.2⟩) (run_main_quiescent m ρ hok)

end Cert.KernelIdeal.Own
-- ==== Proof.Frames.lean ====
module

public import proofs.«01_k».proof.Defs
public import proofs.«01_k».proof.Proof.Pre
public import proofs.«01_k».proof.Proof.Kernel.Frame
public import proofs.«01_k».proof.Proof.KernelIdeal.Frame
public import proofs.«01_k».proof.Proof.Gen.ReferenceIdeal.Frame
public import proofs.«01_k».proof.Proof.Gen.Pre_pre

@[expose] public section

noncomputable section

/- The three frames, from the precondition: every row block's first table word names an expert below 64. -/

namespace Cert.Own

open Idealize.ShloMosaic Idealize.SL.Sem

/-- Under the precondition the kernel's table names experts, so every block it points at exists. -/
theorem ok_Kernel (m : (ℓ : Loc Kernel.nD Kernel.τ Kernel.sig) → Buf (Elt Bits) ℓ) (h : Pre_Kernel m) : Kernel.ok0 (Kernel.Own.tab m) := by
  refine Kernel.Own.ok_of_words (F := Bits) _ fun i => ?_
  rw [Kernel.Own.word_eq]
  exact Pre.expert_lt _ (Pre.first_lt _ _ _ _ _ _ _ _ (h 0) (i 0))

theorem ok_KernelIdeal (m : (ℓ : Loc KernelIdeal.nD KernelIdeal.τ KernelIdeal.sig) → Buf (Elt Ideal) ℓ) (h : Pre_KernelIdeal m) :
    KernelIdeal.ok0 (KernelIdeal.Own.tab m) := by
  refine KernelIdeal.Own.ok_of_words (F := Ideal) _ fun i => ?_
  rw [KernelIdeal.Own.word_eq]
  exact Pre.expert_lt _ (Pre.first_lt _ _ _ _ _ _ _ _ (h 0) (i 0))

theorem frame_Kernel : quiescent_Kernel := fun m g h => Kernel.Own.frame m g (ok_Kernel m h)

theorem frame_KernelIdeal : quiescent_KernelIdeal := fun m g h => KernelIdeal.Own.frame m g (ok_KernelIdeal m h)

theorem frame_ReferenceIdeal : quiescent_ReferenceIdeal := fun m g _ => ReferenceIdeal.Gen.frame m g

end Cert.Own
-- ==== Proof.PreRows.lean ====
module

public import proofs.«01_k».proof.Proof.Pre

@[expose] public section

set_option maxRecDepth 16384
set_option Elab.async false

noncomputable section

/- What the precondition says further of the table: each row's first entry is a multiple of eleven, and the row runs on
   from it. -/

namespace Cert.Pre

open Cert.Pre_pre
open Idealize.ShloMosaic

variable {F : FTy → Type} [FloatOps F]

/-- The remainder of a word by eleven as the precondition takes it: in the sign of the divisor. -/
def rem11 (v : BitVec 32) : BitVec 32 :=
  Scalar.select (Scalar.andi (Scalar.cmpi .ne (Scalar.cmpi .slt (IntOp.remsi .host v 11#32) 0#32) (Scalar.cmpi .slt 11#32 0#32)) (Scalar.cmpi .ne (IntOp.remsi .host v 11#32) 0#32))
    (Scalar.addi (IntOp.remsi .host v 11#32) 11#32) (IntOp.remsi .host v 11#32)

theorem rem11_small : ∀ k : Fin 704, rem11 (BitVec.ofNat 32 k.val) = BitVec.ofNat 32 (k.val % 11) := by decide +kernel

/-- A row's first column, under the precondition, is a multiple of eleven, and its columns run on from there. -/
theorem row_eq (a0 : FVec F S11264x2048 .fp8e4m3) (a1 : FVec F S11264x16 .f32) (a2 : FVec F S2048x90112 .fp8e4m3)
    (a3 : FVec F S16x704 .f32) (a4 : FVec F S90112x2048 .fp8e4m3) (a5 : FVec F S704x16 .f32) (a6 : IVec S88x11 32) (a7 : FVec F S11264 .f32)
    (h : Pre_pre.fn (F := F) a0 a1 a2 a3 a4 a5 a6 a7 = fun _ => 1#1) (r : Fin 88) :
    (a6 (ValueIdx.ix2 (n0 := 88) (n1 := 11) r 0)).toNat % 11 = 0
      ∧ ∀ j : Fin 11, a6 (ValueIdx.ix2 (n0 := 88) (n1 := 11) r j) = a6 (ValueIdx.ix2 (n0 := 88) (n1 := 11) r 0) + BitVec.ofNat 32 j.val := by
  have hv := first_lt a0 a1 a2 a3 a4 a5 a6 a7 h r
  have h0 := congrFun h (Shape.Idx.first (s := S_) (by decide))
  unfold Pre_pre.fn Pre_pre.fn_part1 at h0
  dsimp only at h0
  obtain ⟨h1, hall⟩ := IntOp.andi_eq_one.1 h0
  have hrem := (IntOp.andi_eq_one.1 h1).2
  haveI : Subsingleton S_.Idx := ⟨fun a b => funext fun x => x.elim0⟩
  have g := Host.reduce_andi_all _ _ _ _ _ hrem (ValueIdx.ix2 (n0 := 88) (n1 := 1) r 0)
  have e : extractStridedSlice S88x1 ![0, 0] a6 Facts.slices_S88x11_S88x1_0_0 (ValueIdx.ix2 (n0 := 88) (n1 := 1) r 0) = a6 (ValueIdx.ix2 (n0 := 88) (n1 := 11) r 0) := by
    unfold extractStridedSlice
    refine congrArg a6 (funext fun a => Fin.ext ?_)
    fin_cases a
    · show 0 + r.val = r.val; omega
    · rfl
  constructor
  · have g' : rem11 (a6 (ValueIdx.ix2 (n0 := 88) (n1 := 11) r 0)) = 0#32 := by
      rw [← e]
      unfold fn_remainder fn_where at g
      dsimp only at g
      exact IntOp.cmpi_eq.1 g
    have s := rem11_small ⟨_, hv⟩
    rw [show BitVec.ofNat 32 (a6 (ValueIdx.ix2 (n0 := 88) (n1 := 11) r 0)).toNat = a6 (ValueIdx.ix2 (n0 := 88) (n1 := 11) r 0) by simp, g'] at s
    have s' := congrArg BitVec.toNat s
    generalize a6 (ValueIdx.ix2 (n0 := 88) (n1 := 11) r 0) = v at *
    rw [BitVec.toNat_ofNat, BitVec.toNat_ofNat] at s'
    change 0 % 2 ^ 32 = v.toNat % 11 % 2 ^ 32 at s'
    omega
  · intro j
    have l := Host.reduce_andi_all _ _ _ _ _ hall (ValueIdx.ix2 (n0 := 88) (n1 := 11) r j)
    have l' := IntOp.cmpi_eq.1 l
    refine l'.trans ?_
    rw [← e]
    show broadcastInDim S88x11 ![0, 1] Facts.bcast_S88x1_S88x11_0_1 (extractStridedSlice S88x1 ![0, 0] a6 Facts.slices_S88x11_S88x1_0_0) (ValueIdx.ix2 (n0 := 88) (n1 := 11) r j) + _ = _
    refine congrArg₂ (· + ·) ?_ rfl
    unfold broadcastInDim
    refine congrArg (extractStridedSlice S88x1 ![0, 0] a6 Facts.slices_S88x11_S88x1_0_0) (funext fun a => Fin.ext ?_)
    fin_cases a <;> rfl

end Cert.Pre
-- ==== Proof.Math.lean ====
module

public import Idealize.ShloMosaic.Lib.Pointwise

@[expose] public section

set_option maxRecDepth 16384

noncomputable section

/- The problem's mathematics for one row over the extended reals: the activation, the quantiser of a group of 128
   numbers, and the two products. Kernel and reference are both shown to compute these. -/

namespace Cert.Own.Math

open Idealize.ShloMosaic

/-- The activation, `a/2 · (1 + tanh(√(2/π) · (a + 0.044715 a³)))`. -/
def gelu (a : Ideal .f32) : Ideal .f32 :=
  Ideal.ofBits .f32 1056964608#32 * a
    * (1 + Ideal.tanh (Ideal.ofBits .f32 1061962282#32 * (a + Ideal.ofBits .f32 1027024659#32 * (a * a * a))))

/-- The largest magnitude of a group. -/
def amax (g : Fin 128 → Ideal .f32) : Ideal .f32 :=
  Finset.univ.fold max (Ideal.ofBits .f32 4286578688#32) (fun k => FloatOps.absf (g k))

/-- The exponent of a group's scale: `⌊log₂(a / 448)⌋ + 1`, and 0 for a group of zeros. -/
def expo (a : Ideal .f32) : Ideal .f32 :=
  if a = 0 then 0 else
    Ideal.liftRound Int.floor (Ideal.div (Ideal.log (a * Ideal.ofBits .f32 991054117#32)) (Scalar.log (Ideal.ofBits .f32 1073741824#32 : Ideal .f32))) + 1

/-- A group's scale. -/
def scaleOf (g : Fin 128 → Ideal .f32) : Ideal .f32 := FloatOps.exp2 (expo (amax g))

/-- The code of `v` in group `g`: divided by the scale and clipped to ±448. -/
def codeOf (g : Fin 128 → Ideal .f32) (v : Ideal .f32) : Ideal .f32 :=
  min (Ideal.ofBits .f32 1138753536#32) (max (Ideal.ofBits .f32 3286237184#32) (v * FloatOps.exp2 (0 - expo (amax g))))

/-- Element `j` of a row, quantised in its group. -/
def qcode {n : ℕ} (h : n % 128 = 0) (v : Fin n → Ideal .f32) (j : Fin n) : Ideal .f32 :=
  codeOf (fun k : Fin 128 => v ⟨j.val / 128 * 128 + k.val, by have := j.isLt; have := k.isLt; omega⟩) (v j)

/-- The scale of group `g` of a row. -/
def qscale {n m : ℕ} (h : n = m * 128) (v : Fin n → Ideal .f32) (g : Fin m) : Ideal .f32 :=
  scaleOf (fun k : Fin 128 => v ⟨g.val * 128 + k.val, by have := g.isLt; have := k.isLt; omega⟩)

/-- A row of the hidden layer: the activation of the first product. -/
def rowH (X : Fin 2048 → Ideal .f32) (W : Fin 2048 → Fin 1408 → Ideal .f32) (f : Fin 1408) : Ideal .f32 :=
  gelu (∑ k, X k * W k f)

/-- A row of the hidden layer after quantisation: code times scale. -/
def rowD (v : Fin 1408 → Ideal .f32) (f : Fin 1408) : Ideal .f32 :=
  qcode (n := 1408) rfl v f * qscale (n := 1408) (m := 11) rfl v ⟨f.val / 128, by have := f.isLt; omega⟩

/-- A row of the result before quantisation: the second product times the row's weight. -/
def rowO (D : Fin 1408 → Ideal .f32) (W : Fin 1408 → Fin 2048 → Ideal .f32) (w : Ideal .f32) (j : Fin 2048) : Ideal .f32 :=
  (∑ f, D f * W f j) * w

/- The four results, of whole arrays: codes and scales of the row blocks (`a0`, `a1`), of the two weights (`a2`, `a3` and
   `a4`, `a5`), the table of column indices (`a6`) and the row weights (`a7`). -/

/-- A row of the dequantised input. -/
def inRow (a0 : (⟨2, ![11264, 2048]⟩ : Shape).Idx → Ideal .fp8e4m3) (a1 : (⟨2, ![11264, 16]⟩ : Shape).Idx → Ideal .f32)
    (R : Fin 11264) (k : Fin 2048) : Ideal .f32 :=
  (a0 (ix2 R k) : Ideal .f32) * a1 (ix2 R ⟨k.val / 128, by have := k.isLt; omega⟩)

/-- The first weight of expert `e`, dequantised. -/
def wIn (a2 : (⟨2, ![2048, 90112]⟩ : Shape).Idx → Ideal .fp8e4m3) (a3 : (⟨2, ![16, 704]⟩ : Shape).Idx → Ideal .f32)
    (e : Fin 64) (k : Fin 2048) (f : Fin 1408) : Ideal .f32 :=
  (a2 (ix2 k ⟨e.val * 1408 + f.val, by have := e.isLt; have := f.isLt; omega⟩) : Ideal .f32)
    * a3 (ix2 ⟨k.val / 128, by have := k.isLt; omega⟩ ⟨e.val * 11 + f.val / 128, by have := e.isLt; have := f.isLt; omega⟩)

/-- The second weight of expert `e`, dequantised. -/
def wOut (a4 : (⟨2, ![90112, 2048]⟩ : Shape).Idx → Ideal .fp8e4m3) (a5 : (⟨2, ![704, 16]⟩ : Shape).Idx → Ideal .f32)
    (e : Fin 64) (f : Fin 1408) (j : Fin 2048) : Ideal .f32 :=
  (a4 (ix2 ⟨e.val * 1408 + f.val, by have := e.isLt; have := f.isLt; omega⟩ j) : Ideal .f32)
    * a5 (ix2 ⟨e.val * 11 + f.val / 128, by have := e.isLt; have := f.isLt; omega⟩ ⟨j.val / 128, by have := j.isLt; omega⟩)

/-- The expert that row block `r` names. -/
def exp6 (a6 : (⟨2, ![88, 11]⟩ : Shape).Idx → BitVec 32) (r : Fin 88) : Fin 64 :=
  ⟨(a6 (ix2 r 0)).toNat / 11 % 64, Nat.mod_lt _ (by decide)⟩

/-- The row block of a row. -/
def blkOf (R : Fin 11264) : Fin 88 := ⟨R.val / 128, by have := R.isLt; omega⟩

variable (a0 : (⟨2, ![11264, 2048]⟩ : Shape).Idx → Ideal .fp8e4m3) (a1 : (⟨2, ![11264, 16]⟩ : Shape).Idx → Ideal .f32)
  (a2 : (⟨2, ![2048, 90112]⟩ : Shape).Idx → Ideal .fp8e4m3) (a3 : (⟨2, ![16, 704]⟩ : Shape).Idx → Ideal .f32)
  (a4 : (⟨2, ![90112, 2048]⟩ : Shape).Idx → Ideal .fp8e4m3) (a5 : (⟨2, ![704, 16]⟩ : Shape).Idx → Ideal .f32)
  (a6 : (⟨2, ![88, 11]⟩ : Shape).Idx → BitVec 32) (a7 : (⟨1, ![11264]⟩ : Shape).Idx → Ideal .f32)

/-- Row `R` of the hidden layer. -/
def hid (R : Fin 11264) : Fin 1408 → Ideal .f32 := rowH (inRow a0 a1 R) (wIn a2 a3 (exp6 a6 (blkOf R)))

/-- Row `R` of the result before quantisation. -/
def res (R : Fin 11264) : Fin 2048 → Ideal .f32 :=
  rowO (rowD (hid a0 a1 a2 a3 a6 R)) (wOut a4 a5 (exp6 a6 (blkOf R))) (a7 (ix1 R))

/-- The codes of the result. -/
def yCodes (y : (⟨2, ![11264, 2048]⟩ : Shape).Idx) : Ideal .f32 := qcode (n := 2048) rfl (res a0 a1 a2 a3 a4 a5 a6 a7 (y 0)) (y 1)
/-- The scales of the result. -/
def yScales (y : (⟨2, ![11264, 16]⟩ : Shape).Idx) : Ideal .f32 := qscale (n := 2048) (m := 16) rfl (res a0 a1 a2 a3 a4 a5 a6 a7 (y 0)) (y 1)
/-- The codes of the hidden layer. -/
def hCodes (y : (⟨2, ![11264, 1408]⟩ : Shape).Idx) : Ideal .f32 := qcode (n := 1408) rfl (hid a0 a1 a2 a3 a6 (y 0)) (y 1)
/-- The scales of the hidden layer. -/
def hScales (y : (⟨2, ![11264, 11]⟩ : Shape).Idx) : Ideal .f32 := qscale (n := 1408) (m := 11) rfl (hid a0 a1 a2 a3 a6 (y 0)) (y 1)

theorem qcode_at {n : ℕ} (h : n % 128 = 0) (v : Fin n → Ideal .f32) (o q : ℕ) (ho : o % 128 = 0) (hq : q < 128) (hn : o + q < n) :
    qcode h v ⟨o + q, hn⟩ = codeOf (fun k : Fin 128 => v ⟨o + k.val, by have := k.isLt; omega⟩) (v ⟨o + q, hn⟩) := by
  have e : (o + q) / 128 * 128 = o := by omega
  unfold qcode
  refine congrArg (fun g => codeOf g (v ⟨o + q, hn⟩)) (funext fun k => congrArg v (Fin.ext ?_))
  show (o + q) / 128 * 128 + k.val = o + k.val
  rw [e]

theorem qscale_at {n m : ℕ} (h : n = m * 128) (v : Fin n → Ideal .f32) (o g : ℕ) (ho : o = g * 128) (hg : g < m) :
    qscale h v ⟨g, hg⟩ = scaleOf (fun k : Fin 128 => v ⟨o + k.val, by have := k.isLt; omega⟩) := by
  subst ho; rfl

end Cert.Own.Math
-- ==== Proof.KernelIdeal.Value.lean ====
module
public import proofs.«01_k».proof.Proof.KernelIdeal.Block
public import Idealize.ShloMosaic.Lib.VecWindow
public import proofs.«01_k».proof.Proof.Math
@[expose] public section
set_option maxRecDepth 16384
set_option Elab.async false
noncomputable section

/- What one grid point's pieces are over the extended reals: the rows of the mathematics, group by group. -/

namespace Cert.KernelIdeal.Own
open Cert.KernelIdeal Cert.KernelIdeal.Gen Cert.Own.Math
open Idealize.ShloMosaic
open Idealize.ShloMosaic.TcCoe

/-- A position of a band of columns starting at column `o`. -/
theorem emb_band {n w : ℕ} (o : ℕ) (inb : ∀ a, (![0, o] : Fin 2 → ℕ) a + (![128, w] : Fin 2 → ℕ) a ≤ (⟨2, ![128, n]⟩ : Shape).size a) (p : Fin 128) (q : Fin w) :
    (Rect.unit (s := (⟨2, ![128, n]⟩ : Shape)) ![0, o] ![128, w] inb).emb (ix2 p q)
      = (ix2 p ⟨o + q.val, Nat.lt_of_lt_of_le (Nat.add_lt_add_left q.isLt o) (inb 1)⟩ : (⟨2, ![128, n]⟩ : Shape).Idx) := by
  funext a
  apply Fin.ext
  fin_cases a
  · show 0 + 1 * p.val = p.val
    omega
  · show o + 1 * q.val = o + q.val
    omega

/-- A band of codes of an array `H` is the band of its rows' codes. -/
theorem code_band {n : ℕ} (hn : n % 128 = 0) (H : Fin 128 → Fin n → Ideal .f32) (o : ℕ) (ho : o % 128 = 0)
    (inb : ∀ a, (![0, o] : Fin 2 → ℕ) a + (![128, 128] : Fin 2 → ℕ) a ≤ (⟨2, ![128, n]⟩ : Shape).size a) (P : (⟨2, ![128, 128]⟩ : Shape).Idx → Ideal .f32)
    (h : ∀ p q : Fin 128, P (ix2 p q) = codeOf (fun k => H p ⟨o + k.val, Nat.lt_of_lt_of_le (Nat.add_lt_add_left k.isLt o) (inb 1)⟩) (H p ⟨o + q.val, Nat.lt_of_lt_of_le (Nat.add_lt_add_left q.isLt o) (inb 1)⟩)) :
    ∀ x, P x = (fun y : (⟨2, ![128, n]⟩ : Shape).Idx => qcode hn (H (y 0)) (y 1)) ((Rect.unit (s := (⟨2, ![128, n]⟩ : Shape)) ![0, o] ![128, 128] inb).emb x) := by
  intro x
  obtain ⟨p, q, rfl⟩ : ∃ (p q : Fin 128), x = ix2 p q := ⟨x 0, x 1, eq_ix2 x⟩
  refine (h p q).trans ?_
  rw [emb_band (n := n) (w := 128) o inb p q]
  exact (qcode_at hn (H p) o q.val ho q.isLt _).symm

/-- A column of scales of an array `H` is the column of its rows' scales. -/
theorem scale_band {n m : ℕ} (hn : n = m * 128) (H : Fin 128 → Fin n → Ideal .f32) (g o : ℕ) (ho : o = g * 128) (hg : g < m)
    (inb : ∀ a, (![0, g] : Fin 2 → ℕ) a + (![128, 1] : Fin 2 → ℕ) a ≤ (⟨2, ![128, m]⟩ : Shape).size a) (P : (⟨2, ![128, 1]⟩ : Shape).Idx → Ideal .f32)
    (h : ∀ p : Fin 128, P (ix2 p 0) = scaleOf (fun k => H p ⟨o + k.val, by have := k.isLt; omega⟩)) :
    ∀ x, P x = (fun y : (⟨2, ![128, m]⟩ : Shape).Idx => qscale hn (H (y 0)) (y 1)) ((Rect.unit (s := (⟨2, ![128, m]⟩ : Shape)) ![0, g] ![128, 1] inb).emb x) := by
  intro x
  obtain ⟨p, q, rfl⟩ : ∃ (p : Fin 128) (q : Fin 1), x = ix2 p q := ⟨x 0, x 1, eq_ix2 x⟩
  obtain rfl : q = 0 := Subsingleton.elim _ _
  refine (h p).trans ?_
  rw [emb_band (n := m) (w := 1) g inb p 0]
  exact (qscale_at hn (H p) o g ho hg).symm

/-- A band of dequantised codes. -/
theorem prod_band (H : Fin 128 → Fin 1408 → Ideal .f32) (g o : ℕ) (ho : o = g * 128) (hg : g < 11)
    (inb : ∀ a, (![0, o] : Fin 2 → ℕ) a + (![128, 128] : Fin 2 → ℕ) a ≤ (⟨2, ![128, 1408]⟩ : Shape).size a) (P : (⟨2, ![128, 128]⟩ : Shape).Idx → Ideal .f32)
    (h : ∀ p q : Fin 128, P (ix2 p q) = codeOf (fun k => H p ⟨o + k.val, Nat.lt_of_lt_of_le (Nat.add_lt_add_left k.isLt o) (inb 1)⟩) (H p ⟨o + q.val, Nat.lt_of_lt_of_le (Nat.add_lt_add_left q.isLt o) (inb 1)⟩)
      * scaleOf (fun k => H p ⟨o + k.val, Nat.lt_of_lt_of_le (Nat.add_lt_add_left k.isLt o) (inb 1)⟩)) :
    ∀ x, P x = (fun y : (⟨2, ![128, 1408]⟩ : Shape).Idx => rowD (H (y 0)) (y 1)) ((Rect.unit (s := (⟨2, ![128, 1408]⟩ : Shape)) ![0, o] ![128, 128] inb).emb x) := by
  intro x
  obtain ⟨p, q, rfl⟩ : ∃ (p q : Fin 128), x = ix2 p q := ⟨x 0, x 1, eq_ix2 x⟩
  refine (h p q).trans ?_
  rw [emb_band (n := 1408) (w := 128) o inb p q]
  have hq := q.isLt
  have e : (o + q.val) / 128 = g := by omega
  show _ = rowD (H p) ⟨o + q.val, _⟩
  unfold rowD
  rw [qcode_at rfl (H p) o q.val (by omega) q.isLt]
  refine congrArg _ ?_
  have e2 : (⟨(o + q.val) / 128, by omega⟩ : Fin 11) = ⟨g, hg⟩ := Fin.ext e
  exact (qscale_at rfl (H p) o g ho hg).symm.trans (congrArg _ e2.symm)

variable (c : Dev nD) (arg2 : Memref sig .tc .vmem S128x2048 .fp8e4m3) (arg3 : Memref sig .tc .vmem S128x16 .f32) (arg8 : Memref sig .tc .vmem S128x1 .f32) (x0 : S128x2048.Idx → Elt Ideal .fp8e4m3) (x1 : S128x16.Idx → Elt Ideal .f32) (x6 : S128x1.Idx → Elt Ideal .f32) (xa1 : Buf (Elt Ideal) ((c : Thread nD τ).loc cc0_scratch1)) (xa2 : Buf (Elt Ideal) ((c : Thread nD τ).loc cc0_scratch2))

theorem pcs9_code : ∀ p ∈ run_B.sl.HO9_11 c arg2 arg3 x0 x1 xa1, ∀ x : p.1.shape.Idx,
    p.2 x = (fun y : S128x1408.Idx => (qcode (n := 1408) rfl (fun f => (run_B.sl.r_6 c arg2 arg3 x0 x1 xa1 : FVec Ideal S128x1408 .f32) (ix2 (y 0) f)) (y 1) : Elt Ideal .fp8e4m3)) (p.1.emb x) := by
  unfold run_B.sl.HO9_11
  simp only [List.forall_mem_cons, List.not_mem_nil, false_imp_iff, forall_const, implies_true, and_true, run_B.sl.r_7, run_B.sl.r_8, run_B.sl.r_9, run_B.sl.r_10, run_B.sl.r_11, run_B.sl.r_12, run_B.sl.r_13, run_B.sl.r_14, run_B.sl.r_15, run_B.sl.r_16, run_B.sl.r_17, run_B.sl.r_18, run_B.sl.r_19, run_B.sl.r_20, run_B.sl.r_21, run_B.sl.r_22, run_B.sl.r_23, run_B.sl.r_24, run_B.sl.r_25, run_B.sl.r_26, run_B.sl.r_27, run_B.sl.r_28, run_B.sl.r_29]
  generalize run_B.sl.r_6 c arg2 arg3 x0 x1 xa1 = H
  refine ⟨code_band (n := 1408) rfl (fun p f => H (ix2 p f)) 1280 rfl _ _ ?_, code_band (n := 1408) rfl (fun p f => H (ix2 p f)) 1152 rfl _ _ ?_, code_band (n := 1408) rfl (fun p f => H (ix2 p f)) 1024 rfl _ _ ?_, code_band (n := 1408) rfl (fun p f => H (ix2 p f)) 896 rfl _ _ ?_, code_band (n := 1408) rfl (fun p f => H (ix2 p f)) 768 rfl _ _ ?_, code_band (n := 1408) rfl (fun p f => H (ix2 p f)) 640 rfl _ _ ?_, code_band (n := 1408) rfl (fun p f => H (ix2 p f)) 512 rfl _ _ ?_, code_band (n := 1408) rfl (fun p f => H (ix2 p f)) 384 rfl _ _ ?_, code_band (n := 1408) rfl (fun p f => H (ix2 p f)) 256 rfl _ _ ?_, code_band (n := 1408) rfl (fun p f => H (ix2 p f)) 128 rfl _ _ ?_, code_band (n := 1408) rfl (fun p f => H (ix2 p f)) 0 rfl _ _ ?_⟩
  all_goals
    intro p q
    unfold_payloads
    pointwise [run_B.sl.cst_109, run_B.sl.cst_125, run_B.sl.cst_158, run_B.sl.cst_309]
    try simp only [Nat.zero_add]
    rfl

theorem pcs10_scale : ∀ p ∈ run_B.sl.HO10_11 c arg2 arg3 x0 x1 xa1, ∀ x : p.1.shape.Idx,
    p.2 x = (fun y : S128x11.Idx => (qscale (n := 1408) (m := 11) rfl (fun f => (run_B.sl.r_6 c arg2 arg3 x0 x1 xa1 : FVec Ideal S128x1408 .f32) (ix2 (y 0) f)) (y 1) : Elt Ideal .f32)) (p.1.emb x) := by
  unfold run_B.sl.HO10_11
  simp only [List.forall_mem_cons, List.not_mem_nil, false_imp_iff, forall_const, implies_true, and_true, run_B.sl.r_7, run_B.sl.r_8, run_B.sl.r_9, run_B.sl.r_10, run_B.sl.r_11, run_B.sl.r_12, run_B.sl.r_13, run_B.sl.r_14, run_B.sl.r_15, run_B.sl.r_16, run_B.sl.r_17, run_B.sl.r_18, run_B.sl.r_19, run_B.sl.r_20, run_B.sl.r_21, run_B.sl.r_22, run_B.sl.r_23, run_B.sl.r_24, run_B.sl.r_25, run_B.sl.r_26, run_B.sl.r_27, run_B.sl.r_28, run_B.sl.r_29]
  generalize run_B.sl.r_6 c arg2 arg3 x0 x1 xa1 = H
  refine ⟨scale_band (n := 1408) (m := 11) rfl (fun p f => H (ix2 p f)) 10 1280 rfl (by decide) _ _ ?_, scale_band (n := 1408) (m := 11) rfl (fun p f => H (ix2 p f)) 9 1152 rfl (by decide) _ _ ?_, scale_band (n := 1408) (m := 11) rfl (fun p f => H (ix2 p f)) 8 1024 rfl (by decide) _ _ ?_, scale_band (n := 1408) (m := 11) rfl (fun p f => H (ix2 p f)) 7 896 rfl (by decide) _ _ ?_, scale_band (n := 1408) (m := 11) rfl (fun p f => H (ix2 p f)) 6 768 rfl (by decide) _ _ ?_, scale_band (n := 1408) (m := 11) rfl (fun p f => H (ix2 p f)) 5 640 rfl (by decide) _ _ ?_, scale_band (n := 1408) (m := 11) rfl (fun p f => H (ix2 p f)) 4 512 rfl (by decide) _ _ ?_, scale_band (n := 1408) (m := 11) rfl (fun p f => H (ix2 p f)) 3 384 rfl (by decide) _ _ ?_, scale_band (n := 1408) (m := 11) rfl (fun p f => H (ix2 p f)) 2 256 rfl (by decide) _ _ ?_, scale_band (n := 1408) (m := 11) rfl (fun p f => H (ix2 p f)) 1 128 rfl (by decide) _ _ ?_, scale_band (n := 1408) (m := 11) rfl (fun p f => H (ix2 p f)) 0 0 rfl (by decide) _ _ ?_⟩
  all_goals
    intro p
    unfold_payloads
    pointwise [run_B.sl.cst_109, run_B.sl.cst_125, run_B.sl.cst_158, run_B.sl.cst_309]
    try simp only [Nat.zero_add]
    rfl

theorem hd_prod : ∀ p ∈ run_B.sl.HS3_11 c arg2 arg3 x0 x1 xa1, ∀ x : p.1.shape.Idx,
    p.2 x = (fun y : S128x1408.Idx => (rowD (fun f => (run_B.sl.r_6 c arg2 arg3 x0 x1 xa1 : FVec Ideal S128x1408 .f32) (ix2 (y 0) f)) (y 1) : Elt Ideal .bf16)) (p.1.emb x) := by
  unfold run_B.sl.HS3_11
  simp only [List.forall_mem_cons, List.not_mem_nil, false_imp_iff, forall_const, implies_true, and_true, run_B.sl.r_7, run_B.sl.r_8, run_B.sl.r_9, run_B.sl.r_10, run_B.sl.r_11, run_B.sl.r_12, run_B.sl.r_13, run_B.sl.r_14, run_B.sl.r_15, run_B.sl.r_16, run_B.sl.r_17, run_B.sl.r_18, run_B.sl.r_19, run_B.sl.r_20, run_B.sl.r_21, run_B.sl.r_22, run_B.sl.r_23, run_B.sl.r_24, run_B.sl.r_25, run_B.sl.r_26, run_B.sl.r_27, run_B.sl.r_28, run_B.sl.r_29]
  generalize run_B.sl.r_6 c arg2 arg3 x0 x1 xa1 = H
  refine ⟨prod_band (fun p f => H (ix2 p f)) 10 1280 rfl (by decide) _ _ ?_, prod_band (fun p f => H (ix2 p f)) 9 1152 rfl (by decide) _ _ ?_, prod_band (fun p f => H (ix2 p f)) 8 1024 rfl (by decide) _ _ ?_, prod_band (fun p f => H (ix2 p f)) 7 896 rfl (by decide) _ _ ?_, prod_band (fun p f => H (ix2 p f)) 6 768 rfl (by decide) _ _ ?_, prod_band (fun p f => H (ix2 p f)) 5 640 rfl (by decide) _ _ ?_, prod_band (fun p f => H (ix2 p f)) 4 512 rfl (by decide) _ _ ?_, prod_band (fun p f => H (ix2 p f)) 3 384 rfl (by decide) _ _ ?_, prod_band (fun p f => H (ix2 p f)) 2 256 rfl (by decide) _ _ ?_, prod_band (fun p f => H (ix2 p f)) 1 128 rfl (by decide) _ _ ?_, prod_band (fun p f => H (ix2 p f)) 0 0 rfl (by decide) _ _ ?_⟩
  all_goals
    intro p q
    unfold_payloads
    pointwise [run_B.sl.cst_109, run_B.sl.cst_125, run_B.sl.cst_158, run_B.sl.cst_309]
    try simp only [Nat.zero_add]
    rfl

/-- Row `p` of the dequantised row block. -/
def xrow (x0 : S128x2048.Idx → Elt Ideal .fp8e4m3) (x1 : S128x16.Idx → Elt Ideal .f32) (p : Fin 128) (k : Fin 2048) : Ideal .f32 :=
  (x0 (ix2 p k) : Ideal .fp8e4m3) * (x1 (ix2 p ⟨k.val / 128, by have := k.isLt; omega⟩) : Ideal .f32)

/-- A band of the dequantised row block. -/
theorem xd_band (g o : ℕ) (ho : o = g * 128) (hg : g < 16)
    (inb : ∀ a, (![0, o] : Fin 2 → ℕ) a + (![128, 128] : Fin 2 → ℕ) a ≤ (⟨2, ![128, 2048]⟩ : Shape).size a) (P : (⟨2, ![128, 128]⟩ : Shape).Idx → Ideal .bf16)
    (h : ∀ p q : Fin 128, P (ix2 p q) = (x0 (ix2 p ⟨o + q.val, Nat.lt_of_lt_of_le (Nat.add_lt_add_left q.isLt o) (inb 1)⟩) : Ideal .fp8e4m3) * (x1 (ix2 p ⟨g, hg⟩) : Ideal .f32)) :
    ∀ x, P x = (fun y : (⟨2, ![128, 2048]⟩ : Shape).Idx => xrow x0 x1 (y 0) (y 1)) ((Rect.unit (s := (⟨2, ![128, 2048]⟩ : Shape)) ![0, o] ![128, 128] inb).emb x) := by
  intro x
  obtain ⟨p, q, rfl⟩ : ∃ (p q : Fin 128), x = ix2 p q := ⟨x 0, x 1, eq_ix2 x⟩
  refine (h p q).trans ?_
  rw [emb_band (n := 2048) (w := 128) o inb p q]
  have hq := q.isLt
  have e : (o + q.val) / 128 = g := by omega
  show _ = xrow x0 x1 p ⟨o + q.val, _⟩
  unfold xrow
  have e2 : (⟨(o + q.val) / 128, by omega⟩ : Fin 16) = ⟨g, hg⟩ := Fin.ext e
  exact congrArg (fun z => (x0 (ix2 p ⟨o + q.val, Nat.lt_of_lt_of_le (Nat.add_lt_add_left q.isLt o) (inb 1)⟩) : Ideal .fp8e4m3) * (x1 (ix2 p z) : Ideal .f32)) e2.symm

theorem xd_prod : ∀ p ∈ run_B.sl.HS0_16 arg2 arg3 x0 x1, ∀ x : p.1.shape.Idx,
    p.2 x = (fun y : S128x2048.Idx => (xrow x0 x1 (y 0) (y 1) : Elt Ideal .bf16)) (p.1.emb x) := by
  unfold run_B.sl.HS0_16
  simp only [List.forall_mem_cons, List.not_mem_nil, false_imp_iff, forall_const, implies_true, and_true, run_B.sl.r_2, run_B.sl.r_3, run_B.sl.r_4, run_B.sl.r_5, View.readAt_rep]
  refine ⟨xd_band _ _ 15 1920 rfl (by decide) _ _ ?_, xd_band _ _ 14 1792 rfl (by decide) _ _ ?_, xd_band _ _ 13 1664 rfl (by decide) _ _ ?_, xd_band _ _ 12 1536 rfl (by decide) _ _ ?_, xd_band _ _ 11 1408 rfl (by decide) _ _ ?_, xd_band _ _ 10 1280 rfl (by decide) _ _ ?_, xd_band _ _ 9 1152 rfl (by decide) _ _ ?_, xd_band _ _ 8 1024 rfl (by decide) _ _ ?_, xd_band _ _ 7 896 rfl (by decide) _ _ ?_, xd_band _ _ 6 768 rfl (by decide) _ _ ?_, xd_band _ _ 5 640 rfl (by decide) _ _ ?_, xd_band _ _ 4 512 rfl (by decide) _ _ ?_, xd_band _ _ 3 384 rfl (by decide) _ _ ?_, xd_band _ _ 2 256 rfl (by decide) _ _ ?_, xd_band _ _ 1 128 rfl (by decide) _ _ ?_, xd_band _ _ 0 0 rfl (by decide) _ _ ?_⟩
  all_goals
    intro p q
    unfold_payloads
    pointwise [run_B.sl.cst_109, run_B.sl.cst_125, run_B.sl.cst_158, run_B.sl.cst_309]
    try simp only [Nat.zero_add]
    try rfl

/-- The row block's bands tile it. -/
theorem HS0_cover {F : FTy → Type} [FloatOps F] (arg2 : Memref sig .tc .vmem S128x2048 .fp8e4m3) (arg3 : Memref sig .tc .vmem S128x16 .f32) (x0 : S128x2048.Idx → Elt F .fp8e4m3) (x1 : S128x16.Idx → Elt F .f32) (y : S128x2048.Idx) :
    ∃ p ∈ run_B.sl.HS0_16 arg2 arg3 x0 x1, y ∈ p.1.set :=
  View.cover_of_tiledL (run_B.sl.HS0_16 arg2 arg3 x0 x1) S128x128.size (by sl_kernel_rfl) y
theorem HS3_cover {F : FTy → Type} [FloatOps F] (c : Dev nD) (arg2 : Memref sig .tc .vmem S128x2048 .fp8e4m3) (arg3 : Memref sig .tc .vmem S128x16 .f32) (x0 : S128x2048.Idx → Elt F .fp8e4m3) (x1 : S128x16.Idx → Elt F .f32) (xa1 : Buf (Elt F) ((c : Thread nD τ).loc cc0_scratch1)) (y : S128x1408.Idx) :
    ∃ p ∈ run_B.sl.HS3_11 c arg2 arg3 x0 x1 xa1, y ∈ p.1.set :=
  View.cover_of_tiledL (run_B.sl.HS3_11 c arg2 arg3 x0 x1 xa1) S128x128.size (by sl_kernel_rfl) y

theorem v155_apply (p : Fin 128) (k : Fin 2048) : (run_B.sl.v155 arg2 arg3 x0 x1 : S128x2048.Idx → Elt Ideal .bf16) (ix2 p k) = xrow x0 x1 p k := by
  unfold run_B.sl.v155
  rw [View.readCov_eq_canon']
  show View.canon _ ((Rect.unit (s := S128x2048) ![0, 0] S128x2048.size inb_S128x2048_S128x2048_0_0).emb (ix2 p k)) = _
  have e : (Rect.unit (s := S128x2048) ![0, 0] S128x2048.size inb_S128x2048_S128x2048_0_0).emb (ix2 p k) = (ix2 p k : S128x2048.Idx) := by
    refine (emb_band (n := 2048) (w := 2048) 0 inb_S128x2048_S128x2048_0_0 p k).trans ?_
    simp only [Nat.zero_add]
  rw [e]
  exact View.canon_apply_of_pieces (fun y : S128x2048.Idx => (xrow x0 x1 (y 0) (y 1) : Elt Ideal .bf16)) _ (xd_prod arg2 arg3 x0 x1) _ (HS0_cover arg2 arg3 x0 x1 _)

/-- The hidden layer: the activation of the product of the dequantised rows with the weights held. -/
theorem r6_apply (w : S2048x1408.Idx → Elt Ideal .bf16) (p : Fin 128) (f : Fin 1408) :
    (run_B.sl.r_6 c arg2 arg3 x0 x1 (scM0_1.view.rep w) : FVec Ideal S128x1408 .f32) (ix2 p f) = rowH (xrow x0 x1 p) (fun k f => w (ix2 k f)) f := by
  unfold run_B.sl.r_6
  rw [View.readAt_rep_full]
  have h := v155_apply arg2 arg3 x0 x1 p
  generalize run_B.sl.v155 arg2 arg3 x0 x1 = v at h
  unfold_payloads
  pointwise
  simp only [h]
  rfl

theorem v578_apply (w : S2048x1408.Idx → Elt Ideal .bf16) (p : Fin 128) (f : Fin 1408) :
    (run_B.sl.v578 c arg2 arg3 x0 x1 (scM0_1.view.rep w) : S128x1408.Idx → Elt Ideal .bf16) (ix2 p f)
      = rowD (rowH (xrow x0 x1 p) (fun k f => w (ix2 k f))) f := by
  unfold run_B.sl.v578
  rw [View.readCov_eq_canon']
  show View.canon _ ((Rect.unit (s := S128x1408) ![0, 0] S128x1408.size inb_S128x1408_S128x1408_0_0).emb (ix2 p f)) = _
  have e : (Rect.unit (s := S128x1408) ![0, 0] S128x1408.size inb_S128x1408_S128x1408_0_0).emb (ix2 p f) = (ix2 p f : S128x1408.Idx) := by
    refine (emb_band (n := 1408) (w := 1408) 0 inb_S128x1408_S128x1408_0_0 p f).trans ?_
    simp only [Nat.zero_add]
  rw [e]
  refine (View.canon_apply_of_pieces (fun y : S128x1408.Idx => (rowD (fun f => (run_B.sl.r_6 c arg2 arg3 x0 x1 (scM0_1.view.rep w) : FVec Ideal S128x1408 .f32) (ix2 (y 0) f)) (y 1) : Elt Ideal .bf16)) _
    (hd_prod c arg2 arg3 x0 x1 (scM0_1.view.rep w)) _ (HS3_cover c arg2 arg3 x0 x1 (scM0_1.view.rep w) _)).trans ?_
  exact congrArg (fun v => rowD v f) (funext fun f => r6_apply c arg2 arg3 x0 x1 w p f)

/-- The result before quantisation. -/
theorem out_apply (w : S2048x1408.Idx → Elt Ideal .bf16) (w' : S1408x2048.Idx → Elt Ideal .bf16) (p : Fin 128) (j : Fin 2048) :
    (run_B.sl.r_30 c arg2 arg3 x0 x1 (scM0_1.view.rep w) (scM0_2.view.rep w') : FVec Ideal S128x2048 .f32) (ix2 p j) * (run_B.sl.r_31 arg8 x6 : FVec Ideal S128x1 .f32) (ix2 p 0)
      = rowO (rowD (rowH (xrow x0 x1 p) (fun k f => w (ix2 k f)))) (fun f j => w' (ix2 f j)) (x6 (ix2 p 0)) j := by
  unfold run_B.sl.r_30 run_B.sl.r_31
  rw [View.readAt_rep_full, View.readAt_rep_full]
  have h := v578_apply c arg2 arg3 x0 x1 w p
  generalize run_B.sl.v578 c arg2 arg3 x0 x1 (scM0_1.view.rep w) = v at h
  unfold_payloads
  pointwise
  simp only [h]
  rfl

theorem pcs7_code : ∀ p ∈ run_B.sl.HO7_16 c arg2 arg3 arg8 x0 x1 x6 xa1 xa2, ∀ x : p.1.shape.Idx,
    p.2 x = (fun y : S128x2048.Idx => (qcode (n := 2048) rfl (fun j => (run_B.sl.r_30 c arg2 arg3 x0 x1 xa1 xa2 : FVec Ideal S128x2048 .f32) (ix2 (y 0) j) * (run_B.sl.r_31 arg8 x6 : FVec Ideal S128x1 .f32) (ix2 (y 0) 0)) (y 1) : Elt Ideal .fp8e4m3)) (p.1.emb x) := by
  unfold run_B.sl.HO7_16
  simp only [List.forall_mem_cons, List.not_mem_nil, false_imp_iff, forall_const, implies_true, and_true, run_B.sl.r_32, run_B.sl.r_33, run_B.sl.r_34, run_B.sl.r_35, run_B.sl.r_36, run_B.sl.r_37, run_B.sl.r_38, run_B.sl.r_39, run_B.sl.r_40, run_B.sl.r_41, run_B.sl.r_42, run_B.sl.r_43, run_B.sl.r_44, run_B.sl.r_45, run_B.sl.r_46, run_B.sl.r_47, run_B.sl.r_48, run_B.sl.r_49, run_B.sl.r_50, run_B.sl.r_51, run_B.sl.r_52, run_B.sl.r_53, run_B.sl.r_54, run_B.sl.r_55, run_B.sl.r_56, run_B.sl.r_57, run_B.sl.r_58, run_B.sl.r_59]
  have e30 : k0_pay122 (run_B.sl.v578 c arg2 arg3 x0 x1 xa1) (View.readAt (Elt Ideal) scM0_2.view (Rect.unit ![0, 0] S1408x2048.size inb_S1408x2048_S1408x2048_0_0).toLoadRect xa2) = run_B.sl.r_30 c arg2 arg3 x0 x1 xa1 xa2 := rfl
  have e31 : k0_pay123 (View.readAt (Elt Ideal) arg8.view (Rect.unit ![0, 0] S128x1.size inb_S128x1_S128x1_0_0).toLoadRect (arg8.view.rep x6)) = run_B.sl.r_31 arg8 x6 := rfl
  simp only [k0_pay124, k0_pay125, k0_pay126, k0_pay127, e30, e31]
  generalize run_B.sl.r_30 c arg2 arg3 x0 x1 xa1 xa2 = H
  generalize run_B.sl.r_31 arg8 x6 = W
  refine ⟨code_band (n := 2048) rfl (fun p j => H (ix2 p j) * W (ix2 p 0)) 1920 rfl _ _ ?_, code_band (n := 2048) rfl (fun p j => H (ix2 p j) * W (ix2 p 0)) 1792 rfl _ _ ?_, code_band (n := 2048) rfl (fun p j => H (ix2 p j) * W (ix2 p 0)) 1664 rfl _ _ ?_, code_band (n := 2048) rfl (fun p j => H (ix2 p j) * W (ix2 p 0)) 1536 rfl _ _ ?_, code_band (n := 2048) rfl (fun p j => H (ix2 p j) * W (ix2 p 0)) 1408 rfl _ _ ?_, code_band (n := 2048) rfl (fun p j => H (ix2 p j) * W (ix2 p 0)) 1280 rfl _ _ ?_, code_band (n := 2048) rfl (fun p j => H (ix2 p j) * W (ix2 p 0)) 1152 rfl _ _ ?_, code_band (n := 2048) rfl (fun p j => H (ix2 p j) * W (ix2 p 0)) 1024 rfl _ _ ?_, code_band (n := 2048) rfl (fun p j => H (ix2 p j) * W (ix2 p 0)) 896 rfl _ _ ?_, code_band (n := 2048) rfl (fun p j => H (ix2 p j) * W (ix2 p 0)) 768 rfl _ _ ?_, code_band (n := 2048) rfl (fun p j => H (ix2 p j) * W (ix2 p 0)) 640 rfl _ _ ?_, code_band (n := 2048) rfl (fun p j => H (ix2 p j) * W (ix2 p 0)) 512 rfl _ _ ?_, code_band (n := 2048) rfl (fun p j => H (ix2 p j) * W (ix2 p 0)) 384 rfl _ _ ?_, code_band (n := 2048) rfl (fun p j => H (ix2 p j) * W (ix2 p 0)) 256 rfl _ _ ?_, code_band (n := 2048) rfl (fun p j => H (ix2 p j) * W (ix2 p 0)) 128 rfl _ _ ?_, code_band (n := 2048) rfl (fun p j => H (ix2 p j) * W (ix2 p 0)) 0 rfl _ _ ?_⟩
  all_goals
    intro p q
    unfold_payloads
    pointwise [run_B.sl.cst_109, run_B.sl.cst_125, run_B.sl.cst_158, run_B.sl.cst_309]
    try simp only [Nat.zero_add]
    rfl

theorem pcs8_scale : ∀ p ∈ run_B.sl.HO8_16 c arg2 arg3 arg8 x0 x1 x6 xa1 xa2, ∀ x : p.1.shape.Idx,
    p.2 x = (fun y : S128x16.Idx => (qscale (n := 2048) (m := 16) rfl (fun j => (run_B.sl.r_30 c arg2 arg3 x0 x1 xa1 xa2 : FVec Ideal S128x2048 .f32) (ix2 (y 0) j) * (run_B.sl.r_31 arg8 x6 : FVec Ideal S128x1 .f32) (ix2 (y 0) 0)) (y 1) : Elt Ideal .f32)) (p.1.emb x) := by
  unfold run_B.sl.HO8_16
  simp only [List.forall_mem_cons, List.not_mem_nil, false_imp_iff, forall_const, implies_true, and_true, run_B.sl.r_32, run_B.sl.r_33, run_B.sl.r_34, run_B.sl.r_35, run_B.sl.r_36, run_B.sl.r_37, run_B.sl.r_38, run_B.sl.r_39, run_B.sl.r_40, run_B.sl.r_41, run_B.sl.r_42, run_B.sl.r_43, run_B.sl.r_44, run_B.sl.r_45, run_B.sl.r_46, run_B.sl.r_47, run_B.sl.r_48, run_B.sl.r_49, run_B.sl.r_50, run_B.sl.r_51, run_B.sl.r_52, run_B.sl.r_53, run_B.sl.r_54, run_B.sl.r_55, run_B.sl.r_56, run_B.sl.r_57, run_B.sl.r_58, run_B.sl.r_59]
  have e30 : k0_pay122 (run_B.sl.v578 c arg2 arg3 x0 x1 xa1) (View.readAt (Elt Ideal) scM0_2.view (Rect.unit ![0, 0] S1408x2048.size inb_S1408x2048_S1408x2048_0_0).toLoadRect xa2) = run_B.sl.r_30 c arg2 arg3 x0 x1 xa1 xa2 := rfl
  have e31 : k0_pay123 (View.readAt (Elt Ideal) arg8.view (Rect.unit ![0, 0] S128x1.size inb_S128x1_S128x1_0_0).toLoadRect (arg8.view.rep x6)) = run_B.sl.r_31 arg8 x6 := rfl
  simp only [k0_pay124, k0_pay125, k0_pay126, k0_pay127, e30, e31]
  generalize run_B.sl.r_30 c arg2 arg3 x0 x1 xa1 xa2 = H
  generalize run_B.sl.r_31 arg8 x6 = W
  refine ⟨scale_band (n := 2048) (m := 16) rfl (fun p j => H (ix2 p j) * W (ix2 p 0)) 15 1920 rfl (by decide) _ _ ?_, scale_band (n := 2048) (m := 16) rfl (fun p j => H (ix2 p j) * W (ix2 p 0)) 14 1792 rfl (by decide) _ _ ?_, scale_band (n := 2048) (m := 16) rfl (fun p j => H (ix2 p j) * W (ix2 p 0)) 13 1664 rfl (by decide) _ _ ?_, scale_band (n := 2048) (m := 16) rfl (fun p j => H (ix2 p j) * W (ix2 p 0)) 12 1536 rfl (by decide) _ _ ?_, scale_band (n := 2048) (m := 16) rfl (fun p j => H (ix2 p j) * W (ix2 p 0)) 11 1408 rfl (by decide) _ _ ?_, scale_band (n := 2048) (m := 16) rfl (fun p j => H (ix2 p j) * W (ix2 p 0)) 10 1280 rfl (by decide) _ _ ?_, scale_band (n := 2048) (m := 16) rfl (fun p j => H (ix2 p j) * W (ix2 p 0)) 9 1152 rfl (by decide) _ _ ?_, scale_band (n := 2048) (m := 16) rfl (fun p j => H (ix2 p j) * W (ix2 p 0)) 8 1024 rfl (by decide) _ _ ?_, scale_band (n := 2048) (m := 16) rfl (fun p j => H (ix2 p j) * W (ix2 p 0)) 7 896 rfl (by decide) _ _ ?_, scale_band (n := 2048) (m := 16) rfl (fun p j => H (ix2 p j) * W (ix2 p 0)) 6 768 rfl (by decide) _ _ ?_, scale_band (n := 2048) (m := 16) rfl (fun p j => H (ix2 p j) * W (ix2 p 0)) 5 640 rfl (by decide) _ _ ?_, scale_band (n := 2048) (m := 16) rfl (fun p j => H (ix2 p j) * W (ix2 p 0)) 4 512 rfl (by decide) _ _ ?_, scale_band (n := 2048) (m := 16) rfl (fun p j => H (ix2 p j) * W (ix2 p 0)) 3 384 rfl (by decide) _ _ ?_, scale_band (n := 2048) (m := 16) rfl (fun p j => H (ix2 p j) * W (ix2 p 0)) 2 256 rfl (by decide) _ _ ?_, scale_band (n := 2048) (m := 16) rfl (fun p j => H (ix2 p j) * W (ix2 p 0)) 1 128 rfl (by decide) _ _ ?_, scale_band (n := 2048) (m := 16) rfl (fun p j => H (ix2 p j) * W (ix2 p 0)) 0 0 rfl (by decide) _ _ ?_⟩
  all_goals
    intro p
    unfold_payloads
    pointwise [run_B.sl.cst_109, run_B.sl.cst_125, run_B.sl.cst_158, run_B.sl.cst_309]
    try simp only [Nat.zero_add]
    rfl

/-- The four blocks a point writes, element by element. -/
theorem blk9 (w : S2048x1408.Idx → Elt Ideal .bf16) (p : Fin 128) (f : Fin 1408) :
    View.canon (pcs9 c arg2 arg3 arg8 x0 x1 x6 (scM0_1.view.rep w) xa2) (ix2 p f) = qcode (n := 1408) rfl (rowH (xrow x0 x1 p) (fun k f => w (ix2 k f))) f := by
  refine (View.canon_apply_of_pieces (fun y : S128x1408.Idx => (qcode (n := 1408) rfl (fun f => (run_B.sl.r_6 c arg2 arg3 x0 x1 (scM0_1.view.rep w) : FVec Ideal S128x1408 .f32) (ix2 (y 0) f)) (y 1) : Elt Ideal .fp8e4m3)) _ (pcs9_code c arg2 arg3 x0 x1 (scM0_1.view.rep w)) _ (pcs9_cover c arg2 arg3 arg8 x0 x1 x6 (scM0_1.view.rep w) xa2 _)).trans ?_
  exact congrArg (fun v => qcode (n := 1408) rfl v f) (funext fun f => r6_apply c arg2 arg3 x0 x1 w p f)

theorem blk10 (w : S2048x1408.Idx → Elt Ideal .bf16) (p : Fin 128) (g : Fin 11) :
    View.canon (pcs10 c arg2 arg3 arg8 x0 x1 x6 (scM0_1.view.rep w) xa2) (ix2 p g) = qscale (n := 1408) (m := 11) rfl (rowH (xrow x0 x1 p) (fun k f => w (ix2 k f))) g := by
  refine (View.canon_apply_of_pieces (fun y : S128x11.Idx => (qscale (n := 1408) (m := 11) rfl (fun f => (run_B.sl.r_6 c arg2 arg3 x0 x1 (scM0_1.view.rep w) : FVec Ideal S128x1408 .f32) (ix2 (y 0) f)) (y 1) : Elt Ideal .f32)) _ (pcs10_scale c arg2 arg3 x0 x1 (scM0_1.view.rep w)) _ (pcs10_cover c arg2 arg3 arg8 x0 x1 x6 (scM0_1.view.rep w) xa2 _)).trans ?_
  exact congrArg (fun v => qscale (n := 1408) (m := 11) rfl v g) (funext fun f => r6_apply c arg2 arg3 x0 x1 w p f)

theorem blk7 (w : S2048x1408.Idx → Elt Ideal .bf16) (w' : S1408x2048.Idx → Elt Ideal .bf16) (p : Fin 128) (j : Fin 2048) :
    View.canon (pcs7 c arg2 arg3 arg8 x0 x1 x6 (scM0_1.view.rep w) (scM0_2.view.rep w')) (ix2 p j)
      = qcode (n := 2048) rfl (rowO (rowD (rowH (xrow x0 x1 p) (fun k f => w (ix2 k f)))) (fun f j => w' (ix2 f j)) (x6 (ix2 p 0))) j := by
  refine (View.canon_apply_of_pieces (fun y : S128x2048.Idx => (qcode (n := 2048) rfl (fun j => (run_B.sl.r_30 c arg2 arg3 x0 x1 (scM0_1.view.rep w) (scM0_2.view.rep w') : FVec Ideal S128x2048 .f32) (ix2 (y 0) j) * (run_B.sl.r_31 arg8 x6 : FVec Ideal S128x1 .f32) (ix2 (y 0) 0)) (y 1) : Elt Ideal .fp8e4m3)) _ (pcs7_code c arg2 arg3 arg8 x0 x1 x6 (scM0_1.view.rep w) (scM0_2.view.rep w')) _ (pcs7_cover c arg2 arg3 arg8 x0 x1 x6 (scM0_1.view.rep w) (scM0_2.view.rep w') _)).trans ?_
  exact congrArg (fun v => qcode (n := 2048) rfl v j) (funext fun j => out_apply c arg2 arg3 arg8 x0 x1 x6 w w' p j)

theorem blk8 (w : S2048x1408.Idx → Elt Ideal .bf16) (w' : S1408x2048.Idx → Elt Ideal .bf16) (p : Fin 128) (g : Fin 16) :
    View.canon (pcs8 c arg2 arg3 arg8 x0 x1 x6 (scM0_1.view.rep w) (scM0_2.view.rep w')) (ix2 p g)
      = qscale (n := 2048) (m := 16) rfl (rowO (rowD (rowH (xrow x0 x1 p) (fun k f => w (ix2 k f)))) (fun f j => w' (ix2 f j)) (x6 (ix2 p 0))) g := by
  refine (View.canon_apply_of_pieces (fun y : S128x16.Idx => (qscale (n := 2048) (m := 16) rfl (fun j => (run_B.sl.r_30 c arg2 arg3 x0 x1 (scM0_1.view.rep w) (scM0_2.view.rep w') : FVec Ideal S128x2048 .f32) (ix2 (y 0) j) * (run_B.sl.r_31 arg8 x6 : FVec Ideal S128x1 .f32) (ix2 (y 0) 0)) (y 1) : Elt Ideal .f32)) _ (pcs8_scale c arg2 arg3 arg8 x0 x1 x6 (scM0_1.view.rep w) (scM0_2.view.rep w')) _ (pcs8_cover c arg2 arg3 arg8 x0 x1 x6 (scM0_1.view.rep w) (scM0_2.view.rep w') _)).trans ?_
  exact congrArg (fun v => qscale (n := 2048) (m := 16) rfl v g) (funext fun j => out_apply c arg2 arg3 arg8 x0 x1 x6 w w' p j)

end Cert.KernelIdeal.Own

end
-- ==== Proof.KernelIdeal.Arr.lean ====
module
public import Idealize.ShloMosaic.Lib.Pipeline.Value
public import Idealize.ShloMosaic.Lib.Pipeline.Covers
public import Idealize.ShloMosaic.Lib.Pipeline.ValueKit
public import proofs.«01_k».proof.Proof.KernelIdeal.Value
public import proofs.«01_k».proof.Proof.KernelIdeal.Frame

@[expose] public section
set_option maxRecDepth 16384
set_option Elab.async false
noncomputable section

/- The kernel's four arrays after the run: the mathematics of `Math`, row by row. -/

namespace Cert.KernelIdeal.Own
open Cert.KernelIdeal Cert.KernelIdeal.Gen Cert.Own.Math
open Idealize.ShloMosaic
open Idealize.ShloMosaic.TcCoe
open Idealize.SL.Sem
open Idealize.ShloMosaic.Pipeline (Dat Cfg Window)

variable (m : (ℓ : Loc nD τ sig) → Buf (Elt Ideal) ℓ) (ρ : Dev nD → PrngReg) (hok : ok0 (F := Ideal) (tab m))

/- The argument arrays by name. -/
abbrev A0 (c : Dev nD) : S11264x2048.Idx → Ideal .fp8e4m3 := m ((c : Thread nD τ).loc main_arg0)
abbrev A1 (c : Dev nD) : S11264x16.Idx → Ideal .f32 := m ((c : Thread nD τ).loc main_arg1)
abbrev A2 (c : Dev nD) : S2048x90112.Idx → Ideal .fp8e4m3 := m ((c : Thread nD τ).loc main_arg2)
abbrev A3 (c : Dev nD) : S16x704.Idx → Ideal .f32 := m ((c : Thread nD τ).loc main_arg3)
abbrev A4 (c : Dev nD) : S90112x2048.Idx → Ideal .fp8e4m3 := m ((c : Thread nD τ).loc main_arg4)
abbrev A5 (c : Dev nD) : S704x16.Idx → Ideal .f32 := m ((c : Thread nD τ).loc main_arg5)
abbrev A6 (c : Dev nD) : S88x11.Idx → BitVec 32 := m ((c : Thread nD τ).loc main_arg6)
abbrev A7 (c : Dev nD) : S11264.Idx → Ideal .f32 := m ((c : Thread nD τ).loc main_arg7)

theorem tlt (t : Fin (cfgA m hok).N) : t.val < 88 := t.isLt

/-- Row `p` of point `t`'s row block. -/
def rowAt (t : Fin (cfgA m hok).N) (p : Fin 128) : Fin 11264 := ⟨t.val * 128 + p.val, by have := tlt m hok t; have := p.isLt; omega⟩

theorem crd_toNat (t : Fin (cfgA m hok).N) : (BitVec.ofNat 32 (crd m hok t 0).val).toNat = t.val := by
  rw [crd_val, BitVec.toNat_ofNat]
  have := tlt m hok t
  omega

theorem rowAt_blk (t : Fin (cfgA m hok).N) (p : Fin 128) : (blkOf (rowAt m hok t p)).val = t.val := by
  have := p.isLt
  show (t.val * 128 + p.val) / 128 = t.val
  omega

/-- Where window 0's block at point `t` lies in its array. -/
theorem emb_0 (t : Fin (cfgA m hok).N) (p : Fin 128) (j : Fin 2048) :
    ((((cfgA m hok).win (0 : Fin 11)).blk t).view.emb (ix2 p j : S128x2048.Idx) : S11264x2048.Idx) = (ix2 (rowAt m hok t p) j : S11264x2048.Idx) := by
  have ht := crd_toNat m hok t
  funext a
  apply Fin.ext
  show cc0_transform_0 (crd m hok t) a * S128x2048.size a + 1 * ((ix2 p j : S128x2048.Idx) a).val = _
  fin_cases a
  · show (BitVec.ofNat 32 (crd m hok t 0).val).toNat * 128 + 1 * p.val = t.val * 128 + p.val
    rw [ht, Nat.one_mul]
  · show 0 * 2048 + 1 * j.val = j.val
    omega

/-- Where window 1's block at point `t` lies in its array. -/
theorem emb_1 (t : Fin (cfgA m hok).N) (p : Fin 128) (j : Fin 16) :
    ((((cfgA m hok).win (1 : Fin 11)).blk t).view.emb (ix2 p j : S128x16.Idx) : S11264x16.Idx) = (ix2 (rowAt m hok t p) j : S11264x16.Idx) := by
  have ht := crd_toNat m hok t
  funext a
  apply Fin.ext
  show cc0_transform_1 (crd m hok t) a * S128x16.size a + 1 * ((ix2 p j : S128x16.Idx) a).val = _
  fin_cases a
  · show (BitVec.ofNat 32 (crd m hok t 0).val).toNat * 128 + 1 * p.val = t.val * 128 + p.val
    rw [ht, Nat.one_mul]
  · show 0 * 16 + 1 * j.val = j.val
    omega

/-- Where window 6's block at point `t` lies in its array. -/
theorem emb_6 (t : Fin (cfgA m hok).N) (p : Fin 128) (j : Fin 1) :
    ((((cfgA m hok).win (6 : Fin 11)).blk t).view.emb (ix2 p j : S128x1.Idx) : S11264x1.Idx) = (ix2 (rowAt m hok t p) j : S11264x1.Idx) := by
  have ht := crd_toNat m hok t
  funext a
  apply Fin.ext
  show cc0_transform_6 (crd m hok t) a * S128x1.size a + 1 * ((ix2 p j : S128x1.Idx) a).val = _
  fin_cases a
  · show (BitVec.ofNat 32 (crd m hok t 0).val).toNat * 128 + 1 * p.val = t.val * 128 + p.val
    rw [ht, Nat.one_mul]
  · show 0 * 1 + 1 * j.val = j.val
    omega

/-- Where window 7's block at point `t` lies in its array. -/
theorem emb_7 (t : Fin (cfgA m hok).N) (p : Fin 128) (j : Fin 2048) :
    ((((cfgA m hok).win (7 : Fin 11)).blk t).view.emb (ix2 p j : S128x2048.Idx) : S11264x2048.Idx) = (ix2 (rowAt m hok t p) j : S11264x2048.Idx) := by
  have ht := crd_toNat m hok t
  funext a
  apply Fin.ext
  show cc0_transform_7 (crd m hok t) a * S128x2048.size a + 1 * ((ix2 p j : S128x2048.Idx) a).val = _
  fin_cases a
  · show (BitVec.ofNat 32 (crd m hok t 0).val).toNat * 128 + 1 * p.val = t.val * 128 + p.val
    rw [ht, Nat.one_mul]
  · show 0 * 2048 + 1 * j.val = j.val
    omega

/-- Where window 8's block at point `t` lies in its array. -/
theorem emb_8 (t : Fin (cfgA m hok).N) (p : Fin 128) (j : Fin 16) :
    ((((cfgA m hok).win (8 : Fin 11)).blk t).view.emb (ix2 p j : S128x16.Idx) : S11264x16.Idx) = (ix2 (rowAt m hok t p) j : S11264x16.Idx) := by
  have ht := crd_toNat m hok t
  funext a
  apply Fin.ext
  show cc0_transform_8 (crd m hok t) a * S128x16.size a + 1 * ((ix2 p j : S128x16.Idx) a).val = _
  fin_cases a
  · show (BitVec.ofNat 32 (crd m hok t 0).val).toNat * 128 + 1 * p.val = t.val * 128 + p.val
    rw [ht, Nat.one_mul]
  · show 0 * 16 + 1 * j.val = j.val
    omega

/-- Where window 9's block at point `t` lies in its array. -/
theorem emb_9 (t : Fin (cfgA m hok).N) (p : Fin 128) (j : Fin 1408) :
    ((((cfgA m hok).win (9 : Fin 11)).blk t).view.emb (ix2 p j : S128x1408.Idx) : S11264x1408.Idx) = (ix2 (rowAt m hok t p) j : S11264x1408.Idx) := by
  have ht := crd_toNat m hok t
  funext a
  apply Fin.ext
  show cc0_transform_9 (crd m hok t) a * S128x1408.size a + 1 * ((ix2 p j : S128x1408.Idx) a).val = _
  fin_cases a
  · show (BitVec.ofNat 32 (crd m hok t 0).val).toNat * 128 + 1 * p.val = t.val * 128 + p.val
    rw [ht, Nat.one_mul]
  · show 0 * 1408 + 1 * j.val = j.val
    omega

/-- Where window 10's block at point `t` lies in its array. -/
theorem emb_10 (t : Fin (cfgA m hok).N) (p : Fin 128) (j : Fin 11) :
    ((((cfgA m hok).win (10 : Fin 11)).blk t).view.emb (ix2 p j : S128x11.Idx) : S11264x11.Idx) = (ix2 (rowAt m hok t p) j : S11264x11.Idx) := by
  have ht := crd_toNat m hok t
  funext a
  apply Fin.ext
  show cc0_transform_10 (crd m hok t) a * S128x11.size a + 1 * ((ix2 p j : S128x11.Idx) a).val = _
  fin_cases a
  · show (BitVec.ofNat 32 (crd m hok t 0).val).toNat * 128 + 1 * p.val = t.val * 128 + p.val
    rw [ht, Nat.one_mul]
  · show 0 * 11 + 1 * j.val = j.val
    omega

/- The launch's own arrays: the two scale tables regrouped by expert, the row weights as a column. -/
theorem V_v2 (c : Dev nD) (e : Fin 64) (n : Fin 176) : (V m c main_v2 : S64x1x176.Idx → Ideal .f32) (ix3 e 0 n)
    = A3 m c (ix2 ⟨n.val / 11, by have := n.isLt; omega⟩ ⟨e.val * 11 + n.val % 11, by have := e.isLt; have := n.isLt; omega⟩) := by
  unfold V
  entry_read
  pointwise
theorem V_v3 (c : Dev nD) (e : Fin 64) (n : Fin 176) : (V m c main_v3 : S64x1x176.Idx → Ideal .f32) (ix3 e 0 n)
    = A5 m c (ix2 ⟨e.val * 11 + n.val / 16, by have := e.isLt; have := n.isLt; omega⟩ ⟨n.val % 16, by have := n.isLt; omega⟩) := by
  unfold V
  entry_read
  pointwise
theorem V_v4 (c : Dev nD) (R : Fin 11264) : (V m c main_v4 : S11264x1.Idx → Ideal .f32) (ix2 R 0) = A7 m c (ix1 R) := by
  unfold V
  entry_read
  pointwise

/-- The expert of point `t`. -/
def ex (c : Dev nD) (t : Fin (cfgA m hok).N) : Fin 64 := exp6 (A6 m c) ⟨t.val, tlt m hok t⟩

theorem ex_eq (c : Dev nD) (t : Fin (cfgA m hok).N) (p : Fin 128) : exp6 (A6 m c) (blkOf (rowAt m hok t p)) = ex m hok c t := by
  unfold ex
  exact congrArg _ (Fin.ext (rowAt_blk m hok t p))

variable (hlt : ∀ (c : Dev nD) (r : Fin 88), (A6 m c (ix2 r 0)).toNat < 704)

include hlt in
/-- The word the launch reads for point `t` names it. -/
theorem word_ex (c : Dev nD) (t : Fin (cfgA m hok).N) : (Pre.expert (word (tab m) (crd m hok t))).toNat = (ex m hok c t).val := by
  obtain rfl : c = 0 := Subsingleton.elim _ _
  have e : word (tab m) (crd m hok t) = A6 m 0 (ix2 ⟨t.val, tlt m hok t⟩ 0) := by
    rw [word_eq]
    show A6 m 0 _ = A6 m 0 _
    refine congrArg (A6 m 0) (funext fun a => Fin.ext ?_)
    fin_cases a
    · exact crd_val m hok t
    · rfl
  have h := hlt 0 ⟨t.val, tlt m hok t⟩
  rw [e, Pre.expert_eq _ h, BitVec.toNat_ofNat]
  unfold ex exp6
  show _ = _ / 11 % 64
  omega

include hlt in
theorem emb_2 (c : Dev nD) (t : Fin (cfgA m hok).N) (k : Fin 2048) (f : Fin 1408) :
    ((((cfgA m hok).win (2 : Fin 11)).blk t).view.emb (ix2 k f : S2048x1408.Idx) : S2048x90112.Idx)
      = ix2 k ⟨(ex m hok c t).val * 1408 + f.val, by have := (ex m hok c t).isLt; have := f.isLt; omega⟩ := by
  have hw := word_ex m hok hlt c t
  funext a
  apply Fin.ext
  show cc0_transform_2 k0_off1_inb numel1_S1x1 (tab m) (crd m hok t) a * S2048x1408.size a + 1 * ((ix2 k f : S2048x1408.Idx) a).val = _
  rw [transform_2_eq, hw]
  fin_cases a
  · show 0 * 2048 + 1 * k.val = k.val
    omega
  · show (ex m hok c t).val * 1408 + 1 * f.val = (ex m hok c t).val * 1408 + f.val
    rw [Nat.one_mul]

include hlt in
theorem emb_4 (c : Dev nD) (t : Fin (cfgA m hok).N) (f : Fin 1408) (j : Fin 2048) :
    ((((cfgA m hok).win (4 : Fin 11)).blk t).view.emb (ix2 f j : S1408x2048.Idx) : S90112x2048.Idx)
      = ix2 ⟨(ex m hok c t).val * 1408 + f.val, by have := (ex m hok c t).isLt; have := f.isLt; omega⟩ j := by
  have hw := word_ex m hok hlt c t
  funext a
  apply Fin.ext
  show cc0_transform_4 k0_off1_inb numel1_S1x1 (tab m) (crd m hok t) a * S1408x2048.size a + 1 * ((ix2 f j : S1408x2048.Idx) a).val = _
  rw [transform_4_eq, hw]
  fin_cases a
  · show (ex m hok c t).val * 1408 + 1 * f.val = (ex m hok c t).val * 1408 + f.val
    rw [Nat.one_mul]
  · show 0 * 2048 + 1 * j.val = j.val
    omega

include hlt in
theorem emb_3 (c : Dev nD) (t : Fin (cfgA m hok).N) (n : ℕ) (h : n < 176) :
    ((((cfgA m hok).win (3 : Fin 11)).blk t).view.emb (scaleIx n h : S1x1x176.Idx) : S64x1x176.Idx) = ix3 (ex m hok c t) 0 ⟨n, h⟩ := by
  have hw := word_ex m hok hlt c t
  funext a
  apply Fin.ext
  show cc0_transform_3 k0_off1_inb numel1_S1x1 (tab m) (crd m hok t) a * S1x1x176.size a + 1 * ((scaleIx n h : S1x1x176.Idx) a).val = _
  rw [transform_3_eq, hw]
  fin_cases a
  · show (ex m hok c t).val * 1 + 1 * 0 = (ex m hok c t).val
    omega
  · rfl
  · show 0 * 176 + 1 * n = n
    omega

include hlt in
theorem emb_5 (c : Dev nD) (t : Fin (cfgA m hok).N) (n : ℕ) (h : n < 176) :
    ((((cfgA m hok).win (5 : Fin 11)).blk t).view.emb (scaleIx n h : S1x1x176.Idx) : S64x1x176.Idx) = ix3 (ex m hok c t) 0 ⟨n, h⟩ := by
  have hw := word_ex m hok hlt c t
  funext a
  apply Fin.ext
  show cc0_transform_5 k0_off1_inb numel1_S1x1 (tab m) (crd m hok t) a * S1x1x176.size a + 1 * ((scaleIx n h : S1x1x176.Idx) a).val = _
  rw [transform_5_eq, hw]
  fin_cases a
  · show (ex m hok c t).val * 1 + 1 * 0 = (ex m hok c t).val
    omega
  · rfl
  · show 0 * 176 + 1 * n = n
    omega

/- The blocks a point reads, element by element. -/
theorem in_0 (c : Dev nD) (t : Fin (cfgA m hok).N) (p : Fin 128) (k : Fin 2048) :
    (iblk m hok c (0 : Fin 11) t : S128x2048.Idx → Elt Ideal .fp8e4m3) (ix2 p k) = A0 m c (ix2 (rowAt m hok t p) k) := by
  unfold iblk
  show (V m c main_arg0 : S11264x2048.Idx → Ideal .fp8e4m3) ((((cfgA m hok).win (0 : Fin 11)).blk t).view.emb (ix2 p k : S128x2048.Idx)) = _
  rw [emb_0, V_arg0]
theorem in_1 (c : Dev nD) (t : Fin (cfgA m hok).N) (p : Fin 128) (k : Fin 16) :
    (iblk m hok c (1 : Fin 11) t : S128x16.Idx → Elt Ideal .f32) (ix2 p k) = A1 m c (ix2 (rowAt m hok t p) k) := by
  unfold iblk
  show (V m c main_arg1 : S11264x16.Idx → Ideal .f32) ((((cfgA m hok).win (1 : Fin 11)).blk t).view.emb (ix2 p k : S128x16.Idx)) = _
  rw [emb_1, V_arg1]
theorem in_6 (c : Dev nD) (t : Fin (cfgA m hok).N) (p : Fin 128) :
    (iblk m hok c (6 : Fin 11) t : S128x1.Idx → Elt Ideal .f32) (ix2 p 0) = A7 m c (ix1 (rowAt m hok t p)) := by
  unfold iblk
  show (V m c main_v4 : S11264x1.Idx → Ideal .f32) ((((cfgA m hok).win (6 : Fin 11)).blk t).view.emb (ix2 p 0 : S128x1.Idx)) = _
  rw [emb_6, V_v4]

theorem in_row (c : Dev nD) (t : Fin (cfgA m hok).N) (p : Fin 128) :
    xrow (iblk m hok c (0 : Fin 11) t) (iblk m hok c (1 : Fin 11) t) p = inRow (A0 m c) (A1 m c) (rowAt m hok t p) := by
  funext k
  unfold xrow inRow
  rw [in_0, in_1]

include hlt in
theorem in_w1 (c : Dev nD) (t : Fin (cfgA m hok).N) :
    (fun k f => (deq1 (iblk m hok c (2 : Fin 11) t : S2048x1408.Idx → Elt Ideal .fp8e4m3) (iblk m hok c (3 : Fin 11) t : S1x1x176.Idx → Elt Ideal .f32) (ix2 k f : S2048x1408.Idx) : Ideal .bf16))
      = wIn (A2 m c) (A3 m c) (ex m hok c t) := by
  funext k f
  have h2 : (iblk m hok c (2 : Fin 11) t : S2048x1408.Idx → Elt Ideal .fp8e4m3) (ix2 k f) = A2 m c (ix2 k ⟨(ex m hok c t).val * 1408 + f.val, by have := (ex m hok c t).isLt; have := f.isLt; omega⟩) := by
    unfold iblk
    show (V m c main_arg2 : S2048x90112.Idx → Ideal .fp8e4m3) ((((cfgA m hok).win (2 : Fin 11)).blk t).view.emb (ix2 k f : S2048x1408.Idx)) = _
    rw [emb_2 m hok hlt c, V_arg2]
  have h3 : (iblk m hok c (3 : Fin 11) t : S1x1x176.Idx → Elt Ideal .f32) (scaleIx _ (tile1_lt (ix2 k f : S2048x1408.Idx)))
      = A3 m c (ix2 ⟨k.val / 128, by have := k.isLt; omega⟩ ⟨(ex m hok c t).val * 11 + f.val / 128, by have := (ex m hok c t).isLt; have := f.isLt; omega⟩) := by
    unfold iblk
    show (V m c main_v2 : S64x1x176.Idx → Ideal .f32) ((((cfgA m hok).win (3 : Fin 11)).blk t).view.emb (scaleIx _ (tile1_lt (ix2 k f : S2048x1408.Idx)) : S1x1x176.Idx)) = _
    rw [emb_3 m hok hlt c, V_v2]
    have hf := f.isLt
    refine congrArg (A3 m c) (congrArg₂ ix2 (Fin.ext ?_) (Fin.ext ?_))
    · show (k.val / 128 * 11 + f.val / 128) / 11 = k.val / 128
      omega
    · show (ex m hok c t).val * 11 + (k.val / 128 * 11 + f.val / 128) % 11 = (ex m hok c t).val * 11 + f.val / 128
      omega
  unfold wIn
  exact congrArg₂ (fun (a b : Ideal .f32) => a * b) h2 h3

include hlt in
theorem in_w2 (c : Dev nD) (t : Fin (cfgA m hok).N) :
    (fun f j => (deq2 (iblk m hok c (4 : Fin 11) t : S1408x2048.Idx → Elt Ideal .fp8e4m3) (iblk m hok c (5 : Fin 11) t : S1x1x176.Idx → Elt Ideal .f32) (ix2 f j : S1408x2048.Idx) : Ideal .bf16))
      = wOut (A4 m c) (A5 m c) (ex m hok c t) := by
  funext f j
  have h2 : (iblk m hok c (4 : Fin 11) t : S1408x2048.Idx → Elt Ideal .fp8e4m3) (ix2 f j) = A4 m c (ix2 ⟨(ex m hok c t).val * 1408 + f.val, by have := (ex m hok c t).isLt; have := f.isLt; omega⟩ j) := by
    unfold iblk
    show (V m c main_arg4 : S90112x2048.Idx → Ideal .fp8e4m3) ((((cfgA m hok).win (4 : Fin 11)).blk t).view.emb (ix2 f j : S1408x2048.Idx)) = _
    rw [emb_4 m hok hlt c, V_arg4]
  have h3 : (iblk m hok c (5 : Fin 11) t : S1x1x176.Idx → Elt Ideal .f32) (scaleIx _ (tile2_lt (ix2 f j : S1408x2048.Idx)))
      = A5 m c (ix2 ⟨(ex m hok c t).val * 11 + f.val / 128, by have := (ex m hok c t).isLt; have := f.isLt; omega⟩ ⟨j.val / 128, by have := j.isLt; omega⟩) := by
    unfold iblk
    show (V m c main_v3 : S64x1x176.Idx → Ideal .f32) ((((cfgA m hok).win (5 : Fin 11)).blk t).view.emb (scaleIx _ (tile2_lt (ix2 f j : S1408x2048.Idx)) : S1x1x176.Idx)) = _
    rw [emb_5 m hok hlt c, V_v3]
    have hj := j.isLt
    refine congrArg (A5 m c) (congrArg₂ ix2 (Fin.ext ?_) (Fin.ext ?_))
    · show (ex m hok c t).val * 11 + (f.val / 128 * 16 + j.val / 128) / 16 = (ex m hok c t).val * 11 + f.val / 128
      omega
    · show (f.val / 128 * 16 + j.val / 128) % 16 = j.val / 128
      omega
  unfold wOut
  exact congrArg₂ (fun (a b : Ideal .f32) => a * b) h2 h3

include hlt in
theorem outb7_eq (c : Dev nD) (t : Fin (cfgA m hok).N) (p : Fin 128) (j : Fin 2048) :
    outb7 m hok c t (ix2 p j) = yCodes (A0 m c) (A1 m c) (A2 m c) (A3 m c) (A4 m c) (A5 m c) (A6 m c) (A7 m c) (ix2 (rowAt m hok t p) j) := by
  unfold outb7
  refine (blk7 c (ms_0 m hok t) (ms_1 m hok t) (ms_6 m hok t) (iblk m hok c (0 : Fin 11) t) (iblk m hok c (1 : Fin 11) t) (iblk m hok c (6 : Fin 11) t) (deq1 (iblk m hok c (2 : Fin 11) t : S2048x1408.Idx → Elt Ideal .fp8e4m3) (iblk m hok c (3 : Fin 11) t : S1x1x176.Idx → Elt Ideal .f32)) (deq2 (iblk m hok c (4 : Fin 11) t : S1408x2048.Idx → Elt Ideal .fp8e4m3) (iblk m hok c (5 : Fin 11) t : S1x1x176.Idx → Elt Ideal .f32)) p j).trans ?_
  rw [in_w1 m hok hlt c t, in_w2 m hok hlt c t, in_row m hok c t p, in_6 m hok c t p, ← ex_eq m hok c t p]
  rfl

include hlt in
/-- Output 7's array after the run. -/
theorem final_7 (c : Dev nD) : (dats m hok 0 c).arrAt (7 : Fin 11) (cfgA m hok).N = (yCodes (A0 m c) (A1 m c) (A2 m c) (A3 m c) (A4 m c) (A5 m c) (A6 m c) (A7 m c) : S11264x2048.Idx → Elt Ideal .fp8e4m3) := by
  refine (dats m hok 0 c).arrAt_eq_of_emb (7 : Fin 11) _ (fun t hf y => ?_) (fun i => ?_)
  · obtain ⟨p, j, rfl⟩ : ∃ (p : Fin 128) (j : Fin 2048), y = (ix2 p j : S128x2048.Idx) := ⟨y 0, y 1, eq_ix2 y⟩
    rw [after_7]
    refine (outb7_eq m hok hlt c t p j).trans ?_
    exact congrArg (yCodes (A0 m c) (A1 m c) (A2 m c) (A3 m c) (A4 m c) (A5 m c) (A6 m c) (A7 m c)) (emb_7 m hok t p j).symm
  · obtain ⟨R, j, rfl⟩ : ∃ (R : Fin 11264) (j : Fin 2048), i = (ix2 R j : S11264x2048.Idx) := ⟨i 0, i 1, eq_ix2 i⟩
    have hR := R.isLt
    obtain ⟨t, -, hf, ht⟩ := Pipeline.Window.exists_flush_same_index ((cfgA m hok).win (7 : Fin 11)) rfl (⟨R.val / 128, by show R.val / 128 < 88; omega⟩ : Fin (cfgA m hok).N)
    refine ⟨t, hf, ?_⟩
    have e0 : (crd m hok t 0).val = R.val / 128 := by
      have h0 := congrFun ht (0 : Fin 2)
      have h1 : (BitVec.ofNat 32 (crd m hok t 0).val).toNat = (BitVec.ofNat 32 (crd m hok (⟨R.val / 128, by show R.val / 128 < 88; omega⟩ : Fin (cfgA m hok).N) 0).val).toNat := h0
      rw [crd_toNat, crd_toNat] at h1
      rw [crd_val]; exact h1
    have e1 : (ix2 R j : S11264x2048.Idx) = ((((cfgA m hok).win (7 : Fin 11)).blk t).view.emb (ix2 (⟨R.val % 128, Nat.mod_lt _ (by decide)⟩ : Fin 128) j : S128x2048.Idx) : S11264x2048.Idx) := by
      rw [emb_7]
      refine congrArg₂ ix2 (Fin.ext ?_) rfl
      rw [crd_val] at e0
      show R.val = t.val * 128 + R.val % 128
      omega
    rw [e1]
    exact View.emb_mem_set _ _

include hlt in
theorem outb8_eq (c : Dev nD) (t : Fin (cfgA m hok).N) (p : Fin 128) (j : Fin 16) :
    outb8 m hok c t (ix2 p j) = yScales (A0 m c) (A1 m c) (A2 m c) (A3 m c) (A4 m c) (A5 m c) (A6 m c) (A7 m c) (ix2 (rowAt m hok t p) j) := by
  unfold outb8
  refine (blk8 c (ms_0 m hok t) (ms_1 m hok t) (ms_6 m hok t) (iblk m hok c (0 : Fin 11) t) (iblk m hok c (1 : Fin 11) t) (iblk m hok c (6 : Fin 11) t) (deq1 (iblk m hok c (2 : Fin 11) t : S2048x1408.Idx → Elt Ideal .fp8e4m3) (iblk m hok c (3 : Fin 11) t : S1x1x176.Idx → Elt Ideal .f32)) (deq2 (iblk m hok c (4 : Fin 11) t : S1408x2048.Idx → Elt Ideal .fp8e4m3) (iblk m hok c (5 : Fin 11) t : S1x1x176.Idx → Elt Ideal .f32)) p j).trans ?_
  rw [in_w1 m hok hlt c t, in_w2 m hok hlt c t, in_row m hok c t p, in_6 m hok c t p, ← ex_eq m hok c t p]
  rfl

include hlt in
/-- Output 8's array after the run. -/
theorem final_8 (c : Dev nD) : (dats m hok 0 c).arrAt (8 : Fin 11) (cfgA m hok).N = (yScales (A0 m c) (A1 m c) (A2 m c) (A3 m c) (A4 m c) (A5 m c) (A6 m c) (A7 m c) : S11264x16.Idx → Elt Ideal .f32) := by
  refine (dats m hok 0 c).arrAt_eq_of_emb (8 : Fin 11) _ (fun t hf y => ?_) (fun i => ?_)
  · obtain ⟨p, j, rfl⟩ : ∃ (p : Fin 128) (j : Fin 16), y = (ix2 p j : S128x16.Idx) := ⟨y 0, y 1, eq_ix2 y⟩
    rw [after_8]
    refine (outb8_eq m hok hlt c t p j).trans ?_
    exact congrArg (yScales (A0 m c) (A1 m c) (A2 m c) (A3 m c) (A4 m c) (A5 m c) (A6 m c) (A7 m c)) (emb_8 m hok t p j).symm
  · obtain ⟨R, j, rfl⟩ : ∃ (R : Fin 11264) (j : Fin 16), i = (ix2 R j : S11264x16.Idx) := ⟨i 0, i 1, eq_ix2 i⟩
    have hR := R.isLt
    obtain ⟨t, -, hf, ht⟩ := Pipeline.Window.exists_flush_same_index ((cfgA m hok).win (8 : Fin 11)) rfl (⟨R.val / 128, by show R.val / 128 < 88; omega⟩ : Fin (cfgA m hok).N)
    refine ⟨t, hf, ?_⟩
    have e0 : (crd m hok t 0).val = R.val / 128 := by
      have h0 := congrFun ht (0 : Fin 2)
      have h1 : (BitVec.ofNat 32 (crd m hok t 0).val).toNat = (BitVec.ofNat 32 (crd m hok (⟨R.val / 128, by show R.val / 128 < 88; omega⟩ : Fin (cfgA m hok).N) 0).val).toNat := h0
      rw [crd_toNat, crd_toNat] at h1
      rw [crd_val]; exact h1
    have e1 : (ix2 R j : S11264x16.Idx) = ((((cfgA m hok).win (8 : Fin 11)).blk t).view.emb (ix2 (⟨R.val % 128, Nat.mod_lt _ (by decide)⟩ : Fin 128) j : S128x16.Idx) : S11264x16.Idx) := by
      rw [emb_8]
      refine congrArg₂ ix2 (Fin.ext ?_) rfl
      rw [crd_val] at e0
      show R.val = t.val * 128 + R.val % 128
      omega
    rw [e1]
    exact View.emb_mem_set _ _

include hlt in
theorem outb9_eq (c : Dev nD) (t : Fin (cfgA m hok).N) (p : Fin 128) (j : Fin 1408) :
    outb9 m hok c t (ix2 p j) = hCodes (A0 m c) (A1 m c) (A2 m c) (A3 m c) (A6 m c) (ix2 (rowAt m hok t p) j) := by
  unfold outb9
  refine (blk9 c (ms_0 m hok t) (ms_1 m hok t) (ms_6 m hok t) (iblk m hok c (0 : Fin 11) t) (iblk m hok c (1 : Fin 11) t) (iblk m hok c (6 : Fin 11) t) (held2 m hok c t) (deq1 (iblk m hok c (2 : Fin 11) t : S2048x1408.Idx → Elt Ideal .fp8e4m3) (iblk m hok c (3 : Fin 11) t : S1x1x176.Idx → Elt Ideal .f32)) p j).trans ?_
  rw [in_w1 m hok hlt c t, in_row m hok c t p, ← ex_eq m hok c t p]
  rfl

include hlt in
/-- Output 9's array after the run. -/
theorem final_9 (c : Dev nD) : (dats m hok 0 c).arrAt (9 : Fin 11) (cfgA m hok).N = (hCodes (A0 m c) (A1 m c) (A2 m c) (A3 m c) (A6 m c) : S11264x1408.Idx → Elt Ideal .fp8e4m3) := by
  refine (dats m hok 0 c).arrAt_eq_of_emb (9 : Fin 11) _ (fun t hf y => ?_) (fun i => ?_)
  · obtain ⟨p, j, rfl⟩ : ∃ (p : Fin 128) (j : Fin 1408), y = (ix2 p j : S128x1408.Idx) := ⟨y 0, y 1, eq_ix2 y⟩
    rw [after_9]
    refine (outb9_eq m hok hlt c t p j).trans ?_
    exact congrArg (hCodes (A0 m c) (A1 m c) (A2 m c) (A3 m c) (A6 m c)) (emb_9 m hok t p j).symm
  · obtain ⟨R, j, rfl⟩ : ∃ (R : Fin 11264) (j : Fin 1408), i = (ix2 R j : S11264x1408.Idx) := ⟨i 0, i 1, eq_ix2 i⟩
    have hR := R.isLt
    obtain ⟨t, -, hf, ht⟩ := Pipeline.Window.exists_flush_same_index ((cfgA m hok).win (9 : Fin 11)) rfl (⟨R.val / 128, by show R.val / 128 < 88; omega⟩ : Fin (cfgA m hok).N)
    refine ⟨t, hf, ?_⟩
    have e0 : (crd m hok t 0).val = R.val / 128 := by
      have h0 := congrFun ht (0 : Fin 2)
      have h1 : (BitVec.ofNat 32 (crd m hok t 0).val).toNat = (BitVec.ofNat 32 (crd m hok (⟨R.val / 128, by show R.val / 128 < 88; omega⟩ : Fin (cfgA m hok).N) 0).val).toNat := h0
      rw [crd_toNat, crd_toNat] at h1
      rw [crd_val]; exact h1
    have e1 : (ix2 R j : S11264x1408.Idx) = ((((cfgA m hok).win (9 : Fin 11)).blk t).view.emb (ix2 (⟨R.val % 128, Nat.mod_lt _ (by decide)⟩ : Fin 128) j : S128x1408.Idx) : S11264x1408.Idx) := by
      rw [emb_9]
      refine congrArg₂ ix2 (Fin.ext ?_) rfl
      rw [crd_val] at e0
      show R.val = t.val * 128 + R.val % 128
      omega
    rw [e1]
    exact View.emb_mem_set _ _

include hlt in
theorem outb10_eq (c : Dev nD) (t : Fin (cfgA m hok).N) (p : Fin 128) (j : Fin 11) :
    outb10 m hok c t (ix2 p j) = hScales (A0 m c) (A1 m c) (A2 m c) (A3 m c) (A6 m c) (ix2 (rowAt m hok t p) j) := by
  unfold outb10
  refine (blk10 c (ms_0 m hok t) (ms_1 m hok t) (ms_6 m hok t) (iblk m hok c (0 : Fin 11) t) (iblk m hok c (1 : Fin 11) t) (iblk m hok c (6 : Fin 11) t) (held2 m hok c t) (deq1 (iblk m hok c (2 : Fin 11) t : S2048x1408.Idx → Elt Ideal .fp8e4m3) (iblk m hok c (3 : Fin 11) t : S1x1x176.Idx → Elt Ideal .f32)) p j).trans ?_
  rw [in_w1 m hok hlt c t, in_row m hok c t p, ← ex_eq m hok c t p]
  rfl

include hlt in
/-- Output 10's array after the run. -/
theorem final_10 (c : Dev nD) : (dats m hok 0 c).arrAt (10 : Fin 11) (cfgA m hok).N = (hScales (A0 m c) (A1 m c) (A2 m c) (A3 m c) (A6 m c) : S11264x11.Idx → Elt Ideal .f32) := by
  refine (dats m hok 0 c).arrAt_eq_of_emb (10 : Fin 11) _ (fun t hf y => ?_) (fun i => ?_)
  · obtain ⟨p, j, rfl⟩ : ∃ (p : Fin 128) (j : Fin 11), y = (ix2 p j : S128x11.Idx) := ⟨y 0, y 1, eq_ix2 y⟩
    rw [after_10]
    refine (outb10_eq m hok hlt c t p j).trans ?_
    exact congrArg (hScales (A0 m c) (A1 m c) (A2 m c) (A3 m c) (A6 m c)) (emb_10 m hok t p j).symm
  · obtain ⟨R, j, rfl⟩ : ∃ (R : Fin 11264) (j : Fin 11), i = (ix2 R j : S11264x11.Idx) := ⟨i 0, i 1, eq_ix2 i⟩
    have hR := R.isLt
    obtain ⟨t, -, hf, ht⟩ := Pipeline.Window.exists_flush_same_index ((cfgA m hok).win (10 : Fin 11)) rfl (⟨R.val / 128, by show R.val / 128 < 88; omega⟩ : Fin (cfgA m hok).N)
    refine ⟨t, hf, ?_⟩
    have e0 : (crd m hok t 0).val = R.val / 128 := by
      have h0 := congrFun ht (0 : Fin 2)
      have h1 : (BitVec.ofNat 32 (crd m hok t 0).val).toNat = (BitVec.ofNat 32 (crd m hok (⟨R.val / 128, by show R.val / 128 < 88; omega⟩ : Fin (cfgA m hok).N) 0).val).toNat := h0
      rw [crd_toNat, crd_toNat] at h1
      rw [crd_val]; exact h1
    have e1 : (ix2 R j : S11264x11.Idx) = ((((cfgA m hok).win (10 : Fin 11)).blk t).view.emb (ix2 (⟨R.val % 128, Nat.mod_lt _ (by decide)⟩ : Fin 128) j : S128x11.Idx) : S11264x11.Idx) := by
      rw [emb_10]
      refine congrArg₂ ix2 (Fin.ext ?_) rfl
      rw [crd_val] at e0
      show R.val = t.val * 128 + R.val % 128
      omega
    rw [e1]
    exact View.emb_mem_set _ _

end Cert.KernelIdeal.Own

end
-- ==== Proof.ReferenceIdeal.Host.lean ====
module
public import proofs.«01_k».proof.Proof.Gen.ReferenceIdeal.Frame
public import Idealize.ShloMosaic.Lib.Pointwise
public import Idealize.ShloMosaic.Lib.Pipeline.ValueKit
public import proofs.«01_k».proof.Proof.Math
@[expose] public section
set_option maxRecDepth 16384
set_option Elab.async false
noncomputable section

/- What the reference's host part hands to its body: the weight blocks that the table names, and one scale for each
   element, each read at an element of the argument arrays. -/

namespace Cert.ReferenceIdeal.Own
open Cert.ReferenceIdeal Cert.ReferenceIdeal.Gen Cert.Own.Math
open Idealize.ShloMosaic
open Idealize.ShloMosaic.TcCoe

variable (m : (ℓ : Loc nD τ sig) → Buf (Elt Ideal) ℓ)

/-- A table word as a gather reads it: a signed number, clamped to the blocks there are. -/
def clampAt (v : BitVec 32) : Fin 704 := ⟨min v.toInt.toNat 703, by omega⟩

theorem gather_w1 {α : Type} (x : S2048x704x128.Idx → α) (idx : IVec S88x11x1 32) (k : Fin 2048) (r : Fin 88) (j : Fin 11) (q : Fin 128) :
    Host.gather gather_S2048x704x128_S88x11x1_S2048x88x11x128_03_1_n_n_1_2_20481128 x idx (ix4 k r j q)
      = x (ix3 k (clampAt (idx (ix3 r j 0))) q) := by
  unfold Host.gather
  refine congrArg x (funext fun a => Fin.ext ?_)
  fin_cases a
  · show 0 + 0 + k.val = k.val
    omega
  · show min (idx _).toInt.toNat 703 + 0 + 0 = min (idx (ix3 r j 0)).toInt.toNat 703
    refine congrArg (fun z => min (idx z).toInt.toNat 703) (funext fun b => Fin.ext ?_)
    fin_cases b <;> rfl
  · show 0 + 0 + q.val = q.val
    omega

theorem gather_s1 {α : Type} (x : S16x704.Idx → α) (idx : IVec S88x11x1 32) (k : Fin 16) (r : Fin 88) (j : Fin 11) :
    Host.gather gather_S16x704_S88x11x1_S16x88x11_0_1_n_n_1_2_161 x idx (ix3 k r j)
      = x (ix2 k (clampAt (idx (ix3 r j 0)))) := by
  unfold Host.gather
  refine congrArg x (funext fun a => Fin.ext ?_)
  fin_cases a
  · show 0 + 0 + k.val = k.val
    omega
  · show min (idx _).toInt.toNat 703 + 0 + 0 = min (idx (ix3 r j 0)).toInt.toNat 703
    refine congrArg (fun z => min (idx z).toInt.toNat 703) (funext fun b => Fin.ext ?_)
    fin_cases b <;> rfl

theorem gather_w2 {α : Type} (x : S704x128x2048.Idx → α) (idx : IVec S88x11x1 32) (r : Fin 88) (j : Fin 11) (q : Fin 128) (k : Fin 2048) :
    Host.gather gather_S704x128x2048_S88x11x1_S88x11x128x2048_23_0_n_n_0_2_11282048 x idx (ix4 r j q k)
      = x (ix3 (clampAt (idx (ix3 r j 0))) q k) := by
  unfold Host.gather
  refine congrArg x (funext fun a => Fin.ext ?_)
  fin_cases a
  · show min (idx _).toInt.toNat 703 + 0 + 0 = min (idx (ix3 r j 0)).toInt.toNat 703
    refine congrArg (fun z => min (idx z).toInt.toNat 703) (funext fun b => Fin.ext ?_)
    fin_cases b <;> rfl
  · show 0 + 0 + q.val = q.val
    omega
  · show 0 + 0 + k.val = k.val
    omega

theorem gather_s2 {α : Type} (x : S704x16.Idx → α) (idx : IVec S88x11x1 32) (r : Fin 88) (j : Fin 11) (k : Fin 16) :
    Host.gather gather_S704x16_S88x11x1_S88x11x16_2_0_n_n_0_2_116 x idx (ix3 r j k)
      = x (ix2 (clampAt (idx (ix3 r j 0))) k) := by
  unfold Host.gather
  refine congrArg x (funext fun a => Fin.ext ?_)
  fin_cases a
  · show min (idx _).toInt.toNat 703 + 0 + 0 = min (idx (ix3 r j 0)).toInt.toNat 703
    refine congrArg (fun z => min (idx z).toInt.toNat 703) (funext fun b => Fin.ext ?_)
    fin_cases b <;> rfl
  · show 0 + 0 + k.val = k.val
    omega

/- The argument arrays by name. -/
abbrev A0 (c : Dev nD) : S11264x2048.Idx → Ideal .fp8e4m3 := m ((c : Thread nD τ).loc main_arg0)
abbrev A1 (c : Dev nD) : S11264x16.Idx → Ideal .f32 := m ((c : Thread nD τ).loc main_arg1)
abbrev A2 (c : Dev nD) : S2048x90112.Idx → Ideal .fp8e4m3 := m ((c : Thread nD τ).loc main_arg2)
abbrev A3 (c : Dev nD) : S16x704.Idx → Ideal .f32 := m ((c : Thread nD τ).loc main_arg3)
abbrev A4 (c : Dev nD) : S90112x2048.Idx → Ideal .fp8e4m3 := m ((c : Thread nD τ).loc main_arg4)
abbrev A5 (c : Dev nD) : S704x16.Idx → Ideal .f32 := m ((c : Thread nD τ).loc main_arg5)
abbrev A6 (c : Dev nD) : S88x11.Idx → BitVec 32 := m ((c : Thread nD τ).loc main_arg6)
abbrev A7 (c : Dev nD) : S11264.Idx → Ideal .f32 := m ((c : Thread nD τ).loc main_arg7)

/-- The block that holds column `f` of row block `b`'s weights. -/
def blkCol (c : Dev nD) (b : Fin 88) (f : Fin 1408) : Fin 704 := clampAt (A6 m c (ix2 b ⟨f.val / 128, by have := f.isLt; omega⟩))

theorem V_v18 (c : Dev nD) (b : Fin 88) (p : Fin 128) (k : Fin 2048) :
    (V m c main_v18 : S88x128x2048.Idx → Ideal .fp8e4m3) (ix3 b p k) = A0 m c (ix2 ⟨b.val * 128 + p.val, by omega⟩ k) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  pointwise

theorem V_v21 (c : Dev nD) (b : Fin 88) (p : Fin 128) (k : Fin 2048) :
    (V m c main_v21 : S88x128x2048.Idx → Ideal .f32) (ix3 b p k) = A1 m c (ix2 ⟨b.val * 128 + p.val, by omega⟩ ⟨k.val / 128, by omega⟩) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  pointwise

theorem V_v22 (c : Dev nD) (b : Fin 88) (p : Fin 128) :
    (V m c main_v22 : S88x128x1.Idx → Ideal .f32) (ix3 b p 0) = A7 m c (ix1 ⟨b.val * 128 + p.val, by omega⟩) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  pointwise

theorem V_v3 (c : Dev nD) (b : Fin 88) (k : Fin 2048) (f : Fin 1408) :
    (V m c main_v3 : S88x2048x1408.Idx → Ideal .fp8e4m3) (ix3 b k f)
      = A2 m c (ix2 k ⟨(blkCol m c b f).val * 128 + f.val % 128, by have := (blkCol m c b f).isLt; omega⟩) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  simp -implicitDefEqProofs only [StableHlo.TRef.toBuf, StableHlo.TRef.ofBuf, cast_cast, cast_eq]
  pointwise [gather_w1]
  rfl

theorem V_v9 (c : Dev nD) (b : Fin 88) (k : Fin 2048) (f : Fin 1408) :
    (V m c main_v9 : S88x2048x1408.Idx → Ideal .f32) (ix3 b k f) = A3 m c (ix2 ⟨k.val / 128, by omega⟩ (blkCol m c b f)) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  simp -implicitDefEqProofs only [StableHlo.TRef.toBuf, StableHlo.TRef.ofBuf, cast_cast, cast_eq]
  pointwise [gather_s1]
  rfl

theorem V_v12 (c : Dev nD) (b : Fin 88) (f : Fin 1408) (j : Fin 2048) :
    (V m c main_v12 : S88x1408x2048.Idx → Ideal .fp8e4m3) (ix3 b f j)
      = A4 m c (ix2 ⟨(blkCol m c b f).val * 128 + f.val % 128, by have := (blkCol m c b f).isLt; omega⟩ j) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  simp -implicitDefEqProofs only [StableHlo.TRef.toBuf, StableHlo.TRef.ofBuf, cast_cast, cast_eq]
  pointwise [gather_w2]
  rfl

theorem V_v17 (c : Dev nD) (b : Fin 88) (f : Fin 1408) (j : Fin 2048) :
    (V m c main_v17 : S88x1408x2048.Idx → Ideal .f32) (ix3 b f j) = A5 m c (ix2 (blkCol m c b f) ⟨j.val / 128, by omega⟩) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  entry_read
  simp -implicitDefEqProofs only [StableHlo.TRef.toBuf, StableHlo.TRef.ofBuf, cast_cast, cast_eq]
  pointwise [gather_s2]
  rfl

end Cert.ReferenceIdeal.Own
end
-- ==== Proof.ReferenceIdeal.Body.lean ====
module
public import proofs.«01_k».proof.Proof.Gen.ReferenceIdeal.Frame
public import Idealize.ShloMosaic.Lib.Pointwise
public import proofs.«01_k».proof.Proof.Math
@[expose] public section
set_option maxRecDepth 16384
set_option Elab.async false
noncomputable section

/- What the reference's body computes over the extended reals: the rows of the mathematics, every row block at once. -/

namespace Cert.ReferenceIdeal.Own
open Cert.ReferenceIdeal Cert.ReferenceIdeal.Gen Cert.Own.Math
open Idealize.ShloMosaic

variable (x0 : S88x128x2048.Idx → Elt Ideal .fp8e4m3) (x1 : S88x128x2048.Idx → Elt Ideal .f32) (x2 : S88x2048x1408.Idx → Elt Ideal .fp8e4m3) (x3 : S88x2048x1408.Idx → Elt Ideal .f32)
  (x4 : S88x1408x2048.Idx → Elt Ideal .fp8e4m3) (x5 : S88x1408x2048.Idx → Elt Ideal .f32) (x6 : S88x128x1.Idx → Elt Ideal .f32)

/-- Row `p` of block `b` of the hidden layer. -/
def hidB (b : Fin 88) (p : Fin 128) : Fin 1408 → Ideal .f32 :=
  rowH (fun k => (x0 (ix3 b p k) : Ideal .f32) * (x1 (ix3 b p k) : Ideal .f32)) (fun k f => (x2 (ix3 b k f) : Ideal .f32) * (x3 (ix3 b k f) : Ideal .f32))

theorem pay6_at (b : Fin 88) (p : Fin 128) (g : Fin 11) (q : Fin 128) :
    (k0_pay6 (F := Ideal) x0 x1 x2 x3 : S88x128x11x128.Idx → Ideal .f32) (ix4 b p g q) = hidB x0 x1 x2 x3 b p ⟨g.val * 128 + q.val, by have := g.isLt; have := q.isLt; omega⟩ := by
  unfold k0_pay6 hidB rowH gelu
  pointwise

theorem pay7_fold (b : Fin 88) (p : Fin 128) (g : Fin 11) :
    (k0_pay7 (F := Ideal) x0 x1 x2 x3 : S88x128x11.Idx → Ideal .f32) (ix3 b p g) = amax (fun q => (k0_pay6 (F := Ideal) x0 x1 x2 x3 : S88x128x11x128.Idx → Ideal .f32) (ix4 b p g q)) := by
  unfold k0_pay7 amax
  generalize k0_pay6 (F := Ideal) x0 x1 x2 x3 = H
  pointwise

theorem pay8_gen (A : S88x128x11.Idx → Ideal .f32) (hA : k0_pay7 (F := Ideal) x0 x1 x2 x3 = A) (b : Fin 88) (p : Fin 128) (g : Fin 11) :
    (k0_pay8 (F := Ideal) x0 x1 x2 x3 : IVec S88x128x11 1) (ix3 b p g) = Scalar.cmpf (F := Ideal) (φ := .f32) .oeq (A (ix3 b p g)) (0 : Ideal .f32) := by
  unfold k0_pay8
  rw [hA]
  pointwise

theorem pay9_gen (A : S88x128x11.Idx → Ideal .f32) (hA : k0_pay7 (F := Ideal) x0 x1 x2 x3 = A) (b : Fin 88) (p : Fin 128) (g : Fin 11) :
    (k0_pay9 (F := Ideal) x0 x1 x2 x3 : S88x128x11.Idx → Ideal .f32) (ix3 b p g)
      = Ideal.div (Ideal.log (A (ix3 b p g) * Ideal.ofBits .f32 991054117#32)) (Scalar.log (Ideal.ofBits .f32 1073741824#32 : Ideal .f32)) := by
  unfold k0_pay9
  rw [hA]
  pointwise

theorem pay10_gen (v32 : IVec S88x128x11 1) (v38 : FVec Ideal S88x128x11 .f32) (b : Fin 88) (p : Fin 128) (g : Fin 11) (a : Ideal .f32)
    (h8 : v32 (ix3 b p g) = Scalar.cmpf (F := Ideal) (φ := .f32) .oeq a (0 : Ideal .f32))
    (h9 : v38 (ix3 b p g) = Ideal.div (Ideal.log (a * Ideal.ofBits .f32 991054117#32)) (Scalar.log (Ideal.ofBits .f32 1073741824#32 : Ideal .f32))) :
    (k0_pay10 (F := Ideal) v32 v38 : S88x128x11.Idx → Ideal .f32) (ix3 b p g) = expo a := by
  unfold k0_pay10 expo
  rw [← h9]
  pointwise [h8]

theorem pay11_gen (v28 : FVec Ideal S88x128x11x128 .f32) (v32 : IVec S88x128x11 1) (v38 : FVec Ideal S88x128x11 .f32) (b : Fin 88) (p : Fin 128) (f : Fin 1408) :
    (k0_pay11 (F := Ideal) v28 v32 v38 : S88x128x1408.Idx → Ideal .fp8e4m3) (ix3 b p f)
      = min (Ideal.ofBits .f32 1138753536#32) (max (Ideal.ofBits .f32 3286237184#32) (v28 (ix4 b p ⟨f.val / 128, by have := f.isLt; omega⟩ ⟨f.val % 128, by omega⟩) * FloatOps.exp2 (0 - (k0_pay10 (F := Ideal) v32 v38 : S88x128x11.Idx → Ideal .f32) (ix3 b p ⟨f.val / 128, by have := f.isLt; omega⟩)))) := by
  unfold k0_pay11
  generalize k0_pay10 (F := Ideal) v32 v38 = E
  pointwise

theorem pay12_gen (v32 : IVec S88x128x11 1) (v38 : FVec Ideal S88x128x11 .f32) (i : S88x128x11.Idx) :
    (k0_pay12 (F := Ideal) v32 v38 : S88x128x11.Idx → Ideal .f32) i = FloatOps.exp2 ((k0_pay10 (F := Ideal) v32 v38 : S88x128x11.Idx → Ideal .f32) i) := by
  unfold k0_pay12
  generalize k0_pay10 (F := Ideal) v32 v38 = E
  rfl

theorem pay13_gen (v28 : FVec Ideal S88x128x11x128 .f32) (v32 : IVec S88x128x11 1) (v38 : FVec Ideal S88x128x11 .f32) (b : Fin 88) (p : Fin 128) (g : Fin 16) (q : Fin 128) :
    (k0_pay13 (F := Ideal) v28 v32 v38 x4 x5 x6 : S88x128x16x128.Idx → Ideal .f32) (ix4 b p g q)
      = rowO (fun f => (k0_pay11 (F := Ideal) v28 v32 v38 : S88x128x1408.Idx → Ideal .fp8e4m3) (ix3 b p f) * (k0_pay12 (F := Ideal) v32 v38 : S88x128x11.Idx → Ideal .f32) (ix3 b p ⟨f.val / 128, by have := f.isLt; omega⟩))
          (fun f j => (x4 (ix3 b f j) : Ideal .f32) * (x5 (ix3 b f j) : Ideal .f32)) (x6 (ix3 b p 0)) ⟨g.val * 128 + q.val, by have := g.isLt; have := q.isLt; omega⟩ := by
  unfold k0_pay13 rowO
  generalize k0_pay11 (F := Ideal) v28 v32 v38 = C
  generalize k0_pay12 (F := Ideal) v32 v38 = S
  pointwise

theorem pay14_gen (v28 : FVec Ideal S88x128x11x128 .f32) (v32 : IVec S88x128x11 1) (v38 : FVec Ideal S88x128x11 .f32) (Y : S88x128x16x128.Idx → Ideal .f32)
    (hY : k0_pay13 (F := Ideal) v28 v32 v38 x4 x5 x6 = Y) (b : Fin 88) (p : Fin 128) (g : Fin 16) :
    (k0_pay14 (F := Ideal) v28 v32 v38 x4 x5 x6 : S88x128x16.Idx → Ideal .f32) (ix3 b p g) = amax (fun q => Y (ix4 b p g q)) := by
  unfold k0_pay14 amax
  rw [hY]
  pointwise

theorem pay15_gen (v28 : FVec Ideal S88x128x11x128 .f32) (v32 : IVec S88x128x11 1) (v38 : FVec Ideal S88x128x11 .f32) (A : S88x128x16.Idx → Ideal .f32)
    (hA : k0_pay14 (F := Ideal) v28 v32 v38 x4 x5 x6 = A) (b : Fin 88) (p : Fin 128) (g : Fin 16) :
    (k0_pay15 (F := Ideal) v28 v32 v38 x4 x5 x6 : IVec S88x128x16 1) (ix3 b p g) = Scalar.cmpf (F := Ideal) (φ := .f32) .oeq (A (ix3 b p g)) (0 : Ideal .f32) := by
  unfold k0_pay15
  rw [hA]
  pointwise

theorem pay1_gen (v77 : FVec Ideal S88x128x16 .f32) (v79 : IVec S88x128x16 1) (b : Fin 88) (p : Fin 128) (g : Fin 16)
    (h : v79 (ix3 b p g) = Scalar.cmpf (F := Ideal) (φ := .f32) .oeq (v77 (ix3 b p g)) (0 : Ideal .f32)) :
    (k0_pay1 (F := Ideal) v77 v79 (k0_pay16 (F := Ideal)) : S88x128x16.Idx → Ideal .f32) (ix3 b p g) = expo (v77 (ix3 b p g)) := by
  unfold k0_pay1 k0_pay16 expo
  pointwise [h]

theorem pay2_gen (v75 : FVec Ideal S88x128x16x128 .f32) (v77 : FVec Ideal S88x128x16 .f32) (v79 : IVec S88x128x16 1) (v80 : FVec Ideal S88x128x16 .f32) (R : Fin 11264) (j : Fin 2048) :
    (k0_pay2 (F := Ideal) v75 v77 v79 v80 : S11264x2048.Idx → Ideal .fp8e4m3) (ix2 R j)
      = min (Ideal.ofBits .f32 1138753536#32) (max (Ideal.ofBits .f32 3286237184#32)
          (v75 (ix4 ⟨R.val / 128, by have := R.isLt; omega⟩ ⟨R.val % 128, by omega⟩ ⟨j.val / 128, by have := j.isLt; omega⟩ ⟨j.val % 128, by omega⟩)
            * FloatOps.exp2 (0 - (k0_pay1 (F := Ideal) v77 v79 v80 : S88x128x16.Idx → Ideal .f32) (ix3 ⟨R.val / 128, by have := R.isLt; omega⟩ ⟨R.val % 128, by omega⟩ ⟨j.val / 128, by have := j.isLt; omega⟩)))) := by
  unfold k0_pay2
  generalize k0_pay1 (F := Ideal) v77 v79 v80 = E
  pointwise

theorem pay3_gen (v77 : FVec Ideal S88x128x16 .f32) (v79 : IVec S88x128x16 1) (v80 : FVec Ideal S88x128x16 .f32) (R : Fin 11264) (g : Fin 16) :
    (k0_pay3 (F := Ideal) v77 v79 v80 : S11264x16.Idx → Ideal .f32) (ix2 R g)
      = FloatOps.exp2 ((k0_pay1 (F := Ideal) v77 v79 v80 : S88x128x16.Idx → Ideal .f32) (ix3 ⟨R.val / 128, by have := R.isLt; omega⟩ ⟨R.val % 128, by omega⟩ g)) := by
  unfold k0_pay3
  generalize k0_pay1 (F := Ideal) v77 v79 v80 = E
  pointwise

theorem pay4_gen (v : FVec Ideal S88x128x1408 .fp8e4m3) (R : Fin 11264) (f : Fin 1408) :
    (k0_pay4 (F := Ideal) v : S11264x1408.Idx → Ideal .fp8e4m3) (ix2 R f) = v (ix3 ⟨R.val / 128, by have := R.isLt; omega⟩ ⟨R.val % 128, by omega⟩ f) := by
  unfold k0_pay4
  pointwise

theorem pay5_gen (v : FVec Ideal S88x128x11 .f32) (R : Fin 11264) (g : Fin 11) :
    (k0_pay5 (F := Ideal) v : S11264x11.Idx → Ideal .f32) (ix2 R g) = v (ix3 ⟨R.val / 128, by have := R.isLt; omega⟩ ⟨R.val % 128, by omega⟩ g) := by
  unfold k0_pay5
  pointwise

/-- Row `p` of block `b` of the result before quantisation. -/
def resB (b : Fin 88) (p : Fin 128) : Fin 2048 → Ideal .f32 :=
  rowO (rowD (hidB x0 x1 x2 x3 b p)) (fun f j => (x4 (ix3 b f j) : Ideal .f32) * (x5 (ix3 b f j) : Ideal .f32)) (x6 (ix3 b p 0))

theorem pay7_at (b : Fin 88) (p : Fin 128) (g : Fin 11) :
    (k0_pay7 (F := Ideal) x0 x1 x2 x3 : S88x128x11.Idx → Ideal .f32) (ix3 b p g) = amax (fun q : Fin 128 => hidB x0 x1 x2 x3 b p ⟨g.val * 128 + q.val, by have := g.isLt; have := q.isLt; omega⟩) := by
  rw [pay7_fold]
  exact congrArg amax (funext fun q => pay6_at x0 x1 x2 x3 b p g q)

/-- The exponents of the hidden layer's groups. -/
theorem pay10_at (b : Fin 88) (p : Fin 128) (g : Fin 11) :
    (k0_pay10 (F := Ideal) (k0_pay8 (F := Ideal) x0 x1 x2 x3) (k0_pay9 (F := Ideal) x0 x1 x2 x3) : S88x128x11.Idx → Ideal .f32) (ix3 b p g) = expo (amax (fun q : Fin 128 => hidB x0 x1 x2 x3 b p ⟨g.val * 128 + q.val, by have := g.isLt; have := q.isLt; omega⟩)) := by
  obtain ⟨A, hA⟩ : ∃ A : S88x128x11.Idx → Ideal .f32, k0_pay7 (F := Ideal) x0 x1 x2 x3 = A := ⟨_, rfl⟩
  refine (pay10_gen _ _ b p g (A (ix3 b p g)) (pay8_gen x0 x1 x2 x3 A hA b p g) (pay9_gen x0 x1 x2 x3 A hA b p g)).trans ?_
  rw [← pay7_at, hA]

theorem pay11_at (b : Fin 88) (p : Fin 128) (f : Fin 1408) :
    (k0_pay11 (F := Ideal) (k0_pay6 (F := Ideal) x0 x1 x2 x3) (k0_pay8 (F := Ideal) x0 x1 x2 x3) (k0_pay9 (F := Ideal) x0 x1 x2 x3) : S88x128x1408.Idx → Ideal .fp8e4m3) (ix3 b p f) = qcode (n := 1408) rfl (hidB x0 x1 x2 x3 b p) f := by
  refine (pay11_gen _ _ _ b p f).trans ?_
  rw [pay10_at, pay6_at]
  have e : (⟨f.val / 128 * 128 + f.val % 128, by have := f.isLt; omega⟩ : Fin 1408) = f := Fin.ext (by show f.val / 128 * 128 + f.val % 128 = f.val; omega)
  unfold qcode codeOf
  exact congrArg (fun z => min _ (max _ (hidB x0 x1 x2 x3 b p z * _))) e

theorem pay12_at (b : Fin 88) (p : Fin 128) (g : Fin 11) :
    (k0_pay12 (F := Ideal) (k0_pay8 (F := Ideal) x0 x1 x2 x3) (k0_pay9 (F := Ideal) x0 x1 x2 x3) : S88x128x11.Idx → Ideal .f32) (ix3 b p g) = qscale (n := 1408) (m := 11) rfl (hidB x0 x1 x2 x3 b p) g := by
  rw [pay12_gen, pay10_at]
  rfl

theorem pay13_at (b : Fin 88) (p : Fin 128) (g : Fin 16) (q : Fin 128) :
    (k0_pay13 (F := Ideal) (k0_pay6 (F := Ideal) x0 x1 x2 x3) (k0_pay8 (F := Ideal) x0 x1 x2 x3) (k0_pay9 (F := Ideal) x0 x1 x2 x3) x4 x5 x6 : S88x128x16x128.Idx → Ideal .f32) (ix4 b p g q)
      = resB x0 x1 x2 x3 x4 x5 x6 b p ⟨g.val * 128 + q.val, by have := g.isLt; have := q.isLt; omega⟩ := by
  refine (pay13_gen x4 x5 x6 _ _ _ b p g q).trans ?_
  unfold resB
  refine congrArg (fun D => rowO D _ _ _) (funext fun f => ?_)
  rw [pay11_at, pay12_at]
  rfl

/-- The exponents of the result's groups. -/
theorem pay1_at (b : Fin 88) (p : Fin 128) (g : Fin 16) :
    (k0_pay1 (F := Ideal) (k0_pay14 (F := Ideal) (k0_pay6 (F := Ideal) x0 x1 x2 x3) (k0_pay8 (F := Ideal) x0 x1 x2 x3) (k0_pay9 (F := Ideal) x0 x1 x2 x3) x4 x5 x6) (k0_pay15 (F := Ideal) (k0_pay6 (F := Ideal) x0 x1 x2 x3) (k0_pay8 (F := Ideal) x0 x1 x2 x3) (k0_pay9 (F := Ideal) x0 x1 x2 x3) x4 x5 x6) (k0_pay16 (F := Ideal)) : S88x128x16.Idx → Ideal .f32) (ix3 b p g)
      = expo (amax (fun q : Fin 128 => resB x0 x1 x2 x3 x4 x5 x6 b p ⟨g.val * 128 + q.val, by have := g.isLt; have := q.isLt; omega⟩)) := by
  obtain ⟨Y, hY⟩ : ∃ Y : S88x128x16x128.Idx → Ideal .f32, k0_pay13 (F := Ideal) (k0_pay6 (F := Ideal) x0 x1 x2 x3) (k0_pay8 (F := Ideal) x0 x1 x2 x3) (k0_pay9 (F := Ideal) x0 x1 x2 x3) x4 x5 x6 = Y := ⟨_, rfl⟩
  obtain ⟨A, hA⟩ : ∃ A : S88x128x16.Idx → Ideal .f32, k0_pay14 (F := Ideal) (k0_pay6 (F := Ideal) x0 x1 x2 x3) (k0_pay8 (F := Ideal) x0 x1 x2 x3) (k0_pay9 (F := Ideal) x0 x1 x2 x3) x4 x5 x6 = A := ⟨_, rfl⟩
  have h14 := pay14_gen x4 x5 x6 _ _ _ Y hY b p g
  have h15 := pay15_gen x4 x5 x6 _ _ _ A hA b p g
  rw [hA] at h14 ⊢
  refine (pay1_gen A _ b p g h15).trans ?_
  rw [h14]
  refine congrArg (fun z => expo (amax z)) (funext fun q => ?_)
  rw [← hY, pay13_at]

theorem out7_pay (R : Fin 11264) (j : Fin 2048) :
    (k0_pay2 (F := Ideal) (k0_pay13 (F := Ideal) (k0_pay6 (F := Ideal) x0 x1 x2 x3) (k0_pay8 (F := Ideal) x0 x1 x2 x3) (k0_pay9 (F := Ideal) x0 x1 x2 x3) x4 x5 x6) (k0_pay14 (F := Ideal) (k0_pay6 (F := Ideal) x0 x1 x2 x3) (k0_pay8 (F := Ideal) x0 x1 x2 x3) (k0_pay9 (F := Ideal) x0 x1 x2 x3) x4 x5 x6) (k0_pay15 (F := Ideal) (k0_pay6 (F := Ideal) x0 x1 x2 x3) (k0_pay8 (F := Ideal) x0 x1 x2 x3) (k0_pay9 (F := Ideal) x0 x1 x2 x3) x4 x5 x6) (k0_pay16 (F := Ideal)) : S11264x2048.Idx → Ideal .fp8e4m3) (ix2 R j)
      = qcode (n := 2048) rfl (resB x0 x1 x2 x3 x4 x5 x6 ⟨R.val / 128, by have := R.isLt; omega⟩ ⟨R.val % 128, by omega⟩) j := by
  refine (pay2_gen _ _ _ _ R j).trans ?_
  rw [pay1_at, pay13_at]
  have e : (⟨j.val / 128 * 128 + j.val % 128, by have := j.isLt; omega⟩ : Fin 2048) = j := Fin.ext (by show j.val / 128 * 128 + j.val % 128 = j.val; omega)
  unfold qcode codeOf
  exact congrArg (fun z => min _ (max _ (resB x0 x1 x2 x3 x4 x5 x6 ⟨R.val / 128, by have := R.isLt; omega⟩ ⟨R.val % 128, by omega⟩ z * _))) e

theorem out8_pay (R : Fin 11264) (g : Fin 16) :
    (k0_pay3 (F := Ideal) (k0_pay14 (F := Ideal) (k0_pay6 (F := Ideal) x0 x1 x2 x3) (k0_pay8 (F := Ideal) x0 x1 x2 x3) (k0_pay9 (F := Ideal) x0 x1 x2 x3) x4 x5 x6) (k0_pay15 (F := Ideal) (k0_pay6 (F := Ideal) x0 x1 x2 x3) (k0_pay8 (F := Ideal) x0 x1 x2 x3) (k0_pay9 (F := Ideal) x0 x1 x2 x3) x4 x5 x6) (k0_pay16 (F := Ideal)) : S11264x16.Idx → Ideal .f32) (ix2 R g)
      = qscale (n := 2048) (m := 16) rfl (resB x0 x1 x2 x3 x4 x5 x6 ⟨R.val / 128, by have := R.isLt; omega⟩ ⟨R.val % 128, by omega⟩) g := by
  refine (pay3_gen _ _ _ R g).trans ?_
  rw [pay1_at]
  rfl

theorem out9_pay (R : Fin 11264) (f : Fin 1408) :
    (k0_pay4 (F := Ideal) (k0_pay11 (F := Ideal) (k0_pay6 (F := Ideal) x0 x1 x2 x3) (k0_pay8 (F := Ideal) x0 x1 x2 x3) (k0_pay9 (F := Ideal) x0 x1 x2 x3)) : S11264x1408.Idx → Ideal .fp8e4m3) (ix2 R f) = qcode (n := 1408) rfl (hidB x0 x1 x2 x3 ⟨R.val / 128, by have := R.isLt; omega⟩ ⟨R.val % 128, by omega⟩) f :=
  (pay4_gen _ R f).trans (pay11_at x0 x1 x2 x3 _ _ f)

theorem out10_pay (R : Fin 11264) (g : Fin 11) :
    (k0_pay5 (F := Ideal) (k0_pay12 (F := Ideal) (k0_pay8 (F := Ideal) x0 x1 x2 x3) (k0_pay9 (F := Ideal) x0 x1 x2 x3)) : S11264x11.Idx → Ideal .f32) (ix2 R g) = qscale (n := 1408) (m := 11) rfl (hidB x0 x1 x2 x3 ⟨R.val / 128, by have := R.isLt; omega⟩ ⟨R.val % 128, by omega⟩) g :=
  (pay5_gen _ R g).trans (pay12_at x0 x1 x2 x3 _ _ g)

end Cert.ReferenceIdeal.Own
end
-- ==== Proof.ReferenceIdeal.Rows.lean ====
module
public import proofs.«01_k».proof.Proof.ReferenceIdeal.Host
public import proofs.«01_k».proof.Proof.ReferenceIdeal.Body
public import Idealize.ShloMosaic.Lib.Pipeline.Value
public import Idealize.ShloMosaic.Lib.Pipeline.Covers
public import Idealize.ShloMosaic.Lib.Pipeline.ValueKit
public import Idealize.ShloMosaic.Lib.Pipeline.ValueKit.Point
public import Idealize.ShloMosaic.Lib.Pipeline.ValueKit.Acc
@[expose] public section
set_option maxRecDepth 16384
set_option Elab.async false
noncomputable section

/- The rows that the reference's body computes, of its arguments: the mathematics of `Math`, for a table whose rows name
   the blocks of one expert. -/

namespace Cert.ReferenceIdeal.Own
open Cert.ReferenceIdeal Cert.ReferenceIdeal.Gen Cert.Own.Math
open Idealize.ShloMosaic
open Idealize.ShloMosaic.TcCoe

variable (m : (ℓ : Loc nD τ sig) → Buf (Elt Ideal) ℓ)

/- Every window of the one point is its whole array: its block index is zero. -/
theorem idx_0 (t : Fin cfg0.N) (a : Fin 3) : win0_0.index t a = 0 := by fin_cases a <;> rfl
theorem idx_1 (t : Fin cfg0.N) (a : Fin 3) : win0_1.index t a = 0 := by fin_cases a <;> rfl
theorem idx_2 (t : Fin cfg0.N) (a : Fin 3) : win0_2.index t a = 0 := by fin_cases a <;> rfl
theorem idx_3 (t : Fin cfg0.N) (a : Fin 3) : win0_3.index t a = 0 := by fin_cases a <;> rfl
theorem idx_4 (t : Fin cfg0.N) (a : Fin 3) : win0_4.index t a = 0 := by fin_cases a <;> rfl
theorem idx_5 (t : Fin cfg0.N) (a : Fin 3) : win0_5.index t a = 0 := by fin_cases a <;> rfl
theorem idx_6 (t : Fin cfg0.N) (a : Fin 3) : win0_6.index t a = 0 := by fin_cases a <;> rfl
theorem idx_7 (t : Fin cfg0.N) (a : Fin 2) : win0_7.index t a = 0 := by fin_cases a <;> rfl
theorem idx_8 (t : Fin cfg0.N) (a : Fin 2) : win0_8.index t a = 0 := by fin_cases a <;> rfl
theorem idx_9 (t : Fin cfg0.N) (a : Fin 2) : win0_9.index t a = 0 := by fin_cases a <;> rfl
theorem idx_10 (t : Fin cfg0.N) (a : Fin 2) : win0_10.index t a = 0 := by fin_cases a <;> rfl

theorem blk_0 (c : Dev nD) (t : Fin cfg0.N) : (iblk m c 0 t : S88x128x2048.Idx → Elt Ideal .fp8e4m3) = V m c main_v18 := by
  funext y; blk_ext [iblk, idx_0]
theorem blk_1 (c : Dev nD) (t : Fin cfg0.N) : (iblk m c 1 t : S88x128x2048.Idx → Elt Ideal .f32) = V m c main_v21 := by
  funext y; blk_ext [iblk, idx_1]
theorem blk_2 (c : Dev nD) (t : Fin cfg0.N) : (iblk m c 2 t : S88x2048x1408.Idx → Elt Ideal .fp8e4m3) = V m c main_v3 := by
  funext y; blk_ext [iblk, idx_2]
theorem blk_3 (c : Dev nD) (t : Fin cfg0.N) : (iblk m c 3 t : S88x2048x1408.Idx → Elt Ideal .f32) = V m c main_v9 := by
  funext y; blk_ext [iblk, idx_3]
theorem blk_4 (c : Dev nD) (t : Fin cfg0.N) : (iblk m c 4 t : S88x1408x2048.Idx → Elt Ideal .fp8e4m3) = V m c main_v12 := by
  funext y; blk_ext [iblk, idx_4]
theorem blk_5 (c : Dev nD) (t : Fin cfg0.N) : (iblk m c 5 t : S88x1408x2048.Idx → Elt Ideal .f32) = V m c main_v17 := by
  funext y; blk_ext [iblk, idx_5]
theorem blk_6 (c : Dev nD) (t : Fin cfg0.N) : (iblk m c 6 t : S88x128x1.Idx → Elt Ideal .f32) = V m c main_v22 := by
  funext y; blk_ext [iblk, idx_6]

/-- What is known of the table: each row's first word is a multiple of eleven below 704, and the row runs on from it. -/
abbrev Rows (T : S88x11.Idx → BitVec 32) : Prop :=
  ∀ r : Fin 88, (T (ix2 r 0)).toNat < 704 ∧ (T (ix2 r 0)).toNat % 11 = 0 ∧ ∀ j : Fin 11, T (ix2 r j) = T (ix2 r 0) + BitVec.ofNat 32 j.val

variable (c : Dev nD) (hT : Rows (A6 m c))

/-- A word of such a row, read as a block number. -/
theorem word_col (v : BitVec 32) (q : ℕ) (h1 : v.toNat < 704) (h2 : v.toNat % 11 = 0) (hq : q < 11) :
    min (v + BitVec.ofNat 32 q).toInt.toNat 703 = v.toNat / 11 % 64 * 11 + q := by
  have e : (v + BitVec.ofNat 32 q).toNat = v.toNat + q := by
    rw [BitVec.toNat_add, BitVec.toNat_ofNat]; omega
  have e2 : (v + BitVec.ofNat 32 q).toInt = ((v.toNat + q : ℕ) : ℤ) := by
    rw [BitVec.toInt_eq_toNat_of_lt (by rw [e]; omega), e]
  rw [e2, Int.toNat_natCast]
  omega

include hT in
/-- Under it, a column's block is its place in the expert's blocks. -/
theorem blkCol_val (b : Fin 88) (f : Fin 1408) : (blkCol m c b f).val = (exp6 (A6 m c) b).val * 11 + f.val / 128 := by
  obtain ⟨h1, h2, h3⟩ := hT b
  have hf := f.isLt
  refine Eq.trans ?_ (word_col (A6 m c (ix2 b 0)) (f.val / 128) h1 h2 (by omega))
  exact congrArg (fun v : BitVec 32 => min v.toInt.toNat 703) (h3 ⟨f.val / 128, by omega⟩)

/- The arrays that the host part hands to the body. -/
abbrev W1c : S88x2048x1408.Idx → Elt Ideal .fp8e4m3 := V m c main_v3
abbrev W1s : S88x2048x1408.Idx → Elt Ideal .f32 := V m c main_v9
abbrev W2c : S88x1408x2048.Idx → Elt Ideal .fp8e4m3 := V m c main_v12
abbrev W2s : S88x1408x2048.Idx → Elt Ideal .f32 := V m c main_v17

include hT in
theorem w1_eq (b : Fin 88) :
    (fun (k : Fin 2048) (f : Fin 1408) => (W1c m c (ix3 b k f) : Ideal .f32) * (W1s m c (ix3 b k f) : Ideal .f32)) = wIn (A2 m c) (A3 m c) (exp6 (A6 m c) b) := by
  funext k f
  have e := blkCol_val m c hT b f
  have hf := f.isLt
  unfold wIn
  refine congrArg₂ (fun (x y : Ideal .f32) => x * y) ((V_v3 m c b k f).trans ?_) ((V_v9 m c b k f).trans ?_)
  · refine congrArg (A2 m c) (congrArg₂ ix2 rfl (Fin.ext ?_))
    show (blkCol m c b f).val * 128 + f.val % 128 = (exp6 (A6 m c) b).val * 1408 + f.val
    omega
  · exact congrArg (A3 m c) (congrArg₂ ix2 rfl (Fin.ext e))

include hT in
theorem w2_eq (b : Fin 88) :
    (fun (f : Fin 1408) (j : Fin 2048) => (W2c m c (ix3 b f j) : Ideal .f32) * (W2s m c (ix3 b f j) : Ideal .f32)) = wOut (A4 m c) (A5 m c) (exp6 (A6 m c) b) := by
  funext f j
  have e := blkCol_val m c hT b f
  have hf := f.isLt
  unfold wOut
  refine congrArg₂ (fun (x y : Ideal .f32) => x * y) ((V_v12 m c b f j).trans ?_) ((V_v17 m c b f j).trans ?_)
  · refine congrArg (A4 m c) (congrArg₂ ix2 (Fin.ext ?_) rfl)
    show (blkCol m c b f).val * 128 + f.val % 128 = (exp6 (A6 m c) b).val * 1408 + f.val
    omega
  · exact congrArg (A5 m c) (congrArg₂ ix2 (Fin.ext e) rfl)

theorem row_join (R : Fin 11264) : (⟨(R.val / 128) * 128 + R.val % 128, by have := R.isLt; omega⟩ : Fin 11264) = R :=
  Fin.ext (by show R.val / 128 * 128 + R.val % 128 = R.val; omega)

include hT in
/-- The reference's hidden rows are the mathematics'. -/
theorem hid_eq (R : Fin 11264) :
    hidB (V m c main_v18) (V m c main_v21) (V m c main_v3) (V m c main_v9) ⟨R.val / 128, by have := R.isLt; omega⟩ ⟨R.val % 128, by omega⟩
      = hid (A0 m c) (A1 m c) (A2 m c) (A3 m c) (A6 m c) R := by
  unfold hidB hid
  refine congrArg₂ rowH (funext fun k => ?_) (w1_eq m c hT _)
  unfold inRow
  refine congrArg₂ (fun (x y : Ideal .f32) => x * y) ((V_v18 m c _ _ k).trans ?_) ((V_v21 m c _ _ k).trans ?_)
  · exact congrArg (fun z => A0 m c (ix2 z k)) (row_join R)
  · exact congrArg (fun z => A1 m c (ix2 z _)) (row_join R)

include hT in
/-- The reference's result rows are the mathematics'. -/
theorem res_eq (R : Fin 11264) :
    resB (V m c main_v18) (V m c main_v21) (V m c main_v3) (V m c main_v9) (V m c main_v12) (V m c main_v17) (V m c main_v22) ⟨R.val / 128, by have := R.isLt; omega⟩ ⟨R.val % 128, by omega⟩
      = res (A0 m c) (A1 m c) (A2 m c) (A3 m c) (A4 m c) (A5 m c) (A6 m c) (A7 m c) R := by
  unfold resB res
  rw [hid_eq m c hT R, w2_eq m c hT]
  have e : (V m c main_v22 : S88x128x1.Idx → Ideal .f32) (ix3 ⟨R.val / 128, by have := R.isLt; omega⟩ ⟨R.val % 128, by omega⟩ 0) = A7 m c (ix1 R) :=
    (V_v22 m c _ _).trans (congrArg (fun z => A7 m c (ix1 z)) (row_join R))
  exact congrArg (fun w => rowO _ _ w) e

end Cert.ReferenceIdeal.Own
end
-- ==== Proof.ReferenceIdeal.Emb.lean ====
module
public import proofs.«01_k».proof.Proof.ReferenceIdeal.Rows
@[expose] public section
set_option maxRecDepth 16384
set_option Elab.async false
noncomputable section

/- The reference's one point writes each of its four arrays whole: what the body leaves is the array after the run. -/

namespace Cert.ReferenceIdeal.Own
open Cert.ReferenceIdeal Cert.ReferenceIdeal.Gen Cert.Own.Math
open Idealize.ShloMosaic
open Idealize.ShloMosaic.TcCoe

variable (m : (ℓ : Loc nD τ sig) → Buf (Elt Ideal) ℓ) (c : Dev nD)

theorem emb_7 (t : Fin cfg0.N) (y : S11264x2048.Idx) : (((cfg0.win 7).blk t).view.emb y : S11264x2048.Idx) = y := by blk_ext [idx_7]

theorem arr_7 (G : S11264x2048.Idx → Elt Ideal .fp8e4m3) (h : ∀ t, (dats m 0 c).after 7 t = G) : (dats m 0 c).arrAt 7 cfg0.N = G := by
  refine (dats m 0 c).arrAt_eq_of_emb 7 _ (fun t hf y => ?_) (fun i => ?_)
  · rw [h]
    exact congrArg G (emb_7 t y).symm
  · obtain ⟨t, -, hf, ht⟩ := Pipeline.Window.exists_flush_same_index (cfg0.win 7) rfl (0 : Fin 1)
    refine ⟨t, hf, ?_⟩
    have e1 : i = ((((cfg0.win 7).blk t).view.emb (i : S11264x2048.Idx)) : S11264x2048.Idx) := (emb_7 t i).symm
    rw [e1]
    exact View.emb_mem_set _ _

theorem emb_8 (t : Fin cfg0.N) (y : S11264x16.Idx) : (((cfg0.win 8).blk t).view.emb y : S11264x16.Idx) = y := by blk_ext [idx_8]

theorem arr_8 (G : S11264x16.Idx → Elt Ideal .f32) (h : ∀ t, (dats m 0 c).after 8 t = G) : (dats m 0 c).arrAt 8 cfg0.N = G := by
  refine (dats m 0 c).arrAt_eq_of_emb 8 _ (fun t hf y => ?_) (fun i => ?_)
  · rw [h]
    exact congrArg G (emb_8 t y).symm
  · obtain ⟨t, -, hf, ht⟩ := Pipeline.Window.exists_flush_same_index (cfg0.win 8) rfl (0 : Fin 1)
    refine ⟨t, hf, ?_⟩
    have e1 : i = ((((cfg0.win 8).blk t).view.emb (i : S11264x16.Idx)) : S11264x16.Idx) := (emb_8 t i).symm
    rw [e1]
    exact View.emb_mem_set _ _

theorem emb_9 (t : Fin cfg0.N) (y : S11264x1408.Idx) : (((cfg0.win 9).blk t).view.emb y : S11264x1408.Idx) = y := by blk_ext [idx_9]

theorem arr_9 (G : S11264x1408.Idx → Elt Ideal .fp8e4m3) (h : ∀ t, (dats m 0 c).after 9 t = G) : (dats m 0 c).arrAt 9 cfg0.N = G := by
  refine (dats m 0 c).arrAt_eq_of_emb 9 _ (fun t hf y => ?_) (fun i => ?_)
  · rw [h]
    exact congrArg G (emb_9 t y).symm
  · obtain ⟨t, -, hf, ht⟩ := Pipeline.Window.exists_flush_same_index (cfg0.win 9) rfl (0 : Fin 1)
    refine ⟨t, hf, ?_⟩
    have e1 : i = ((((cfg0.win 9).blk t).view.emb (i : S11264x1408.Idx)) : S11264x1408.Idx) := (emb_9 t i).symm
    rw [e1]
    exact View.emb_mem_set _ _

theorem emb_10 (t : Fin cfg0.N) (y : S11264x11.Idx) : (((cfg0.win 10).blk t).view.emb y : S11264x11.Idx) = y := by blk_ext [idx_10]

theorem arr_10 (G : S11264x11.Idx → Elt Ideal .f32) (h : ∀ t, (dats m 0 c).after 10 t = G) : (dats m 0 c).arrAt 10 cfg0.N = G := by
  refine (dats m 0 c).arrAt_eq_of_emb 10 _ (fun t hf y => ?_) (fun i => ?_)
  · rw [h]
    exact congrArg G (emb_10 t y).symm
  · obtain ⟨t, -, hf, ht⟩ := Pipeline.Window.exists_flush_same_index (cfg0.win 10) rfl (0 : Fin 1)
    refine ⟨t, hf, ?_⟩
    have e1 : i = ((((cfg0.win 10).blk t).view.emb (i : S11264x11.Idx)) : S11264x11.Idx) := (emb_10 t i).symm
    rw [e1]
    exact View.emb_mem_set _ _

end Cert.ReferenceIdeal.Own
end
-- ==== Proof.ReferenceIdeal.Arr.lean ====
module
public import proofs.«01_k».proof.Proof.ReferenceIdeal.Rows
public import proofs.«01_k».proof.Proof.ReferenceIdeal.Emb
@[expose] public section
set_option maxRecDepth 16384
set_option Elab.async false
noncomputable section

/- The reference's four arrays after the run: the mathematics of `Math`, row by row, for a table whose rows name the
   blocks of one expert. -/

namespace Cert.ReferenceIdeal.Own
open Cert.ReferenceIdeal Cert.ReferenceIdeal.Gen Cert.Own.Math
open Idealize.ShloMosaic
open Idealize.ShloMosaic.TcCoe

variable (m : (ℓ : Loc nD τ sig) → Buf (Elt Ideal) ℓ) (c : Dev nD) (hT : Rows (A6 m c))

variable (x0 : S88x128x2048.Idx → Elt Ideal .fp8e4m3) (x1 : S88x128x2048.Idx → Elt Ideal .f32) (x2 : S88x2048x1408.Idx → Elt Ideal .fp8e4m3) (x3 : S88x2048x1408.Idx → Elt Ideal .f32)
  (x4 : S88x1408x2048.Idx → Elt Ideal .fp8e4m3) (x5 : S88x1408x2048.Idx → Elt Ideal .f32) (x6 : S88x128x1.Idx → Elt Ideal .f32)

/- What the body leaves in each output, of the arrays it is given. -/
theorem out_7 (R : Fin 11264) (j : Fin 2048) : (out0_7 (F := Ideal) x0 x1 x2 x3 x4 x5 x6 : S11264x2048.Idx → Elt Ideal .fp8e4m3) (ix2 R j)
    = qcode (n := 2048) rfl (resB x0 x1 x2 x3 x4 x5 x6 ⟨R.val / 128, by have := R.isLt; omega⟩ ⟨R.val % 128, by omega⟩) j := by
  unfold_out out0_7
  frame_out
  exact out7_pay x0 x1 x2 x3 x4 x5 x6 R j

theorem out_8 (R : Fin 11264) (j : Fin 16) : (out0_8 (F := Ideal) x0 x1 x2 x3 x4 x5 x6 : S11264x16.Idx → Elt Ideal .f32) (ix2 R j)
    = qscale (n := 2048) (m := 16) rfl (resB x0 x1 x2 x3 x4 x5 x6 ⟨R.val / 128, by have := R.isLt; omega⟩ ⟨R.val % 128, by omega⟩) j := by
  unfold_out out0_8
  frame_out
  exact out8_pay x0 x1 x2 x3 x4 x5 x6 R j

theorem out_9 (R : Fin 11264) (j : Fin 1408) : (out0_9 (F := Ideal) x0 x1 x2 x3 x4 x5 x6 : S11264x1408.Idx → Elt Ideal .fp8e4m3) (ix2 R j)
    = qcode (n := 1408) rfl (hidB x0 x1 x2 x3 ⟨R.val / 128, by have := R.isLt; omega⟩ ⟨R.val % 128, by omega⟩) j := by
  unfold_out out0_9
  frame_out
  exact out9_pay x0 x1 x2 x3 R j

theorem out_10 (R : Fin 11264) (j : Fin 11) : (out0_10 (F := Ideal) x0 x1 x2 x3 x4 x5 x6 : S11264x11.Idx → Elt Ideal .f32) (ix2 R j)
    = qscale (n := 1408) (m := 11) rfl (hidB x0 x1 x2 x3 ⟨R.val / 128, by have := R.isLt; omega⟩ ⟨R.val % 128, by omega⟩) j := by
  unfold_out out0_10
  frame_out
  exact out10_pay x0 x1 x2 x3 R j

theorem after_7 (t : Fin cfg0.N) : (dats m 0 c).after 7 t = (out0_7 (F := Ideal) (V m c main_v18) (V m c main_v21) (V m c main_v3) (V m c main_v9) (V m c main_v12) (V m c main_v17) (V m c main_v22) : S11264x2048.Idx → Elt Ideal .fp8e4m3) := by
  rw [after0_7, blk_0, blk_1, blk_2, blk_3, blk_4, blk_5, blk_6]

include hT in
theorem outs_7 (R : Fin 11264) (j : Fin 2048) : (out0_7 (F := Ideal) (V m c main_v18) (V m c main_v21) (V m c main_v3) (V m c main_v9) (V m c main_v12) (V m c main_v17) (V m c main_v22) : S11264x2048.Idx → Elt Ideal .fp8e4m3) (ix2 R j) = yCodes (A0 m c) (A1 m c) (A2 m c) (A3 m c) (A4 m c) (A5 m c) (A6 m c) (A7 m c) (ix2 R j) := by
  refine (out_7 _ _ _ _ _ _ _ R j).trans ?_
  rw [res_eq m c hT R]
  rfl

include hT in
/-- The codes of the result after the run. -/
theorem final_7 : (dats m 0 c).arrAt 7 cfg0.N = (yCodes (A0 m c) (A1 m c) (A2 m c) (A3 m c) (A4 m c) (A5 m c) (A6 m c) (A7 m c) : S11264x2048.Idx → Elt Ideal .fp8e4m3) := by
  refine arr_7 m c _ fun t => (after_7 m c t).trans (funext fun y => ?_)
  obtain ⟨R, j, rfl⟩ : ∃ (R : Fin 11264) (j : Fin 2048), y = (ix2 R j : S11264x2048.Idx) := ⟨y 0, y 1, eq_ix2 y⟩
  exact outs_7 m c hT R j

theorem after_8 (t : Fin cfg0.N) : (dats m 0 c).after 8 t = (out0_8 (F := Ideal) (V m c main_v18) (V m c main_v21) (V m c main_v3) (V m c main_v9) (V m c main_v12) (V m c main_v17) (V m c main_v22) : S11264x16.Idx → Elt Ideal .f32) := by
  rw [after0_8, blk_0, blk_1, blk_2, blk_3, blk_4, blk_5, blk_6]

include hT in
theorem outs_8 (R : Fin 11264) (j : Fin 16) : (out0_8 (F := Ideal) (V m c main_v18) (V m c main_v21) (V m c main_v3) (V m c main_v9) (V m c main_v12) (V m c main_v17) (V m c main_v22) : S11264x16.Idx → Elt Ideal .f32) (ix2 R j) = yScales (A0 m c) (A1 m c) (A2 m c) (A3 m c) (A4 m c) (A5 m c) (A6 m c) (A7 m c) (ix2 R j) := by
  refine (out_8 _ _ _ _ _ _ _ R j).trans ?_
  rw [res_eq m c hT R]
  rfl

include hT in
/-- The scales of the result after the run. -/
theorem final_8 : (dats m 0 c).arrAt 8 cfg0.N = (yScales (A0 m c) (A1 m c) (A2 m c) (A3 m c) (A4 m c) (A5 m c) (A6 m c) (A7 m c) : S11264x16.Idx → Elt Ideal .f32) := by
  refine arr_8 m c _ fun t => (after_8 m c t).trans (funext fun y => ?_)
  obtain ⟨R, j, rfl⟩ : ∃ (R : Fin 11264) (j : Fin 16), y = (ix2 R j : S11264x16.Idx) := ⟨y 0, y 1, eq_ix2 y⟩
  exact outs_8 m c hT R j

theorem after_9 (t : Fin cfg0.N) : (dats m 0 c).after 9 t = (out0_9 (F := Ideal) (V m c main_v18) (V m c main_v21) (V m c main_v3) (V m c main_v9) (V m c main_v12) (V m c main_v17) (V m c main_v22) : S11264x1408.Idx → Elt Ideal .fp8e4m3) := by
  rw [after0_9, blk_0, blk_1, blk_2, blk_3, blk_4, blk_5, blk_6]

include hT in
theorem outs_9 (R : Fin 11264) (j : Fin 1408) : (out0_9 (F := Ideal) (V m c main_v18) (V m c main_v21) (V m c main_v3) (V m c main_v9) (V m c main_v12) (V m c main_v17) (V m c main_v22) : S11264x1408.Idx → Elt Ideal .fp8e4m3) (ix2 R j) = hCodes (A0 m c) (A1 m c) (A2 m c) (A3 m c) (A6 m c) (ix2 R j) := by
  refine (out_9 _ _ _ _ _ _ _ R j).trans ?_
  rw [hid_eq m c hT R]
  rfl

include hT in
/-- The codes of the hidden layer after the run. -/
theorem final_9 : (dats m 0 c).arrAt 9 cfg0.N = (hCodes (A0 m c) (A1 m c) (A2 m c) (A3 m c) (A6 m c) : S11264x1408.Idx → Elt Ideal .fp8e4m3) := by
  refine arr_9 m c _ fun t => (after_9 m c t).trans (funext fun y => ?_)
  obtain ⟨R, j, rfl⟩ : ∃ (R : Fin 11264) (j : Fin 1408), y = (ix2 R j : S11264x1408.Idx) := ⟨y 0, y 1, eq_ix2 y⟩
  exact outs_9 m c hT R j

theorem after_10 (t : Fin cfg0.N) : (dats m 0 c).after 10 t = (out0_10 (F := Ideal) (V m c main_v18) (V m c main_v21) (V m c main_v3) (V m c main_v9) (V m c main_v12) (V m c main_v17) (V m c main_v22) : S11264x11.Idx → Elt Ideal .f32) := by
  rw [after0_10, blk_0, blk_1, blk_2, blk_3, blk_4, blk_5, blk_6]

include hT in
theorem outs_10 (R : Fin 11264) (j : Fin 11) : (out0_10 (F := Ideal) (V m c main_v18) (V m c main_v21) (V m c main_v3) (V m c main_v9) (V m c main_v12) (V m c main_v17) (V m c main_v22) : S11264x11.Idx → Elt Ideal .f32) (ix2 R j) = hScales (A0 m c) (A1 m c) (A2 m c) (A3 m c) (A6 m c) (ix2 R j) := by
  refine (out_10 _ _ _ _ _ _ _ R j).trans ?_
  rw [hid_eq m c hT R]
  rfl

include hT in
/-- The scales of the hidden layer after the run. -/
theorem final_10 : (dats m 0 c).arrAt 10 cfg0.N = (hScales (A0 m c) (A1 m c) (A2 m c) (A3 m c) (A6 m c) : S11264x11.Idx → Elt Ideal .f32) := by
  refine arr_10 m c _ fun t => (after_10 m c t).trans (funext fun y => ?_)
  obtain ⟨R, j, rfl⟩ : ∃ (R : Fin 11264) (j : Fin 11), y = (ix2 R j : S11264x11.Idx) := ⟨y 0, y 1, eq_ix2 y⟩
  exact outs_10 m c hT R j

end Cert.ReferenceIdeal.Own
end
-- ==== Proof.Claims.lean ====
module

public import proofs.«01_k».proof.Proof.Frames
public import proofs.«01_k».proof.Proof.PreRows
public import proofs.«01_k».proof.Proof.KernelIdeal.Arr
public import proofs.«01_k».proof.Proof.ReferenceIdeal.Arr

@[expose] public section

noncomputable section

/- The value claim: under the precondition both programs leave the arrays of `Math` in their four results. -/

namespace Cert.Own

open Idealize.ShloMosaic Idealize.SL.Sem Idealize.ShloMosaic.TcCoe Cert.Own.Math

/-- Under the precondition every row of the kernel's table starts at a word below 704. -/
theorem first_KernelIdeal (m : (ℓ : Loc KernelIdeal.nD KernelIdeal.τ KernelIdeal.sig) → Buf (Elt Ideal) ℓ) (h : Pre_KernelIdeal m)
    (c : Dev KernelIdeal.nD) (r : Fin 88) : (KernelIdeal.Own.A6 m c (ValueIdx.ix2 r 0)).toNat < 704 :=
  Pre.first_lt _ _ _ _ _ _ _ _ (h c) r

/-- Under the precondition every row of the kernel's table names the blocks of one expert. -/
theorem rows_KernelIdeal (m : (ℓ : Loc KernelIdeal.nD KernelIdeal.τ KernelIdeal.sig) → Buf (Elt Ideal) ℓ) (h : Pre_KernelIdeal m)
    (c : Dev KernelIdeal.nD) : ReferenceIdeal.Own.Rows (KernelIdeal.Own.A6 m c) := fun r =>
  ⟨first_KernelIdeal m h c r, (Pre.row_eq _ _ _ _ _ _ _ _ (h c) r).1, (Pre.row_eq _ _ _ _ _ _ _ _ (h c) r).2⟩

theorem algebraic : algebraic_KernelIdeal_ReferenceIdeal := by
  intro m g m' g' hpre hagree
  have hok := ok_KernelIdeal m hpre
  have hlt := first_KernelIdeal m hpre
  refine ⟨fun c => yCodes (KernelIdeal.Own.A0 m c) (KernelIdeal.Own.A1 m c) (KernelIdeal.Own.A2 m c) (KernelIdeal.Own.A3 m c) (KernelIdeal.Own.A4 m c) (KernelIdeal.Own.A5 m c) (KernelIdeal.Own.A6 m c) (KernelIdeal.Own.A7 m c),
    fun c => yScales (KernelIdeal.Own.A0 m c) (KernelIdeal.Own.A1 m c) (KernelIdeal.Own.A2 m c) (KernelIdeal.Own.A3 m c) (KernelIdeal.Own.A4 m c) (KernelIdeal.Own.A5 m c) (KernelIdeal.Own.A6 m c) (KernelIdeal.Own.A7 m c),
    fun c => hCodes (KernelIdeal.Own.A0 m c) (KernelIdeal.Own.A1 m c) (KernelIdeal.Own.A2 m c) (KernelIdeal.Own.A3 m c) (KernelIdeal.Own.A6 m c),
    fun c => hScales (KernelIdeal.Own.A0 m c) (KernelIdeal.Own.A1 m c) (KernelIdeal.Own.A2 m c) (KernelIdeal.Own.A3 m c) (KernelIdeal.Own.A6 m c), ?_, ?_⟩
  · refine (θ_run KernelIdeal.defs _ _).mono (fun r h c => ?_) (KernelIdeal.Own.run_main_quiescent m g hok)
    have ha := fun w : Fin (KernelIdeal.Own.cfgA m hok).W => (h.1 c).1 w
    exact ⟨(ha (7 : Fin 11)).trans (KernelIdeal.Own.final_7 m hok hlt c), (ha (8 : Fin 11)).trans (KernelIdeal.Own.final_8 m hok hlt c),
      (ha (9 : Fin 11)).trans (KernelIdeal.Own.final_9 m hok hlt c), (ha (10 : Fin 11)).trans (KernelIdeal.Own.final_10 m hok hlt c),
      KernelIdeal.Own.args_of_post m hok r h.1 c⟩
  · refine (θ_run ReferenceIdeal.defs _ _).mono (fun r h c => ?_) (θ_run_and (ReferenceIdeal.Gen.run_main m' g') (ReferenceIdeal.Gen.unchanged m' g'))
    have ha := fun w : Fin 11 => (h.1 c).1 w
    obtain ⟨e0, e1, e2, e3, e4, e5, e6, e7⟩ := hagree c
    have f0 : ReferenceIdeal.Own.A0 m' c = KernelIdeal.Own.A0 m c := e0
    have f1 : ReferenceIdeal.Own.A1 m' c = KernelIdeal.Own.A1 m c := e1
    have f2 : ReferenceIdeal.Own.A2 m' c = KernelIdeal.Own.A2 m c := e2
    have f3 : ReferenceIdeal.Own.A3 m' c = KernelIdeal.Own.A3 m c := e3
    have f4 : ReferenceIdeal.Own.A4 m' c = KernelIdeal.Own.A4 m c := e4
    have f5 : ReferenceIdeal.Own.A5 m' c = KernelIdeal.Own.A5 m c := e5
    have f6 : ReferenceIdeal.Own.A6 m' c = KernelIdeal.Own.A6 m c := e6
    have f7 : ReferenceIdeal.Own.A7 m' c = KernelIdeal.Own.A7 m c := e7
    have hT : ReferenceIdeal.Own.Rows (ReferenceIdeal.Own.A6 m' c) := by rw [f6]; exact rows_KernelIdeal m hpre c
    have g7 := ReferenceIdeal.Own.final_7 m' c hT
    have g8 := ReferenceIdeal.Own.final_8 m' c hT
    have g9 := ReferenceIdeal.Own.final_9 m' c hT
    have g10 := ReferenceIdeal.Own.final_10 m' c hT
    rw [f0, f1, f2, f3, f4, f5, f6, f7] at g7 g8
    rw [f0, f1, f2, f3, f6] at g9 g10
    exact ⟨(ha (7 : Fin 11)).trans g7, (ha (8 : Fin 11)).trans g8, (ha (9 : Fin 11)).trans g9, (ha (10 : Fin 11)).trans g10, h.2 c⟩

end Cert.Own
-- ==== Proof.lean ====
/- The proof of the certificate's claim: the frames of the three programs and the value claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pre.Gen.facts,
  Cert.Own.frame_Kernel, Cert.Own.frame_KernelIdeal, Cert.Own.frame_ReferenceIdeal, trivial, Cert.Own.algebraic⟩

end Cert.Proof

end
